-- ==== Defs.lean ====
def Pre_Kgla (m : (ℓ : Loc Cert.Kgla.nD Cert.Kgla.τ Cert.Kgla.sig) → Buf (Elt Bits) ℓ) : Prop :=
  True

def Pre_KglaIdeal (m : (ℓ : Loc Cert.KglaIdeal.nD Cert.KglaIdeal.τ Cert.KglaIdeal.sig) → Buf (Elt Ideal) ℓ) : Prop :=
  True

def Pre_KglaIdeal_finite [hPre_finite : Cert.Pre_finite.Facts] (m : (ℓ : Loc Cert.KglaIdeal.nD Cert.KglaIdeal.τ Cert.KglaIdeal.sig) → Buf (Elt Ideal) ℓ) : Prop :=
  ∀ c : Dev Cert.KglaIdeal.nD,
    (Cert.Pre_finite.fn (F := Ideal) (m ((c.tc : Thread Cert.KglaIdeal.nD Cert.KglaIdeal.τ).loc Cert.KglaIdeal.main_arg0)) (m ((c.tc : Thread Cert.KglaIdeal.nD Cert.KglaIdeal.τ).loc Cert.KglaIdeal.main_arg1)) (m ((c.tc : Thread Cert.KglaIdeal.nD Cert.KglaIdeal.τ).loc Cert.KglaIdeal.main_arg2)) (m ((c.tc : Thread Cert.KglaIdeal.nD Cert.KglaIdeal.τ).loc Cert.KglaIdeal.main_arg3)) (m ((c.tc : Thread Cert.KglaIdeal.nD Cert.KglaIdeal.τ).loc Cert.KglaIdeal.main_arg4))) = (fun _ => 1#1)

def Pre_RglaIdeal (m : (ℓ : Loc Cert.RglaIdeal.nD Cert.RglaIdeal.τ Cert.RglaIdeal.sig) → Buf (Elt Ideal) ℓ) : Prop :=
  True

def Pre_RglaIdeal_finite [hPre_finite : Cert.Pre_finite.Facts] (m : (ℓ : Loc Cert.RglaIdeal.nD Cert.RglaIdeal.τ Cert.RglaIdeal.sig) → Buf (Elt Ideal) ℓ) : Prop :=
  ∀ c : Dev Cert.RglaIdeal.nD,
    (Cert.Pre_finite.fn (F := Ideal) (m ((c.tc : Thread Cert.RglaIdeal.nD Cert.RglaIdeal.τ).loc Cert.RglaIdeal.main_arg0)) (m ((c.tc : Thread Cert.RglaIdeal.nD Cert.RglaIdeal.τ).loc Cert.RglaIdeal.main_arg1)) (m ((c.tc : Thread Cert.RglaIdeal.nD Cert.RglaIdeal.τ).loc Cert.RglaIdeal.main_arg2)) (m ((c.tc : Thread Cert.RglaIdeal.nD Cert.RglaIdeal.τ).loc Cert.RglaIdeal.main_arg3)) (m ((c.tc : Thread Cert.RglaIdeal.nD Cert.RglaIdeal.τ).loc Cert.RglaIdeal.main_arg4))) = (fun _ => 1#1)

def Pre_Kffn (m : (ℓ : Loc Cert.Kffn.nD Cert.Kffn.τ Cert.Kffn.sig) → Buf (Elt Bits) ℓ) : Prop :=
  True

def Pre_KffnIdeal (m : (ℓ : Loc Cert.KffnIdeal.nD Cert.KffnIdeal.τ Cert.KffnIdeal.sig) → Buf (Elt Ideal) ℓ) : Prop :=
  True

def Pre_RffnIdeal (m : (ℓ : Loc Cert.RffnIdeal.nD Cert.RffnIdeal.τ Cert.RffnIdeal.sig) → Buf (Elt Ideal) ℓ) : Prop :=
  True

def Pre_Kmerge (m : (ℓ : Loc Cert.Kmerge.nD Cert.Kmerge.τ Cert.Kmerge.sig) → Buf (Elt Bits) ℓ) : Prop :=
  True

def Pre_KmergeIdeal (m : (ℓ : Loc Cert.KmergeIdeal.nD Cert.KmergeIdeal.τ Cert.KmergeIdeal.sig) → Buf (Elt Ideal) ℓ) : Prop :=
  True

def Pre_RmergeIdeal (m : (ℓ : Loc Cert.RmergeIdeal.nD Cert.RmergeIdeal.τ Cert.RmergeIdeal.sig) → Buf (Elt Ideal) ℓ) : Prop :=
  True

def Pre_Kin (m : (ℓ : Loc Cert.Kin.nD Cert.Kin.τ Cert.Kin.sig) → Buf (Elt Bits) ℓ) : Prop :=
  True

def Pre_KinIdeal (m : (ℓ : Loc Cert.KinIdeal.nD Cert.KinIdeal.τ Cert.KinIdeal.sig) → Buf (Elt Ideal) ℓ) : Prop :=
  True

def Pre_RinIdeal (m : (ℓ : Loc Cert.RinIdeal.nD Cert.RinIdeal.τ Cert.RinIdeal.sig) → Buf (Elt Ideal) ℓ) : Prop :=
  True

def Pre_Kdown (m : (ℓ : Loc Cert.Kdown.nD Cert.Kdown.τ Cert.Kdown.sig) → Buf (Elt Bits) ℓ) : Prop :=
  True

def Pre_KdownIdeal (m : (ℓ : Loc Cert.KdownIdeal.nD Cert.KdownIdeal.τ Cert.KdownIdeal.sig) → Buf (Elt Ideal) ℓ) : Prop :=
  True

def Pre_RdownIdeal (m : (ℓ : Loc Cert.RdownIdeal.nD Cert.RdownIdeal.τ Cert.RdownIdeal.sig) → Buf (Elt Ideal) ℓ) : Prop :=
  True

def Pre_Kout (m : (ℓ : Loc Cert.Kout.nD Cert.Kout.τ Cert.Kout.sig) → Buf (Elt Bits) ℓ) : Prop :=
  True

def Pre_KoutIdeal (m : (ℓ : Loc Cert.KoutIdeal.nD Cert.KoutIdeal.τ Cert.KoutIdeal.sig) → Buf (Elt Ideal) ℓ) : Prop :=
  True

def Pre_RoutIdeal (m : (ℓ : Loc Cert.RoutIdeal.nD Cert.RoutIdeal.τ Cert.RoutIdeal.sig) → Buf (Elt Ideal) ℓ) : Prop :=
  True

def Pre_Kmoba (m : (ℓ : Loc Cert.Kmoba.nD Cert.Kmoba.τ Cert.Kmoba.sig) → Buf (Elt Bits) ℓ) : Prop :=
  True

def Pre_KmobaIdeal (m : (ℓ : Loc Cert.KmobaIdeal.nD Cert.KmobaIdeal.τ Cert.KmobaIdeal.sig) → Buf (Elt Ideal) ℓ) : Prop :=
  True

def Pre_Kconv (m : (ℓ : Loc Cert.Kconv.nD Cert.Kconv.τ Cert.Kconv.sig) → Buf (Elt Bits) ℓ) : Prop :=
  True

def Pre_KconvIdeal (m : (ℓ : Loc Cert.KconvIdeal.nD Cert.KconvIdeal.τ Cert.KconvIdeal.sig) → Buf (Elt Ideal) ℓ) : Prop :=
  True

def Pre_RconvIdeal (m : (ℓ : Loc Cert.RconvIdeal.nD Cert.RconvIdeal.τ Cert.RconvIdeal.sig) → Buf (Elt Ideal) ℓ) : Prop :=
  True

def Pre_Krank (m : (ℓ : Loc Cert.Krank.nD Cert.Krank.τ Cert.Krank.sig) → Buf (Elt Bits) ℓ) : Prop :=
  True

def Pre_KrankIdeal (m : (ℓ : Loc Cert.KrankIdeal.nD Cert.KrankIdeal.τ Cert.KrankIdeal.sig) → Buf (Elt Ideal) ℓ) : Prop :=
  True

def Pre_RrankIdeal (m : (ℓ : Loc Cert.RrankIdeal.nD Cert.RrankIdeal.τ Cert.RrankIdeal.sig) → Buf (Elt Ideal) ℓ) : Prop :=
  True

def Pre_Kmod (m : (ℓ : Loc Cert.Kmod.nD Cert.Kmod.τ Cert.Kmod.sig) → Buf (Elt Bits) ℓ) : Prop :=
  True

def Pre_KmodIdeal (m : (ℓ : Loc Cert.KmodIdeal.nD Cert.KmodIdeal.τ Cert.KmodIdeal.sig) → Buf (Elt Ideal) ℓ) : Prop :=
  True

def Pre_RmodIdeal (m : (ℓ : Loc Cert.RmodIdeal.nD Cert.RmodIdeal.τ Cert.RmodIdeal.sig) → Buf (Elt Ideal) ℓ) : Prop :=
  True

def Pre_Kada (m : (ℓ : Loc Cert.Kada.nD Cert.Kada.τ Cert.Kada.sig) → Buf (Elt Bits) ℓ) : Prop :=
  True

def Pre_KadaIdeal (m : (ℓ : Loc Cert.KadaIdeal.nD Cert.KadaIdeal.τ Cert.KadaIdeal.sig) → Buf (Elt Ideal) ℓ) : Prop :=
  True

def Pre_RadaIdeal (m : (ℓ : Loc Cert.RadaIdeal.nD Cert.RadaIdeal.τ Cert.RadaIdeal.sig) → Buf (Elt Ideal) ℓ) : Prop :=
  True

def Pre_Knorm (m : (ℓ : Loc Cert.Knorm.nD Cert.Knorm.τ Cert.Knorm.sig) → Buf (Elt Bits) ℓ) : Prop :=
  True

def Pre_KnormIdeal (m : (ℓ : Loc Cert.KnormIdeal.nD Cert.KnormIdeal.τ Cert.KnormIdeal.sig) → Buf (Elt Ideal) ℓ) : Prop :=
  True

def Pre_RnormIdeal (m : (ℓ : Loc Cert.RnormIdeal.nD Cert.RnormIdeal.τ Cert.RnormIdeal.sig) → Buf (Elt Ideal) ℓ) : Prop :=
  True

def quiescent_Kgla [hKgla : Cert.Kgla.Facts] : Prop :=
  ∀ (m : (ℓ : Loc Cert.Kgla.nD Cert.Kgla.τ Cert.Kgla.sig) → Buf (Elt Bits) ℓ) (g : Dev Cert.Kgla.nD → PrngReg), Pre_Kgla m →
    θ_run (Cert.Kgla.defs (F := Bits)) (onTc (τ := Cert.Kgla.τ) (Cert.Kgla.main (F := Bits))) ⟨m, fun _ => 0, g⟩ (fun r => (∀ c : Dev Cert.Kgla.nD,
      r.2.mem ((c.tc : Thread Cert.Kgla.nD Cert.Kgla.τ).loc Cert.Kgla.main_arg0) = m ((c.tc : Thread Cert.Kgla.nD Cert.Kgla.τ).loc Cert.Kgla.main_arg0)
      ∧ r.2.mem ((c.tc : Thread Cert.Kgla.nD Cert.Kgla.τ).loc Cert.Kgla.main_arg1) = m ((c.tc : Thread Cert.Kgla.nD Cert.Kgla.τ).loc Cert.Kgla.main_arg1)
      ∧ r.2.mem ((c.tc : Thread Cert.Kgla.nD Cert.Kgla.τ).loc Cert.Kgla.main_arg2) = m ((c.tc : Thread Cert.Kgla.nD Cert.Kgla.τ).loc Cert.Kgla.main_arg2)
      ∧ r.2.mem ((c.tc : Thread Cert.Kgla.nD Cert.Kgla.τ).loc Cert.Kgla.main_arg3) = m ((c.tc : Thread Cert.Kgla.nD Cert.Kgla.τ).loc Cert.Kgla.main_arg3)
      ∧ r.2.mem ((c.tc : Thread Cert.Kgla.nD Cert.Kgla.τ).loc Cert.Kgla.main_arg4) = m ((c.tc : Thread Cert.Kgla.nD Cert.Kgla.τ).loc Cert.Kgla.main_arg4))
      ∧ r.2.sem = fun _ => 0)

def quiescent_KglaIdeal [hKglaIdeal : Cert.KglaIdeal.Facts] : Prop :=
  ∀ (m : (ℓ : Loc Cert.KglaIdeal.nD Cert.KglaIdeal.τ Cert.KglaIdeal.sig) → Buf (Elt Ideal) ℓ) (g : Dev Cert.KglaIdeal.nD → PrngReg), Pre_KglaIdeal m →
    θ_run (Cert.KglaIdeal.defs (F := Ideal)) (onTc (τ := Cert.KglaIdeal.τ) (Cert.KglaIdeal.main (F := Ideal))) ⟨m, fun _ => 0, g⟩ (fun r => (∀ c : Dev Cert.KglaIdeal.nD,
      r.2.mem ((c.tc : Thread Cert.KglaIdeal.nD Cert.KglaIdeal.τ).loc Cert.KglaIdeal.main_arg0) = m ((c.tc : Thread Cert.KglaIdeal.nD Cert.KglaIdeal.τ).loc Cert.KglaIdeal.main_arg0)
      ∧ r.2.mem ((c.tc : Thread Cert.KglaIdeal.nD Cert.KglaIdeal.τ).loc Cert.KglaIdeal.main_arg1) = m ((c.tc : Thread Cert.KglaIdeal.nD Cert.KglaIdeal.τ).loc Cert.KglaIdeal.main_arg1)
      ∧ r.2.mem ((c.tc : Thread Cert.KglaIdeal.nD Cert.KglaIdeal.τ).loc Cert.KglaIdeal.main_arg2) = m ((c.tc : Thread Cert.KglaIdeal.nD Cert.KglaIdeal.τ).loc Cert.KglaIdeal.main_arg2)
      ∧ r.2.mem ((c.tc : Thread Cert.KglaIdeal.nD Cert.KglaIdeal.τ).loc Cert.KglaIdeal.main_arg3) = m ((c.tc : Thread Cert.KglaIdeal.nD Cert.KglaIdeal.τ).loc Cert.KglaIdeal.main_arg3)
      ∧ r.2.mem ((c.tc : Thread Cert.KglaIdeal.nD Cert.KglaIdeal.τ).loc Cert.KglaIdeal.main_arg4) = m ((c.tc : Thread Cert.KglaIdeal.nD Cert.KglaIdeal.τ).loc Cert.KglaIdeal.main_arg4))
      ∧ r.2.sem = fun _ => 0)

def quiescent_KglaIdeal_pre_finite [hKglaIdeal : Cert.KglaIdeal.Facts] [hPre_finite : Cert.Pre_finite.Facts] : Prop :=
  ∀ (m : (ℓ : Loc Cert.KglaIdeal.nD Cert.KglaIdeal.τ Cert.KglaIdeal.sig) → Buf (Elt Ideal) ℓ) (g : Dev Cert.KglaIdeal.nD → PrngReg), Pre_KglaIdeal_finite m →
    θ_run (Cert.KglaIdeal.defs (F := Ideal)) (onTc (τ := Cert.KglaIdeal.τ) (Cert.KglaIdeal.main (F := Ideal))) ⟨m, fun _ => 0, g⟩ (fun r => (∀ c : Dev Cert.KglaIdeal.nD,
      r.2.mem ((c.tc : Thread Cert.KglaIdeal.nD Cert.KglaIdeal.τ).loc Cert.KglaIdeal.main_arg0) = m ((c.tc : Thread Cert.KglaIdeal.nD Cert.KglaIdeal.τ).loc Cert.KglaIdeal.main_arg0)
      ∧ r.2.mem ((c.tc : Thread Cert.KglaIdeal.nD Cert.KglaIdeal.τ).loc Cert.KglaIdeal.main_arg1) = m ((c.tc : Thread Cert.KglaIdeal.nD Cert.KglaIdeal.τ).loc Cert.KglaIdeal.main_arg1)
      ∧ r.2.mem ((c.tc : Thread Cert.KglaIdeal.nD Cert.KglaIdeal.τ).loc Cert.KglaIdeal.main_arg2) = m ((c.tc : Thread Cert.KglaIdeal.nD Cert.KglaIdeal.τ).loc Cert.KglaIdeal.main_arg2)
      ∧ r.2.mem ((c.tc : Thread Cert.KglaIdeal.nD Cert.KglaIdeal.τ).loc Cert.KglaIdeal.main_arg3) = m ((c.tc : Thread Cert.KglaIdeal.nD Cert.KglaIdeal.τ).loc Cert.KglaIdeal.main_arg3)
      ∧ r.2.mem ((c.tc : Thread Cert.KglaIdeal.nD Cert.KglaIdeal.τ).loc Cert.KglaIdeal.main_arg4) = m ((c.tc : Thread Cert.KglaIdeal.nD Cert.KglaIdeal.τ).loc Cert.KglaIdeal.main_arg4))
      ∧ r.2.sem = fun _ => 0)

def quiescent_RglaIdeal [hRglaIdeal : Cert.RglaIdeal.Facts] : Prop :=
  ∀ (m : (ℓ : Loc Cert.RglaIdeal.nD Cert.RglaIdeal.τ Cert.RglaIdeal.sig) → Buf (Elt Ideal) ℓ) (g : Dev Cert.RglaIdeal.nD → PrngReg), Pre_RglaIdeal m →
    θ_run (Cert.RglaIdeal.defs (F := Ideal)) (onTc (τ := Cert.RglaIdeal.τ) (Cert.RglaIdeal.main (F := Ideal))) ⟨m, fun _ => 0, g⟩ (fun r => (∀ c : Dev Cert.RglaIdeal.nD,
      r.2.mem ((c.tc : Thread Cert.RglaIdeal.nD Cert.RglaIdeal.τ).loc Cert.RglaIdeal.main_arg0) = m ((c.tc : Thread Cert.RglaIdeal.nD Cert.RglaIdeal.τ).loc Cert.RglaIdeal.main_arg0)
      ∧ r.2.mem ((c.tc : Thread Cert.RglaIdeal.nD Cert.RglaIdeal.τ).loc Cert.RglaIdeal.main_arg1) = m ((c.tc : Thread Cert.RglaIdeal.nD Cert.RglaIdeal.τ).loc Cert.RglaIdeal.main_arg1)
      ∧ r.2.mem ((c.tc : Thread Cert.RglaIdeal.nD Cert.RglaIdeal.τ).loc Cert.RglaIdeal.main_arg2) = m ((c.tc : Thread Cert.RglaIdeal.nD Cert.RglaIdeal.τ).loc Cert.RglaIdeal.main_arg2)
      ∧ r.2.mem ((c.tc : Thread Cert.RglaIdeal.nD Cert.RglaIdeal.τ).loc Cert.RglaIdeal.main_arg3) = m ((c.tc : Thread Cert.RglaIdeal.nD Cert.RglaIdeal.τ).loc Cert.RglaIdeal.main_arg3)
      ∧ r.2.mem ((c.tc : Thread Cert.RglaIdeal.nD Cert.RglaIdeal.τ).loc Cert.RglaIdeal.main_arg4) = m ((c.tc : Thread Cert.RglaIdeal.nD Cert.RglaIdeal.τ).loc Cert.RglaIdeal.main_arg4))
      ∧ r.2.sem = fun _ => 0)

def quiescent_RglaIdeal_pre_finite [hRglaIdeal : Cert.RglaIdeal.Facts] [hPre_finite : Cert.Pre_finite.Facts] : Prop :=
  ∀ (m : (ℓ : Loc Cert.RglaIdeal.nD Cert.RglaIdeal.τ Cert.RglaIdeal.sig) → Buf (Elt Ideal) ℓ) (g : Dev Cert.RglaIdeal.nD → PrngReg), Pre_RglaIdeal_finite m →
    θ_run (Cert.RglaIdeal.defs (F := Ideal)) (onTc (τ := Cert.RglaIdeal.τ) (Cert.RglaIdeal.main (F := Ideal))) ⟨m, fun _ => 0, g⟩ (fun r => (∀ c : Dev Cert.RglaIdeal.nD,
      r.2.mem ((c.tc : Thread Cert.RglaIdeal.nD Cert.RglaIdeal.τ).loc Cert.RglaIdeal.main_arg0) = m ((c.tc : Thread Cert.RglaIdeal.nD Cert.RglaIdeal.τ).loc Cert.RglaIdeal.main_arg0)
      ∧ r.2.mem ((c.tc : Thread Cert.RglaIdeal.nD Cert.RglaIdeal.τ).loc Cert.RglaIdeal.main_arg1) = m ((c.tc : Thread Cert.RglaIdeal.nD Cert.RglaIdeal.τ).loc Cert.RglaIdeal.main_arg1)
      ∧ r.2.mem ((c.tc : Thread Cert.RglaIdeal.nD Cert.RglaIdeal.τ).loc Cert.RglaIdeal.main_arg2) = m ((c.tc : Thread Cert.RglaIdeal.nD Cert.RglaIdeal.τ).loc Cert.RglaIdeal.main_arg2)
      ∧ r.2.mem ((c.tc : Thread Cert.RglaIdeal.nD Cert.RglaIdeal.τ).loc Cert.RglaIdeal.main_arg3) = m ((c.tc : Thread Cert.RglaIdeal.nD Cert.RglaIdeal.τ).loc Cert.RglaIdeal.main_arg3)
      ∧ r.2.mem ((c.tc : Thread Cert.RglaIdeal.nD Cert.RglaIdeal.τ).loc Cert.RglaIdeal.main_arg4) = m ((c.tc : Thread Cert.RglaIdeal.nD Cert.RglaIdeal.τ).loc Cert.RglaIdeal.main_arg4))
      ∧ r.2.sem = fun _ => 0)

def quiescent_Kffn [hKffn : Cert.Kffn.Facts] : Prop :=
  ∀ (m : (ℓ : Loc Cert.Kffn.nD Cert.Kffn.τ Cert.Kffn.sig) → Buf (Elt Bits) ℓ) (g : Dev Cert.Kffn.nD → PrngReg), Pre_Kffn m →
    θ_run (Cert.Kffn.defs (F := Bits)) (onTc (τ := Cert.Kffn.τ) (Cert.Kffn.main (F := Bits))) ⟨m, fun _ => 0, g⟩ (fun r => (∀ c : Dev Cert.Kffn.nD,
      r.2.mem ((c.tc : Thread Cert.Kffn.nD Cert.Kffn.τ).loc Cert.Kffn.main_arg0) = m ((c.tc : Thread Cert.Kffn.nD Cert.Kffn.τ).loc Cert.Kffn.main_arg0)
      ∧ r.2.mem ((c.tc : Thread Cert.Kffn.nD Cert.Kffn.τ).loc Cert.Kffn.main_arg1) = m ((c.tc : Thread Cert.Kffn.nD Cert.Kffn.τ).loc Cert.Kffn.main_arg1)
      ∧ r.2.mem ((c.tc : Thread Cert.Kffn.nD Cert.Kffn.τ).loc Cert.Kffn.main_arg2) = m ((c.tc : Thread Cert.Kffn.nD Cert.Kffn.τ).loc Cert.Kffn.main_arg2)
      ∧ r.2.mem ((c.tc : Thread Cert.Kffn.nD Cert.Kffn.τ).loc Cert.Kffn.main_arg3) = m ((c.tc : Thread Cert.Kffn.nD Cert.Kffn.τ).loc Cert.Kffn.main_arg3))
      ∧ r.2.sem = fun _ => 0)

def quiescent_KffnIdeal [hKffnIdeal : Cert.KffnIdeal.Facts] : Prop :=
  ∀ (m : (ℓ : Loc Cert.KffnIdeal.nD Cert.KffnIdeal.τ Cert.KffnIdeal.sig) → Buf (Elt Ideal) ℓ) (g : Dev Cert.KffnIdeal.nD → PrngReg), Pre_KffnIdeal m →
    θ_run (Cert.KffnIdeal.defs (F := Ideal)) (onTc (τ := Cert.KffnIdeal.τ) (Cert.KffnIdeal.main (F := Ideal))) ⟨m, fun _ => 0, g⟩ (fun r => (∀ c : Dev Cert.KffnIdeal.nD,
      r.2.mem ((c.tc : Thread Cert.KffnIdeal.nD Cert.KffnIdeal.τ).loc Cert.KffnIdeal.main_arg0) = m ((c.tc : Thread Cert.KffnIdeal.nD Cert.KffnIdeal.τ).loc Cert.KffnIdeal.main_arg0)
      ∧ r.2.mem ((c.tc : Thread Cert.KffnIdeal.nD Cert.KffnIdeal.τ).loc Cert.KffnIdeal.main_arg1) = m ((c.tc : Thread Cert.KffnIdeal.nD Cert.KffnIdeal.τ).loc Cert.KffnIdeal.main_arg1)
      ∧ r.2.mem ((c.tc : Thread Cert.KffnIdeal.nD Cert.KffnIdeal.τ).loc Cert.KffnIdeal.main_arg2) = m ((c.tc : Thread Cert.KffnIdeal.nD Cert.KffnIdeal.τ).loc Cert.KffnIdeal.main_arg2)
      ∧ r.2.mem ((c.tc : Thread Cert.KffnIdeal.nD Cert.KffnIdeal.τ).loc Cert.KffnIdeal.main_arg3) = m ((c.tc : Thread Cert.KffnIdeal.nD Cert.KffnIdeal.τ).loc Cert.KffnIdeal.main_arg3))
      ∧ r.2.sem = fun _ => 0)

def quiescent_RffnIdeal [hRffnIdeal : Cert.RffnIdeal.Facts] : Prop :=
  ∀ (m : (ℓ : Loc Cert.RffnIdeal.nD Cert.RffnIdeal.τ Cert.RffnIdeal.sig) → Buf (Elt Ideal) ℓ) (g : Dev Cert.RffnIdeal.nD → PrngReg), Pre_RffnIdeal m →
    θ_run (Cert.RffnIdeal.defs (F := Ideal)) (onTc (τ := Cert.RffnIdeal.τ) (Cert.RffnIdeal.main (F := Ideal))) ⟨m, fun _ => 0, g⟩ (fun r => (∀ c : Dev Cert.RffnIdeal.nD,
      r.2.mem ((c.tc : Thread Cert.RffnIdeal.nD Cert.RffnIdeal.τ).loc Cert.RffnIdeal.main_arg0) = m ((c.tc : Thread Cert.RffnIdeal.nD Cert.RffnIdeal.τ).loc Cert.RffnIdeal.main_arg0)
      ∧ r.2.mem ((c.tc : Thread Cert.RffnIdeal.nD Cert.RffnIdeal.τ).loc Cert.RffnIdeal.main_arg1) = m ((c.tc : Thread Cert.RffnIdeal.nD Cert.RffnIdeal.τ).loc Cert.RffnIdeal.main_arg1)
      ∧ r.2.mem ((c.tc : Thread Cert.RffnIdeal.nD Cert.RffnIdeal.τ).loc Cert.RffnIdeal.main_arg2) = m ((c.tc : Thread Cert.RffnIdeal.nD Cert.RffnIdeal.τ).loc Cert.RffnIdeal.main_arg2)
      ∧ r.2.mem ((c.tc : Thread Cert.RffnIdeal.nD Cert.RffnIdeal.τ).loc Cert.RffnIdeal.main_arg3) = m ((c.tc : Thread Cert.RffnIdeal.nD Cert.RffnIdeal.τ).loc Cert.RffnIdeal.main_arg3))
      ∧ r.2.sem = fun _ => 0)

def quiescent_Kmerge [hKmerge : Cert.Kmerge.Facts] : Prop :=
  ∀ (m : (ℓ : Loc Cert.Kmerge.nD Cert.Kmerge.τ Cert.Kmerge.sig) → Buf (Elt Bits) ℓ) (g : Dev Cert.Kmerge.nD → PrngReg), Pre_Kmerge m →
    θ_run (Cert.Kmerge.defs (F := Bits)) (onTc (τ := Cert.Kmerge.τ) (Cert.Kmerge.main (F := Bits))) ⟨m, fun _ => 0, g⟩ (fun r => (∀ c : Dev Cert.Kmerge.nD,
      r.2.mem ((c.tc : Thread Cert.Kmerge.nD Cert.Kmerge.τ).loc Cert.Kmerge.main_arg0) = m ((c.tc : Thread Cert.Kmerge.nD Cert.Kmerge.τ).loc Cert.Kmerge.main_arg0)
      ∧ r.2.mem ((c.tc : Thread Cert.Kmerge.nD Cert.Kmerge.τ).loc Cert.Kmerge.main_arg1) = m ((c.tc : Thread Cert.Kmerge.nD Cert.Kmerge.τ).loc Cert.Kmerge.main_arg1)
      ∧ r.2.mem ((c.tc : Thread Cert.Kmerge.nD Cert.Kmerge.τ).loc Cert.Kmerge.main_arg2) = m ((c.tc : Thread Cert.Kmerge.nD Cert.Kmerge.τ).loc Cert.Kmerge.main_arg2)
      ∧ r.2.mem ((c.tc : Thread Cert.Kmerge.nD Cert.Kmerge.τ).loc Cert.Kmerge.main_arg3) = m ((c.tc : Thread Cert.Kmerge.nD Cert.Kmerge.τ).loc Cert.Kmerge.main_arg3)
      ∧ r.2.mem ((c.tc : Thread Cert.Kmerge.nD Cert.Kmerge.τ).loc Cert.Kmerge.main_arg4) = m ((c.tc : Thread Cert.Kmerge.nD Cert.Kmerge.τ).loc Cert.Kmerge.main_arg4)
      ∧ r.2.mem ((c.tc : Thread Cert.Kmerge.nD Cert.Kmerge.τ).loc Cert.Kmerge.main_arg5) = m ((c.tc : Thread Cert.Kmerge.nD Cert.Kmerge.τ).loc Cert.Kmerge.main_arg5)
      ∧ r.2.mem ((c.tc : Thread Cert.Kmerge.nD Cert.Kmerge.τ).loc Cert.Kmerge.main_arg6) = m ((c.tc : Thread Cert.Kmerge.nD Cert.Kmerge.τ).loc Cert.Kmerge.main_arg6)
      ∧ r.2.mem ((c.tc : Thread Cert.Kmerge.nD Cert.Kmerge.τ).loc Cert.Kmerge.main_arg7) = m ((c.tc : Thread Cert.Kmerge.nD Cert.Kmerge.τ).loc Cert.Kmerge.main_arg7))
      ∧ r.2.sem = fun _ => 0)

def quiescent_KmergeIdeal [hKmergeIdeal : Cert.KmergeIdeal.Facts] : Prop :=
  ∀ (m : (ℓ : Loc Cert.KmergeIdeal.nD Cert.KmergeIdeal.τ Cert.KmergeIdeal.sig) → Buf (Elt Ideal) ℓ) (g : Dev Cert.KmergeIdeal.nD → PrngReg), Pre_KmergeIdeal m →
    θ_run (Cert.KmergeIdeal.defs (F := Ideal)) (onTc (τ := Cert.KmergeIdeal.τ) (Cert.KmergeIdeal.main (F := Ideal))) ⟨m, fun _ => 0, g⟩ (fun r => (∀ c : Dev Cert.KmergeIdeal.nD,
      r.2.mem ((c.tc : Thread Cert.KmergeIdeal.nD Cert.KmergeIdeal.τ).loc Cert.KmergeIdeal.main_arg0) = m ((c.tc : Thread Cert.KmergeIdeal.nD Cert.KmergeIdeal.τ).loc Cert.KmergeIdeal.main_arg0)
      ∧ r.2.mem ((c.tc : Thread Cert.KmergeIdeal.nD Cert.KmergeIdeal.τ).loc Cert.KmergeIdeal.main_arg1) = m ((c.tc : Thread Cert.KmergeIdeal.nD Cert.KmergeIdeal.τ).loc Cert.KmergeIdeal.main_arg1)
      ∧ r.2.mem ((c.tc : Thread Cert.KmergeIdeal.nD Cert.KmergeIdeal.τ).loc Cert.KmergeIdeal.main_arg2) = m ((c.tc : Thread Cert.KmergeIdeal.nD Cert.KmergeIdeal.τ).loc Cert.KmergeIdeal.main_arg2)
      ∧ r.2.mem ((c.tc : Thread Cert.KmergeIdeal.nD Cert.KmergeIdeal.τ).loc Cert.KmergeIdeal.main_arg3) = m ((c.tc : Thread Cert.KmergeIdeal.nD Cert.KmergeIdeal.τ).loc Cert.KmergeIdeal.main_arg3)
      ∧ r.2.mem ((c.tc : Thread Cert.KmergeIdeal.nD Cert.KmergeIdeal.τ).loc Cert.KmergeIdeal.main_arg4) = m ((c.tc : Thread Cert.KmergeIdeal.nD Cert.KmergeIdeal.τ).loc Cert.KmergeIdeal.main_arg4)
      ∧ r.2.mem ((c.tc : Thread Cert.KmergeIdeal.nD Cert.KmergeIdeal.τ).loc Cert.KmergeIdeal.main_arg5) = m ((c.tc : Thread Cert.KmergeIdeal.nD Cert.KmergeIdeal.τ).loc Cert.KmergeIdeal.main_arg5)
      ∧ r.2.mem ((c.tc : Thread Cert.KmergeIdeal.nD Cert.KmergeIdeal.τ).loc Cert.KmergeIdeal.main_arg6) = m ((c.tc : Thread Cert.KmergeIdeal.nD Cert.KmergeIdeal.τ).loc Cert.KmergeIdeal.main_arg6)
      ∧ r.2.mem ((c.tc : Thread Cert.KmergeIdeal.nD Cert.KmergeIdeal.τ).loc Cert.KmergeIdeal.main_arg7) = m ((c.tc : Thread Cert.KmergeIdeal.nD Cert.KmergeIdeal.τ).loc Cert.KmergeIdeal.main_arg7))
      ∧ r.2.sem = fun _ => 0)

def quiescent_RmergeIdeal [hRmergeIdeal : Cert.RmergeIdeal.Facts] : Prop :=
  ∀ (m : (ℓ : Loc Cert.RmergeIdeal.nD Cert.RmergeIdeal.τ Cert.RmergeIdeal.sig) → Buf (Elt Ideal) ℓ) (g : Dev Cert.RmergeIdeal.nD → PrngReg), Pre_RmergeIdeal m →
    θ_run (Cert.RmergeIdeal.defs (F := Ideal)) (onTc (τ := Cert.RmergeIdeal.τ) (Cert.RmergeIdeal.main (F := Ideal))) ⟨m, fun _ => 0, g⟩ (fun r => (∀ c : Dev Cert.RmergeIdeal.nD,
      r.2.mem ((c.tc : Thread Cert.RmergeIdeal.nD Cert.RmergeIdeal.τ).loc Cert.RmergeIdeal.main_arg0) = m ((c.tc : Thread Cert.RmergeIdeal.nD Cert.RmergeIdeal.τ).loc Cert.RmergeIdeal.main_arg0)
      ∧ r.2.mem ((c.tc : Thread Cert.RmergeIdeal.nD Cert.RmergeIdeal.τ).loc Cert.RmergeIdeal.main_arg1) = m ((c.tc : Thread Cert.RmergeIdeal.nD Cert.RmergeIdeal.τ).loc Cert.RmergeIdeal.main_arg1)
      ∧ r.2.mem ((c.tc : Thread Cert.RmergeIdeal.nD Cert.RmergeIdeal.τ).loc Cert.RmergeIdeal.main_arg2) = m ((c.tc : Thread Cert.RmergeIdeal.nD Cert.RmergeIdeal.τ).loc Cert.RmergeIdeal.main_arg2)
      ∧ r.2.mem ((c.tc : Thread Cert.RmergeIdeal.nD Cert.RmergeIdeal.τ).loc Cert.RmergeIdeal.main_arg3) = m ((c.tc : Thread Cert.RmergeIdeal.nD Cert.RmergeIdeal.τ).loc Cert.RmergeIdeal.main_arg3)
      ∧ r.2.mem ((c.tc : Thread Cert.RmergeIdeal.nD Cert.RmergeIdeal.τ).loc Cert.RmergeIdeal.main_arg4) = m ((c.tc : Thread Cert.RmergeIdeal.nD Cert.RmergeIdeal.τ).loc Cert.RmergeIdeal.main_arg4)
      ∧ r.2.mem ((c.tc : Thread Cert.RmergeIdeal.nD Cert.RmergeIdeal.τ).loc Cert.RmergeIdeal.main_arg5) = m ((c.tc : Thread Cert.RmergeIdeal.nD Cert.RmergeIdeal.τ).loc Cert.RmergeIdeal.main_arg5)
      ∧ r.2.mem ((c.tc : Thread Cert.RmergeIdeal.nD Cert.RmergeIdeal.τ).loc Cert.RmergeIdeal.main_arg6) = m ((c.tc : Thread Cert.RmergeIdeal.nD Cert.RmergeIdeal.τ).loc Cert.RmergeIdeal.main_arg6)
      ∧ r.2.mem ((c.tc : Thread Cert.RmergeIdeal.nD Cert.RmergeIdeal.τ).loc Cert.RmergeIdeal.main_arg7) = m ((c.tc : Thread Cert.RmergeIdeal.nD Cert.RmergeIdeal.τ).loc Cert.RmergeIdeal.main_arg7))
      ∧ r.2.sem = fun _ => 0)

def quiescent_Kin [hKin : Cert.Kin.Facts] : Prop :=
  ∀ (m : (ℓ : Loc Cert.Kin.nD Cert.Kin.τ Cert.Kin.sig) → Buf (Elt Bits) ℓ) (g : Dev Cert.Kin.nD → PrngReg), Pre_Kin m →
    θ_run (Cert.Kin.defs (F := Bits)) (onTc (τ := Cert.Kin.τ) (Cert.Kin.main (F := Bits))) ⟨m, fun _ => 0, g⟩ (fun r => (∀ c : Dev Cert.Kin.nD,
      r.2.mem ((c.tc : Thread Cert.Kin.nD Cert.Kin.τ).loc Cert.Kin.main_arg0) = m ((c.tc : Thread Cert.Kin.nD Cert.Kin.τ).loc Cert.Kin.main_arg0)
      ∧ r.2.mem ((c.tc : Thread Cert.Kin.nD Cert.Kin.τ).loc Cert.Kin.main_arg1) = m ((c.tc : Thread Cert.Kin.nD Cert.Kin.τ).loc Cert.Kin.main_arg1))
      ∧ r.2.sem = fun _ => 0)

def quiescent_KinIdeal [hKinIdeal : Cert.KinIdeal.Facts] : Prop :=
  ∀ (m : (ℓ : Loc Cert.KinIdeal.nD Cert.KinIdeal.τ Cert.KinIdeal.sig) → Buf (Elt Ideal) ℓ) (g : Dev Cert.KinIdeal.nD → PrngReg), Pre_KinIdeal m →
    θ_run (Cert.KinIdeal.defs (F := Ideal)) (onTc (τ := Cert.KinIdeal.τ) (Cert.KinIdeal.main (F := Ideal))) ⟨m, fun _ => 0, g⟩ (fun r => (∀ c : Dev Cert.KinIdeal.nD,
      r.2.mem ((c.tc : Thread Cert.KinIdeal.nD Cert.KinIdeal.τ).loc Cert.KinIdeal.main_arg0) = m ((c.tc : Thread Cert.KinIdeal.nD Cert.KinIdeal.τ).loc Cert.KinIdeal.main_arg0)
      ∧ r.2.mem ((c.tc : Thread Cert.KinIdeal.nD Cert.KinIdeal.τ).loc Cert.KinIdeal.main_arg1) = m ((c.tc : Thread Cert.KinIdeal.nD Cert.KinIdeal.τ).loc Cert.KinIdeal.main_arg1))
      ∧ r.2.sem = fun _ => 0)

def quiescent_RinIdeal [hRinIdeal : Cert.RinIdeal.Facts] : Prop :=
  ∀ (m : (ℓ : Loc Cert.RinIdeal.nD Cert.RinIdeal.τ Cert.RinIdeal.sig) → Buf (Elt Ideal) ℓ) (g : Dev Cert.RinIdeal.nD → PrngReg), Pre_RinIdeal m →
    θ_run (Cert.RinIdeal.defs (F := Ideal)) (onTc (τ := Cert.RinIdeal.τ) (Cert.RinIdeal.main (F := Ideal))) ⟨m, fun _ => 0, g⟩ (fun r => (∀ c : Dev Cert.RinIdeal.nD,
      r.2.mem ((c.tc : Thread Cert.RinIdeal.nD Cert.RinIdeal.τ).loc Cert.RinIdeal.main_arg0) = m ((c.tc : Thread Cert.RinIdeal.nD Cert.RinIdeal.τ).loc Cert.RinIdeal.main_arg0)
      ∧ r.2.mem ((c.tc : Thread Cert.RinIdeal.nD Cert.RinIdeal.τ).loc Cert.RinIdeal.main_arg1) = m ((c.tc : Thread Cert.RinIdeal.nD Cert.RinIdeal.τ).loc Cert.RinIdeal.main_arg1))
      ∧ r.2.sem = fun _ => 0)

def quiescent_Kdown [hKdown : Cert.Kdown.Facts] : Prop :=
  ∀ (m : (ℓ : Loc Cert.Kdown.nD Cert.Kdown.τ Cert.Kdown.sig) → Buf (Elt Bits) ℓ) (g : Dev Cert.Kdown.nD → PrngReg), Pre_Kdown m →
    θ_run (Cert.Kdown.defs (F := Bits)) (onTc (τ := Cert.Kdown.τ) (Cert.Kdown.main (F := Bits))) ⟨m, fun _ => 0, g⟩ (fun r => (∀ c : Dev Cert.Kdown.nD,
      r.2.mem ((c.tc : Thread Cert.Kdown.nD Cert.Kdown.τ).loc Cert.Kdown.main_arg0) = m ((c.tc : Thread Cert.Kdown.nD Cert.Kdown.τ).loc Cert.Kdown.main_arg0)
      ∧ r.2.mem ((c.tc : Thread Cert.Kdown.nD Cert.Kdown.τ).loc Cert.Kdown.main_arg1) = m ((c.tc : Thread Cert.Kdown.nD Cert.Kdown.τ).loc Cert.Kdown.main_arg1)
      ∧ r.2.mem ((c.tc : Thread Cert.Kdown.nD Cert.Kdown.τ).loc Cert.Kdown.main_arg2) = m ((c.tc : Thread Cert.Kdown.nD Cert.Kdown.τ).loc Cert.Kdown.main_arg2)
      ∧ r.2.mem ((c.tc : Thread Cert.Kdown.nD Cert.Kdown.τ).loc Cert.Kdown.main_arg3) = m ((c.tc : Thread Cert.Kdown.nD Cert.Kdown.τ).loc Cert.Kdown.main_arg3))
      ∧ r.2.sem = fun _ => 0)

def quiescent_KdownIdeal [hKdownIdeal : Cert.KdownIdeal.Facts] : Prop :=
  ∀ (m : (ℓ : Loc Cert.KdownIdeal.nD Cert.KdownIdeal.τ Cert.KdownIdeal.sig) → Buf (Elt Ideal) ℓ) (g : Dev Cert.KdownIdeal.nD → PrngReg), Pre_KdownIdeal m →
    θ_run (Cert.KdownIdeal.defs (F := Ideal)) (onTc (τ := Cert.KdownIdeal.τ) (Cert.KdownIdeal.main (F := Ideal))) ⟨m, fun _ => 0, g⟩ (fun r => (∀ c : Dev Cert.KdownIdeal.nD,
      r.2.mem ((c.tc : Thread Cert.KdownIdeal.nD Cert.KdownIdeal.τ).loc Cert.KdownIdeal.main_arg0) = m ((c.tc : Thread Cert.KdownIdeal.nD Cert.KdownIdeal.τ).loc Cert.KdownIdeal.main_arg0)
      ∧ r.2.mem ((c.tc : Thread Cert.KdownIdeal.nD Cert.KdownIdeal.τ).loc Cert.KdownIdeal.main_arg1) = m ((c.tc : Thread Cert.KdownIdeal.nD Cert.KdownIdeal.τ).loc Cert.KdownIdeal.main_arg1)
      ∧ r.2.mem ((c.tc : Thread Cert.KdownIdeal.nD Cert.KdownIdeal.τ).loc Cert.KdownIdeal.main_arg2) = m ((c.tc : Thread Cert.KdownIdeal.nD Cert.KdownIdeal.τ).loc Cert.KdownIdeal.main_arg2)
      ∧ r.2.mem ((c.tc : Thread Cert.KdownIdeal.nD Cert.KdownIdeal.τ).loc Cert.KdownIdeal.main_arg3) = m ((c.tc : Thread Cert.KdownIdeal.nD Cert.KdownIdeal.τ).loc Cert.KdownIdeal.main_arg3))
      ∧ r.2.sem = fun _ => 0)

def quiescent_RdownIdeal [hRdownIdeal : Cert.RdownIdeal.Facts] : Prop :=
  ∀ (m : (ℓ : Loc Cert.RdownIdeal.nD Cert.RdownIdeal.τ Cert.RdownIdeal.sig) → Buf (Elt Ideal) ℓ) (g : Dev Cert.RdownIdeal.nD → PrngReg), Pre_RdownIdeal m →
    θ_run (Cert.RdownIdeal.defs (F := Ideal)) (onTc (τ := Cert.RdownIdeal.τ) (Cert.RdownIdeal.main (F := Ideal))) ⟨m, fun _ => 0, g⟩ (fun r => (∀ c : Dev Cert.RdownIdeal.nD,
      r.2.mem ((c.tc : Thread Cert.RdownIdeal.nD Cert.RdownIdeal.τ).loc Cert.RdownIdeal.main_arg0) = m ((c.tc : Thread Cert.RdownIdeal.nD Cert.RdownIdeal.τ).loc Cert.RdownIdeal.main_arg0)
      ∧ r.2.mem ((c.tc : Thread Cert.RdownIdeal.nD Cert.RdownIdeal.τ).loc Cert.RdownIdeal.main_arg1) = m ((c.tc : Thread Cert.RdownIdeal.nD Cert.RdownIdeal.τ).loc Cert.RdownIdeal.main_arg1)
      ∧ r.2.mem ((c.tc : Thread Cert.RdownIdeal.nD Cert.RdownIdeal.τ).loc Cert.RdownIdeal.main_arg2) = m ((c.tc : Thread Cert.RdownIdeal.nD Cert.RdownIdeal.τ).loc Cert.RdownIdeal.main_arg2)
      ∧ r.2.mem ((c.tc : Thread Cert.RdownIdeal.nD Cert.RdownIdeal.τ).loc Cert.RdownIdeal.main_arg3) = m ((c.tc : Thread Cert.RdownIdeal.nD Cert.RdownIdeal.τ).loc Cert.RdownIdeal.main_arg3))
      ∧ r.2.sem = fun _ => 0)

def quiescent_Kout [hKout : Cert.Kout.Facts] : Prop :=
  ∀ (m : (ℓ : Loc Cert.Kout.nD Cert.Kout.τ Cert.Kout.sig) → Buf (Elt Bits) ℓ) (g : Dev Cert.Kout.nD → PrngReg), Pre_Kout m →
    θ_run (Cert.Kout.defs (F := Bits)) (onTc (τ := Cert.Kout.τ) (Cert.Kout.main (F := Bits))) ⟨m, fun _ => 0, g⟩ (fun r => (∀ c : Dev Cert.Kout.nD,
      r.2.mem ((c.tc : Thread Cert.Kout.nD Cert.Kout.τ).loc Cert.Kout.main_arg0) = m ((c.tc : Thread Cert.Kout.nD Cert.Kout.τ).loc Cert.Kout.main_arg0)
      ∧ r.2.mem ((c.tc : Thread Cert.Kout.nD Cert.Kout.τ).loc Cert.Kout.main_arg1) = m ((c.tc : Thread Cert.Kout.nD Cert.Kout.τ).loc Cert.Kout.main_arg1)
      ∧ r.2.mem ((c.tc : Thread Cert.Kout.nD Cert.Kout.τ).loc Cert.Kout.main_arg2) = m ((c.tc : Thread Cert.Kout.nD Cert.Kout.τ).loc Cert.Kout.main_arg2)
      ∧ r.2.mem ((c.tc : Thread Cert.Kout.nD Cert.Kout.τ).loc Cert.Kout.main_arg3) = m ((c.tc : Thread Cert.Kout.nD Cert.Kout.τ).loc Cert.Kout.main_arg3))
      ∧ r.2.sem = fun _ => 0)

def quiescent_KoutIdeal [hKoutIdeal : Cert.KoutIdeal.Facts] : Prop :=
  ∀ (m : (ℓ : Loc Cert.KoutIdeal.nD Cert.KoutIdeal.τ Cert.KoutIdeal.sig) → Buf (Elt Ideal) ℓ) (g : Dev Cert.KoutIdeal.nD → PrngReg), Pre_KoutIdeal m →
    θ_run (Cert.KoutIdeal.defs (F := Ideal)) (onTc (τ := Cert.KoutIdeal.τ) (Cert.KoutIdeal.main (F := Ideal))) ⟨m, fun _ => 0, g⟩ (fun r => (∀ c : Dev Cert.KoutIdeal.nD,
      r.2.mem ((c.tc : Thread Cert.KoutIdeal.nD Cert.KoutIdeal.τ).loc Cert.KoutIdeal.main_arg0) = m ((c.tc : Thread Cert.KoutIdeal.nD Cert.KoutIdeal.τ).loc Cert.KoutIdeal.main_arg0)
      ∧ r.2.mem ((c.tc : Thread Cert.KoutIdeal.nD Cert.KoutIdeal.τ).loc Cert.KoutIdeal.main_arg1) = m ((c.tc : Thread Cert.KoutIdeal.nD Cert.KoutIdeal.τ).loc Cert.KoutIdeal.main_arg1)
      ∧ r.2.mem ((c.tc : Thread Cert.KoutIdeal.nD Cert.KoutIdeal.τ).loc Cert.KoutIdeal.main_arg2) = m ((c.tc : Thread Cert.KoutIdeal.nD Cert.KoutIdeal.τ).loc Cert.KoutIdeal.main_arg2)
      ∧ r.2.mem ((c.tc : Thread Cert.KoutIdeal.nD Cert.KoutIdeal.τ).loc Cert.KoutIdeal.main_arg3) = m ((c.tc : Thread Cert.KoutIdeal.nD Cert.KoutIdeal.τ).loc Cert.KoutIdeal.main_arg3))
      ∧ r.2.sem = fun _ => 0)

def quiescent_RoutIdeal [hRoutIdeal : Cert.RoutIdeal.Facts] : Prop :=
  ∀ (m : (ℓ : Loc Cert.RoutIdeal.nD Cert.RoutIdeal.τ Cert.RoutIdeal.sig) → Buf (Elt Ideal) ℓ) (g : Dev Cert.RoutIdeal.nD → PrngReg), Pre_RoutIdeal m →
    θ_run (Cert.RoutIdeal.defs (F := Ideal)) (onTc (τ := Cert.RoutIdeal.τ) (Cert.RoutIdeal.main (F := Ideal))) ⟨m, fun _ => 0, g⟩ (fun r => (∀ c : Dev Cert.RoutIdeal.nD,
      r.2.mem ((c.tc : Thread Cert.RoutIdeal.nD Cert.RoutIdeal.τ).loc Cert.RoutIdeal.main_arg0) = m ((c.tc : Thread Cert.RoutIdeal.nD Cert.RoutIdeal.τ).loc Cert.RoutIdeal.main_arg0)
      ∧ r.2.mem ((c.tc : Thread Cert.RoutIdeal.nD Cert.RoutIdeal.τ).loc Cert.RoutIdeal.main_arg1) = m ((c.tc : Thread Cert.RoutIdeal.nD Cert.RoutIdeal.τ).loc Cert.RoutIdeal.main_arg1)
      ∧ r.2.mem ((c.tc : Thread Cert.RoutIdeal.nD Cert.RoutIdeal.τ).loc Cert.RoutIdeal.main_arg2) = m ((c.tc : Thread Cert.RoutIdeal.nD Cert.RoutIdeal.τ).loc Cert.RoutIdeal.main_arg2)
      ∧ r.2.mem ((c.tc : Thread Cert.RoutIdeal.nD Cert.RoutIdeal.τ).loc Cert.RoutIdeal.main_arg3) = m ((c.tc : Thread Cert.RoutIdeal.nD Cert.RoutIdeal.τ).loc Cert.RoutIdeal.main_arg3))
      ∧ r.2.sem = fun _ => 0)

def quiescent_Kmoba [hKmoba : Cert.Kmoba.Facts] : Prop :=
  ∀ (m : (ℓ : Loc Cert.Kmoba.nD Cert.Kmoba.τ Cert.Kmoba.sig) → Buf (Elt Bits) ℓ) (g : Dev Cert.Kmoba.nD → PrngReg), Pre_Kmoba m →
    θ_run (Cert.Kmoba.defs (F := Bits)) (onTc (τ := Cert.Kmoba.τ) (Cert.Kmoba.main (F := Bits))) ⟨m, fun _ => 0, g⟩ (fun r => (∀ c : Dev Cert.Kmoba.nD,
      r.2.mem ((c.tc : Thread Cert.Kmoba.nD Cert.Kmoba.τ).loc Cert.Kmoba.main_arg0) = m ((c.tc : Thread Cert.Kmoba.nD Cert.Kmoba.τ).loc Cert.Kmoba.main_arg0)
      ∧ r.2.mem ((c.tc : Thread Cert.Kmoba.nD Cert.Kmoba.τ).loc Cert.Kmoba.main_arg1) = m ((c.tc : Thread Cert.Kmoba.nD Cert.Kmoba.τ).loc Cert.Kmoba.main_arg1))
      ∧ r.2.sem = fun _ => 0)

def quiescent_KmobaIdeal [hKmobaIdeal : Cert.KmobaIdeal.Facts] : Prop :=
  ∀ (m : (ℓ : Loc Cert.KmobaIdeal.nD Cert.KmobaIdeal.τ Cert.KmobaIdeal.sig) → Buf (Elt Ideal) ℓ) (g : Dev Cert.KmobaIdeal.nD → PrngReg), Pre_KmobaIdeal m →
    θ_run (Cert.KmobaIdeal.defs (F := Ideal)) (onTc (τ := Cert.KmobaIdeal.τ) (Cert.KmobaIdeal.main (F := Ideal))) ⟨m, fun _ => 0, g⟩ (fun r => (∀ c : Dev Cert.KmobaIdeal.nD,
      r.2.mem ((c.tc : Thread Cert.KmobaIdeal.nD Cert.KmobaIdeal.τ).loc Cert.KmobaIdeal.main_arg0) = m ((c.tc : Thread Cert.KmobaIdeal.nD Cert.KmobaIdeal.τ).loc Cert.KmobaIdeal.main_arg0)
      ∧ r.2.mem ((c.tc : Thread Cert.KmobaIdeal.nD Cert.KmobaIdeal.τ).loc Cert.KmobaIdeal.main_arg1) = m ((c.tc : Thread Cert.KmobaIdeal.nD Cert.KmobaIdeal.τ).loc Cert.KmobaIdeal.main_arg1))
      ∧ r.2.sem = fun _ => 0)

def quiescent_Kconv [hKconv : Cert.Kconv.Facts] : Prop :=
  ∀ (m : (ℓ : Loc Cert.Kconv.nD Cert.Kconv.τ Cert.Kconv.sig) → Buf (Elt Bits) ℓ) (g : Dev Cert.Kconv.nD → PrngReg), Pre_Kconv m →
    θ_run (Cert.Kconv.defs (F := Bits)) (onTc (τ := Cert.Kconv.τ) (Cert.Kconv.main (F := Bits))) ⟨m, fun _ => 0, g⟩ (fun r => (∀ c : Dev Cert.Kconv.nD,
      r.2.mem ((c.tc : Thread Cert.Kconv.nD Cert.Kconv.τ).loc Cert.Kconv.main_arg0) = m ((c.tc : Thread Cert.Kconv.nD Cert.Kconv.τ).loc Cert.Kconv.main_arg0)
      ∧ r.2.mem ((c.tc : Thread Cert.Kconv.nD Cert.Kconv.τ).loc Cert.Kconv.main_arg1) = m ((c.tc : Thread Cert.Kconv.nD Cert.Kconv.τ).loc Cert.Kconv.main_arg1))
      ∧ r.2.sem = fun _ => 0)

def quiescent_KconvIdeal [hKconvIdeal : Cert.KconvIdeal.Facts] : Prop :=
  ∀ (m : (ℓ : Loc Cert.KconvIdeal.nD Cert.KconvIdeal.τ Cert.KconvIdeal.sig) → Buf (Elt Ideal) ℓ) (g : Dev Cert.KconvIdeal.nD → PrngReg), Pre_KconvIdeal m →
    θ_run (Cert.KconvIdeal.defs (F := Ideal)) (onTc (τ := Cert.KconvIdeal.τ) (Cert.KconvIdeal.main (F := Ideal))) ⟨m, fun _ => 0, g⟩ (fun r => (∀ c : Dev Cert.KconvIdeal.nD,
      r.2.mem ((c.tc : Thread Cert.KconvIdeal.nD Cert.KconvIdeal.τ).loc Cert.KconvIdeal.main_arg0) = m ((c.tc : Thread Cert.KconvIdeal.nD Cert.KconvIdeal.τ).loc Cert.KconvIdeal.main_arg0)
      ∧ r.2.mem ((c.tc : Thread Cert.KconvIdeal.nD Cert.KconvIdeal.τ).loc Cert.KconvIdeal.main_arg1) = m ((c.tc : Thread Cert.KconvIdeal.nD Cert.KconvIdeal.τ).loc Cert.KconvIdeal.main_arg1))
      ∧ r.2.sem = fun _ => 0)

def quiescent_RconvIdeal [hRconvIdeal : Cert.RconvIdeal.Facts] : Prop :=
  ∀ (m : (ℓ : Loc Cert.RconvIdeal.nD Cert.RconvIdeal.τ Cert.RconvIdeal.sig) → Buf (Elt Ideal) ℓ) (g : Dev Cert.RconvIdeal.nD → PrngReg), Pre_RconvIdeal m →
    θ_run (Cert.RconvIdeal.defs (F := Ideal)) (onTc (τ := Cert.RconvIdeal.τ) (Cert.RconvIdeal.main (F := Ideal))) ⟨m, fun _ => 0, g⟩ (fun r => (∀ c : Dev Cert.RconvIdeal.nD,
      r.2.mem ((c.tc : Thread Cert.RconvIdeal.nD Cert.RconvIdeal.τ).loc Cert.RconvIdeal.main_arg0) = m ((c.tc : Thread Cert.RconvIdeal.nD Cert.RconvIdeal.τ).loc Cert.RconvIdeal.main_arg0)
      ∧ r.2.mem ((c.tc : Thread Cert.RconvIdeal.nD Cert.RconvIdeal.τ).loc Cert.RconvIdeal.main_arg1) = m ((c.tc : Thread Cert.RconvIdeal.nD Cert.RconvIdeal.τ).loc Cert.RconvIdeal.main_arg1))
      ∧ r.2.sem = fun _ => 0)

def quiescent_Krank [hKrank : Cert.Krank.Facts] : Prop :=
  ∀ (m : (ℓ : Loc Cert.Krank.nD Cert.Krank.τ Cert.Krank.sig) → Buf (Elt Bits) ℓ) (g : Dev Cert.Krank.nD → PrngReg), Pre_Krank m →
    θ_run (Cert.Krank.defs (F := Bits)) (onTc (τ := Cert.Krank.τ) (Cert.Krank.main (F := Bits))) ⟨m, fun _ => 0, g⟩ (fun r => (∀ c : Dev Cert.Krank.nD,
      r.2.mem ((c.tc : Thread Cert.Krank.nD Cert.Krank.τ).loc Cert.Krank.main_arg0) = m ((c.tc : Thread Cert.Krank.nD Cert.Krank.τ).loc Cert.Krank.main_arg0)
      ∧ r.2.mem ((c.tc : Thread Cert.Krank.nD Cert.Krank.τ).loc Cert.Krank.main_arg1) = m ((c.tc : Thread Cert.Krank.nD Cert.Krank.τ).loc Cert.Krank.main_arg1))
      ∧ r.2.sem = fun _ => 0)

def quiescent_KrankIdeal [hKrankIdeal : Cert.KrankIdeal.Facts] : Prop :=
  ∀ (m : (ℓ : Loc Cert.KrankIdeal.nD Cert.KrankIdeal.τ Cert.KrankIdeal.sig) → Buf (Elt Ideal) ℓ) (g : Dev Cert.KrankIdeal.nD → PrngReg), Pre_KrankIdeal m →
    θ_run (Cert.KrankIdeal.defs (F := Ideal)) (onTc (τ := Cert.KrankIdeal.τ) (Cert.KrankIdeal.main (F := Ideal))) ⟨m, fun _ => 0, g⟩ (fun r => (∀ c : Dev Cert.KrankIdeal.nD,
      r.2.mem ((c.tc : Thread Cert.KrankIdeal.nD Cert.KrankIdeal.τ).loc Cert.KrankIdeal.main_arg0) = m ((c.tc : Thread Cert.KrankIdeal.nD Cert.KrankIdeal.τ).loc Cert.KrankIdeal.main_arg0)
      ∧ r.2.mem ((c.tc : Thread Cert.KrankIdeal.nD Cert.KrankIdeal.τ).loc Cert.KrankIdeal.main_arg1) = m ((c.tc : Thread Cert.KrankIdeal.nD Cert.KrankIdeal.τ).loc Cert.KrankIdeal.main_arg1))
      ∧ r.2.sem = fun _ => 0)

def quiescent_RrankIdeal [hRrankIdeal : Cert.RrankIdeal.Facts] : Prop :=
  ∀ (m : (ℓ : Loc Cert.RrankIdeal.nD Cert.RrankIdeal.τ Cert.RrankIdeal.sig) → Buf (Elt Ideal) ℓ) (g : Dev Cert.RrankIdeal.nD → PrngReg), Pre_RrankIdeal m →
    θ_run (Cert.RrankIdeal.defs (F := Ideal)) (onTc (τ := Cert.RrankIdeal.τ) (Cert.RrankIdeal.main (F := Ideal))) ⟨m, fun _ => 0, g⟩ (fun r => (∀ c : Dev Cert.RrankIdeal.nD,
      r.2.mem ((c.tc : Thread Cert.RrankIdeal.nD Cert.RrankIdeal.τ).loc Cert.RrankIdeal.main_arg0) = m ((c.tc : Thread Cert.RrankIdeal.nD Cert.RrankIdeal.τ).loc Cert.RrankIdeal.main_arg0)
      ∧ r.2.mem ((c.tc : Thread Cert.RrankIdeal.nD Cert.RrankIdeal.τ).loc Cert.RrankIdeal.main_arg1) = m ((c.tc : Thread Cert.RrankIdeal.nD Cert.RrankIdeal.τ).loc Cert.RrankIdeal.main_arg1))
      ∧ r.2.sem = fun _ => 0)

def quiescent_Kmod [hKmod : Cert.Kmod.Facts] : Prop :=
  ∀ (m : (ℓ : Loc Cert.Kmod.nD Cert.Kmod.τ Cert.Kmod.sig) → Buf (Elt Bits) ℓ) (g : Dev Cert.Kmod.nD → PrngReg), Pre_Kmod m →
    θ_run (Cert.Kmod.defs (F := Bits)) (onTc (τ := Cert.Kmod.τ) (Cert.Kmod.main (F := Bits))) ⟨m, fun _ => 0, g⟩ (fun r => (∀ c : Dev Cert.Kmod.nD,
      r.2.mem ((c.tc : Thread Cert.Kmod.nD Cert.Kmod.τ).loc Cert.Kmod.main_arg0) = m ((c.tc : Thread Cert.Kmod.nD Cert.Kmod.τ).loc Cert.Kmod.main_arg0)
      ∧ r.2.mem ((c.tc : Thread Cert.Kmod.nD Cert.Kmod.τ).loc Cert.Kmod.main_arg1) = m ((c.tc : Thread Cert.Kmod.nD Cert.Kmod.τ).loc Cert.Kmod.main_arg1)
      ∧ r.2.mem ((c.tc : Thread Cert.Kmod.nD Cert.Kmod.τ).loc Cert.Kmod.main_arg2) = m ((c.tc : Thread Cert.Kmod.nD Cert.Kmod.τ).loc Cert.Kmod.main_arg2)
      ∧ r.2.mem ((c.tc : Thread Cert.Kmod.nD Cert.Kmod.τ).loc Cert.Kmod.main_arg3) = m ((c.tc : Thread Cert.Kmod.nD Cert.Kmod.τ).loc Cert.Kmod.main_arg3))
      ∧ r.2.sem = fun _ => 0)

def quiescent_KmodIdeal [hKmodIdeal : Cert.KmodIdeal.Facts] : Prop :=
  ∀ (m : (ℓ : Loc Cert.KmodIdeal.nD Cert.KmodIdeal.τ Cert.KmodIdeal.sig) → Buf (Elt Ideal) ℓ) (g : Dev Cert.KmodIdeal.nD → PrngReg), Pre_KmodIdeal m →
    θ_run (Cert.KmodIdeal.defs (F := Ideal)) (onTc (τ := Cert.KmodIdeal.τ) (Cert.KmodIdeal.main (F := Ideal))) ⟨m, fun _ => 0, g⟩ (fun r => (∀ c : Dev Cert.KmodIdeal.nD,
      r.2.mem ((c.tc : Thread Cert.KmodIdeal.nD Cert.KmodIdeal.τ).loc Cert.KmodIdeal.main_arg0) = m ((c.tc : Thread Cert.KmodIdeal.nD Cert.KmodIdeal.τ).loc Cert.KmodIdeal.main_arg0)
      ∧ r.2.mem ((c.tc : Thread Cert.KmodIdeal.nD Cert.KmodIdeal.τ).loc Cert.KmodIdeal.main_arg1) = m ((c.tc : Thread Cert.KmodIdeal.nD Cert.KmodIdeal.τ).loc Cert.KmodIdeal.main_arg1)
      ∧ r.2.mem ((c.tc : Thread Cert.KmodIdeal.nD Cert.KmodIdeal.τ).loc Cert.KmodIdeal.main_arg2) = m ((c.tc : Thread Cert.KmodIdeal.nD Cert.KmodIdeal.τ).loc Cert.KmodIdeal.main_arg2)
      ∧ r.2.mem ((c.tc : Thread Cert.KmodIdeal.nD Cert.KmodIdeal.τ).loc Cert.KmodIdeal.main_arg3) = m ((c.tc : Thread Cert.KmodIdeal.nD Cert.KmodIdeal.τ).loc Cert.KmodIdeal.main_arg3))
      ∧ r.2.sem = fun _ => 0)

def quiescent_RmodIdeal [hRmodIdeal : Cert.RmodIdeal.Facts] : Prop :=
  ∀ (m : (ℓ : Loc Cert.RmodIdeal.nD Cert.RmodIdeal.τ Cert.RmodIdeal.sig) → Buf (Elt Ideal) ℓ) (g : Dev Cert.RmodIdeal.nD → PrngReg), Pre_RmodIdeal m →
    θ_run (Cert.RmodIdeal.defs (F := Ideal)) (onTc (τ := Cert.RmodIdeal.τ) (Cert.RmodIdeal.main (F := Ideal))) ⟨m, fun _ => 0, g⟩ (fun r => (∀ c : Dev Cert.RmodIdeal.nD,
      r.2.mem ((c.tc : Thread Cert.RmodIdeal.nD Cert.RmodIdeal.τ).loc Cert.RmodIdeal.main_arg0) = m ((c.tc : Thread Cert.RmodIdeal.nD Cert.RmodIdeal.τ).loc Cert.RmodIdeal.main_arg0)
      ∧ r.2.mem ((c.tc : Thread Cert.RmodIdeal.nD Cert.RmodIdeal.τ).loc Cert.RmodIdeal.main_arg1) = m ((c.tc : Thread Cert.RmodIdeal.nD Cert.RmodIdeal.τ).loc Cert.RmodIdeal.main_arg1)
      ∧ r.2.mem ((c.tc : Thread Cert.RmodIdeal.nD Cert.RmodIdeal.τ).loc Cert.RmodIdeal.main_arg2) = m ((c.tc : Thread Cert.RmodIdeal.nD Cert.RmodIdeal.τ).loc Cert.RmodIdeal.main_arg2)
      ∧ r.2.mem ((c.tc : Thread Cert.RmodIdeal.nD Cert.RmodIdeal.τ).loc Cert.RmodIdeal.main_arg3) = m ((c.tc : Thread Cert.RmodIdeal.nD Cert.RmodIdeal.τ).loc Cert.RmodIdeal.main_arg3))
      ∧ r.2.sem = fun _ => 0)

def quiescent_Kada [hKada : Cert.Kada.Facts] : Prop :=
  ∀ (m : (ℓ : Loc Cert.Kada.nD Cert.Kada.τ Cert.Kada.sig) → Buf (Elt Bits) ℓ) (g : Dev Cert.Kada.nD → PrngReg), Pre_Kada m →
    θ_run (Cert.Kada.defs (F := Bits)) (onTc (τ := Cert.Kada.τ) (Cert.Kada.main (F := Bits))) ⟨m, fun _ => 0, g⟩ (fun r => (∀ c : Dev Cert.Kada.nD,
      r.2.mem ((c.tc : Thread Cert.Kada.nD Cert.Kada.τ).loc Cert.Kada.main_arg0) = m ((c.tc : Thread Cert.Kada.nD Cert.Kada.τ).loc Cert.Kada.main_arg0)
      ∧ r.2.mem ((c.tc : Thread Cert.Kada.nD Cert.Kada.τ).loc Cert.Kada.main_arg1) = m ((c.tc : Thread Cert.Kada.nD Cert.Kada.τ).loc Cert.Kada.main_arg1)
      ∧ r.2.mem ((c.tc : Thread Cert.Kada.nD Cert.Kada.τ).loc Cert.Kada.main_arg2) = m ((c.tc : Thread Cert.Kada.nD Cert.Kada.τ).loc Cert.Kada.main_arg2))
      ∧ r.2.sem = fun _ => 0)

def quiescent_KadaIdeal [hKadaIdeal : Cert.KadaIdeal.Facts] : Prop :=
  ∀ (m : (ℓ : Loc Cert.KadaIdeal.nD Cert.KadaIdeal.τ Cert.KadaIdeal.sig) → Buf (Elt Ideal) ℓ) (g : Dev Cert.KadaIdeal.nD → PrngReg), Pre_KadaIdeal m →
    θ_run (Cert.KadaIdeal.defs (F := Ideal)) (onTc (τ := Cert.KadaIdeal.τ) (Cert.KadaIdeal.main (F := Ideal))) ⟨m, fun _ => 0, g⟩ (fun r => (∀ c : Dev Cert.KadaIdeal.nD,
      r.2.mem ((c.tc : Thread Cert.KadaIdeal.nD Cert.KadaIdeal.τ).loc Cert.KadaIdeal.main_arg0) = m ((c.tc : Thread Cert.KadaIdeal.nD Cert.KadaIdeal.τ).loc Cert.KadaIdeal.main_arg0)
      ∧ r.2.mem ((c.tc : Thread Cert.KadaIdeal.nD Cert.KadaIdeal.τ).loc Cert.KadaIdeal.main_arg1) = m ((c.tc : Thread Cert.KadaIdeal.nD Cert.KadaIdeal.τ).loc Cert.KadaIdeal.main_arg1)
      ∧ r.2.mem ((c.tc : Thread Cert.KadaIdeal.nD Cert.KadaIdeal.τ).loc Cert.KadaIdeal.main_arg2) = m ((c.tc : Thread Cert.KadaIdeal.nD Cert.KadaIdeal.τ).loc Cert.KadaIdeal.main_arg2))
      ∧ r.2.sem = fun _ => 0)

def quiescent_RadaIdeal [hRadaIdeal : Cert.RadaIdeal.Facts] : Prop :=
  ∀ (m : (ℓ : Loc Cert.RadaIdeal.nD Cert.RadaIdeal.τ Cert.RadaIdeal.sig) → Buf (Elt Ideal) ℓ) (g : Dev Cert.RadaIdeal.nD → PrngReg), Pre_RadaIdeal m →
    θ_run (Cert.RadaIdeal.defs (F := Ideal)) (onTc (τ := Cert.RadaIdeal.τ) (Cert.RadaIdeal.main (F := Ideal))) ⟨m, fun _ => 0, g⟩ (fun r => (∀ c : Dev Cert.RadaIdeal.nD,
      r.2.mem ((c.tc : Thread Cert.RadaIdeal.nD Cert.RadaIdeal.τ).loc Cert.RadaIdeal.main_arg0) = m ((c.tc : Thread Cert.RadaIdeal.nD Cert.RadaIdeal.τ).loc Cert.RadaIdeal.main_arg0)
      ∧ r.2.mem ((c.tc : Thread Cert.RadaIdeal.nD Cert.RadaIdeal.τ).loc Cert.RadaIdeal.main_arg1) = m ((c.tc : Thread Cert.RadaIdeal.nD Cert.RadaIdeal.τ).loc Cert.RadaIdeal.main_arg1)
      ∧ r.2.mem ((c.tc : Thread Cert.RadaIdeal.nD Cert.RadaIdeal.τ).loc Cert.RadaIdeal.main_arg2) = m ((c.tc : Thread Cert.RadaIdeal.nD Cert.RadaIdeal.τ).loc Cert.RadaIdeal.main_arg2))
      ∧ r.2.sem = fun _ => 0)

def quiescent_Knorm [hKnorm : Cert.Knorm.Facts] : Prop :=
  ∀ (m : (ℓ : Loc Cert.Knorm.nD Cert.Knorm.τ Cert.Knorm.sig) → Buf (Elt Bits) ℓ) (g : Dev Cert.Knorm.nD → PrngReg), Pre_Knorm m →
    θ_run (Cert.Knorm.defs (F := Bits)) (onTc (τ := Cert.Knorm.τ) (Cert.Knorm.main (F := Bits))) ⟨m, fun _ => 0, g⟩ (fun r => (∀ c : Dev Cert.Knorm.nD,
      r.2.mem ((c.tc : Thread Cert.Knorm.nD Cert.Knorm.τ).loc Cert.Knorm.main_arg0) = m ((c.tc : Thread Cert.Knorm.nD Cert.Knorm.τ).loc Cert.Knorm.main_arg0)
      ∧ r.2.mem ((c.tc : Thread Cert.Knorm.nD Cert.Knorm.τ).loc Cert.Knorm.main_arg1) = m ((c.tc : Thread Cert.Knorm.nD Cert.Knorm.τ).loc Cert.Knorm.main_arg1))
      ∧ r.2.sem = fun _ => 0)

def quiescent_KnormIdeal [hKnormIdeal : Cert.KnormIdeal.Facts] : Prop :=
  ∀ (m : (ℓ : Loc Cert.KnormIdeal.nD Cert.KnormIdeal.τ Cert.KnormIdeal.sig) → Buf (Elt Ideal) ℓ) (g : Dev Cert.KnormIdeal.nD → PrngReg), Pre_KnormIdeal m →
    θ_run (Cert.KnormIdeal.defs (F := Ideal)) (onTc (τ := Cert.KnormIdeal.τ) (Cert.KnormIdeal.main (F := Ideal))) ⟨m, fun _ => 0, g⟩ (fun r => (∀ c : Dev Cert.KnormIdeal.nD,
      r.2.mem ((c.tc : Thread Cert.KnormIdeal.nD Cert.KnormIdeal.τ).loc Cert.KnormIdeal.main_arg0) = m ((c.tc : Thread Cert.KnormIdeal.nD Cert.KnormIdeal.τ).loc Cert.KnormIdeal.main_arg0)
      ∧ r.2.mem ((c.tc : Thread Cert.KnormIdeal.nD Cert.KnormIdeal.τ).loc Cert.KnormIdeal.main_arg1) = m ((c.tc : Thread Cert.KnormIdeal.nD Cert.KnormIdeal.τ).loc Cert.KnormIdeal.main_arg1))
      ∧ r.2.sem = fun _ => 0)

def quiescent_RnormIdeal [hRnormIdeal : Cert.RnormIdeal.Facts] : Prop :=
  ∀ (m : (ℓ : Loc Cert.RnormIdeal.nD Cert.RnormIdeal.τ Cert.RnormIdeal.sig) → Buf (Elt Ideal) ℓ) (g : Dev Cert.RnormIdeal.nD → PrngReg), Pre_RnormIdeal m →
    θ_run (Cert.RnormIdeal.defs (F := Ideal)) (onTc (τ := Cert.RnormIdeal.τ) (Cert.RnormIdeal.main (F := Ideal))) ⟨m, fun _ => 0, g⟩ (fun r => (∀ c : Dev Cert.RnormIdeal.nD,
      r.2.mem ((c.tc : Thread Cert.RnormIdeal.nD Cert.RnormIdeal.τ).loc Cert.RnormIdeal.main_arg0) = m ((c.tc : Thread Cert.RnormIdeal.nD Cert.RnormIdeal.τ).loc Cert.RnormIdeal.main_arg0)
      ∧ r.2.mem ((c.tc : Thread Cert.RnormIdeal.nD Cert.RnormIdeal.τ).loc Cert.RnormIdeal.main_arg1) = m ((c.tc : Thread Cert.RnormIdeal.nD Cert.RnormIdeal.τ).loc Cert.RnormIdeal.main_arg1))
      ∧ r.2.sem = fun _ => 0)

def preserves_Kgla_KglaIdeal : Prop :=
  True

def algebraic_KglaIdeal_RglaIdeal_pre_finite [hKglaIdeal : Cert.KglaIdeal.Facts] [hRglaIdeal : Cert.RglaIdeal.Facts] [hPre_finite : Cert.Pre_finite.Facts] : Prop :=
  ∀ (m : (ℓ : Loc Cert.KglaIdeal.nD Cert.KglaIdeal.τ Cert.KglaIdeal.sig) → Buf (Elt Ideal) ℓ) (g : Dev Cert.KglaIdeal.nD → PrngReg)
    (m' : (ℓ : Loc Cert.RglaIdeal.nD Cert.RglaIdeal.τ Cert.RglaIdeal.sig) → Buf (Elt Ideal) ℓ) (g' : Dev Cert.RglaIdeal.nD → PrngReg), Pre_KglaIdeal_finite m →
    (∀ c : Dev Cert.KglaIdeal.nD,
      m' ((c.tc : Thread Cert.RglaIdeal.nD Cert.RglaIdeal.τ).loc Cert.RglaIdeal.main_arg0) = m ((c.tc : Thread Cert.KglaIdeal.nD Cert.KglaIdeal.τ).loc Cert.KglaIdeal.main_arg0)
      ∧ m' ((c.tc : Thread Cert.RglaIdeal.nD Cert.RglaIdeal.τ).loc Cert.RglaIdeal.main_arg1) = m ((c.tc : Thread Cert.KglaIdeal.nD Cert.KglaIdeal.τ).loc Cert.KglaIdeal.main_arg1)
      ∧ m' ((c.tc : Thread Cert.RglaIdeal.nD Cert.RglaIdeal.τ).loc Cert.RglaIdeal.main_arg2) = m ((c.tc : Thread Cert.KglaIdeal.nD Cert.KglaIdeal.τ).loc Cert.KglaIdeal.main_arg2)
      ∧ m' ((c.tc : Thread Cert.RglaIdeal.nD Cert.RglaIdeal.τ).loc Cert.RglaIdeal.main_arg3) = m ((c.tc : Thread Cert.KglaIdeal.nD Cert.KglaIdeal.τ).loc Cert.KglaIdeal.main_arg3)
      ∧ m' ((c.tc : Thread Cert.RglaIdeal.nD Cert.RglaIdeal.τ).loc Cert.RglaIdeal.main_arg4) = m ((c.tc : Thread Cert.KglaIdeal.nD Cert.KglaIdeal.τ).loc Cert.KglaIdeal.main_arg4)) →
    ∃ (v0 : (c : Dev Cert.KglaIdeal.nD) → Buf (Elt Ideal) ((c.tc : Thread Cert.KglaIdeal.nD Cert.KglaIdeal.τ).loc Cert.KglaIdeal.main_v5)),
      θ_run (Cert.KglaIdeal.defs (F := Ideal)) (onTc (τ := Cert.KglaIdeal.τ) (Cert.KglaIdeal.main (F := Ideal))) ⟨m, fun _ => 0, g⟩ (fun r => ∀ c : Dev Cert.KglaIdeal.nD,
          r.2.mem ((c.tc : Thread Cert.KglaIdeal.nD Cert.KglaIdeal.τ).loc Cert.KglaIdeal.main_v5) = v0 c
          ∧ r.2.mem ((c.tc : Thread Cert.KglaIdeal.nD Cert.KglaIdeal.τ).loc Cert.KglaIdeal.main_arg0) = m ((c.tc : Thread Cert.KglaIdeal.nD Cert.KglaIdeal.τ).loc Cert.KglaIdeal.main_arg0)
          ∧ r.2.mem ((c.tc : Thread Cert.KglaIdeal.nD Cert.KglaIdeal.τ).loc Cert.KglaIdeal.main_arg1) = m ((c.tc : Thread Cert.KglaIdeal.nD Cert.KglaIdeal.τ).loc Cert.KglaIdeal.main_arg1)
          ∧ r.2.mem ((c.tc : Thread Cert.KglaIdeal.nD Cert.KglaIdeal.τ).loc Cert.KglaIdeal.main_arg2) = m ((c.tc : Thread Cert.KglaIdeal.nD Cert.KglaIdeal.τ).loc Cert.KglaIdeal.main_arg2)
          ∧ r.2.mem ((c.tc : Thread Cert.KglaIdeal.nD Cert.KglaIdeal.τ).loc Cert.KglaIdeal.main_arg3) = m ((c.tc : Thread Cert.KglaIdeal.nD Cert.KglaIdeal.τ).loc Cert.KglaIdeal.main_arg3)
          ∧ r.2.mem ((c.tc : Thread Cert.KglaIdeal.nD Cert.KglaIdeal.τ).loc Cert.KglaIdeal.main_arg4) = m ((c.tc : Thread Cert.KglaIdeal.nD Cert.KglaIdeal.τ).loc Cert.KglaIdeal.main_arg4))
      ∧ θ_run (Cert.RglaIdeal.defs (F := Ideal)) (onTc (τ := Cert.RglaIdeal.τ) (Cert.RglaIdeal.main (F := Ideal))) ⟨m', fun _ => 0, g'⟩ (fun r => ∀ c : Dev Cert.RglaIdeal.nD,
          r.2.mem ((c.tc : Thread Cert.RglaIdeal.nD Cert.RglaIdeal.τ).loc Cert.RglaIdeal.main_v64) = v0 c
          ∧ r.2.mem ((c.tc : Thread Cert.RglaIdeal.nD Cert.RglaIdeal.τ).loc Cert.RglaIdeal.main_arg0) = m' ((c.tc : Thread Cert.RglaIdeal.nD Cert.RglaIdeal.τ).loc Cert.RglaIdeal.main_arg0)
          ∧ r.2.mem ((c.tc : Thread Cert.RglaIdeal.nD Cert.RglaIdeal.τ).loc Cert.RglaIdeal.main_arg1) = m' ((c.tc : Thread Cert.RglaIdeal.nD Cert.RglaIdeal.τ).loc Cert.RglaIdeal.main_arg1)
          ∧ r.2.mem ((c.tc : Thread Cert.RglaIdeal.nD Cert.RglaIdeal.τ).loc Cert.RglaIdeal.main_arg2) = m' ((c.tc : Thread Cert.RglaIdeal.nD Cert.RglaIdeal.τ).loc Cert.RglaIdeal.main_arg2)
          ∧ r.2.mem ((c.tc : Thread Cert.RglaIdeal.nD Cert.RglaIdeal.τ).loc Cert.RglaIdeal.main_arg3) = m' ((c.tc : Thread Cert.RglaIdeal.nD Cert.RglaIdeal.τ).loc Cert.RglaIdeal.main_arg3)
          ∧ r.2.mem ((c.tc : Thread Cert.RglaIdeal.nD Cert.RglaIdeal.τ).loc Cert.RglaIdeal.main_arg4) = m' ((c.tc : Thread Cert.RglaIdeal.nD Cert.RglaIdeal.τ).loc Cert.RglaIdeal.main_arg4))

def preserves_Kffn_KffnIdeal : Prop :=
  True

def algebraic_KffnIdeal_RffnIdeal [hKffnIdeal : Cert.KffnIdeal.Facts] [hRffnIdeal : Cert.RffnIdeal.Facts] : Prop :=
  ∀ (m : (ℓ : Loc Cert.KffnIdeal.nD Cert.KffnIdeal.τ Cert.KffnIdeal.sig) → Buf (Elt Ideal) ℓ) (g : Dev Cert.KffnIdeal.nD → PrngReg)
    (m' : (ℓ : Loc Cert.RffnIdeal.nD Cert.RffnIdeal.τ Cert.RffnIdeal.sig) → Buf (Elt Ideal) ℓ) (g' : Dev Cert.RffnIdeal.nD → PrngReg), Pre_KffnIdeal m →
    (∀ c : Dev Cert.KffnIdeal.nD,
      m' ((c.tc : Thread Cert.RffnIdeal.nD Cert.RffnIdeal.τ).loc Cert.RffnIdeal.main_arg0) = m ((c.tc : Thread Cert.KffnIdeal.nD Cert.KffnIdeal.τ).loc Cert.KffnIdeal.main_arg0)
      ∧ m' ((c.tc : Thread Cert.RffnIdeal.nD Cert.RffnIdeal.τ).loc Cert.RffnIdeal.main_arg1) = m ((c.tc : Thread Cert.KffnIdeal.nD Cert.KffnIdeal.τ).loc Cert.KffnIdeal.main_arg1)
      ∧ m' ((c.tc : Thread Cert.RffnIdeal.nD Cert.RffnIdeal.τ).loc Cert.RffnIdeal.main_arg2) = m ((c.tc : Thread Cert.KffnIdeal.nD Cert.KffnIdeal.τ).loc Cert.KffnIdeal.main_arg2)
      ∧ m' ((c.tc : Thread Cert.RffnIdeal.nD Cert.RffnIdeal.τ).loc Cert.RffnIdeal.main_arg3) = m ((c.tc : Thread Cert.KffnIdeal.nD Cert.KffnIdeal.τ).loc Cert.KffnIdeal.main_arg3)) →
    ∃ (v0 : (c : Dev Cert.KffnIdeal.nD) → Buf (Elt Ideal) ((c.tc : Thread Cert.KffnIdeal.nD Cert.KffnIdeal.τ).loc Cert.KffnIdeal.main_v2)),
      θ_run (Cert.KffnIdeal.defs (F := Ideal)) (onTc (τ := Cert.KffnIdeal.τ) (Cert.KffnIdeal.main (F := Ideal))) ⟨m, fun _ => 0, g⟩ (fun r => ∀ c : Dev Cert.KffnIdeal.nD,
          r.2.mem ((c.tc : Thread Cert.KffnIdeal.nD Cert.KffnIdeal.τ).loc Cert.KffnIdeal.main_v2) = v0 c
          ∧ r.2.mem ((c.tc : Thread Cert.KffnIdeal.nD Cert.KffnIdeal.τ).loc Cert.KffnIdeal.main_arg0) = m ((c.tc : Thread Cert.KffnIdeal.nD Cert.KffnIdeal.τ).loc Cert.KffnIdeal.main_arg0)
          ∧ r.2.mem ((c.tc : Thread Cert.KffnIdeal.nD Cert.KffnIdeal.τ).loc Cert.KffnIdeal.main_arg1) = m ((c.tc : Thread Cert.KffnIdeal.nD Cert.KffnIdeal.τ).loc Cert.KffnIdeal.main_arg1)
          ∧ r.2.mem ((c.tc : Thread Cert.KffnIdeal.nD Cert.KffnIdeal.τ).loc Cert.KffnIdeal.main_arg2) = m ((c.tc : Thread Cert.KffnIdeal.nD Cert.KffnIdeal.τ).loc Cert.KffnIdeal.main_arg2)
          ∧ r.2.mem ((c.tc : Thread Cert.KffnIdeal.nD Cert.KffnIdeal.τ).loc Cert.KffnIdeal.main_arg3) = m ((c.tc : Thread Cert.KffnIdeal.nD Cert.KffnIdeal.τ).loc Cert.KffnIdeal.main_arg3))
      ∧ θ_run (Cert.RffnIdeal.defs (F := Ideal)) (onTc (τ := Cert.RffnIdeal.τ) (Cert.RffnIdeal.main (F := Ideal))) ⟨m', fun _ => 0, g'⟩ (fun r => ∀ c : Dev Cert.RffnIdeal.nD,
          r.2.mem ((c.tc : Thread Cert.RffnIdeal.nD Cert.RffnIdeal.τ).loc Cert.RffnIdeal.main_v27) = v0 c
          ∧ r.2.mem ((c.tc : Thread Cert.RffnIdeal.nD Cert.RffnIdeal.τ).loc Cert.RffnIdeal.main_arg0) = m' ((c.tc : Thread Cert.RffnIdeal.nD Cert.RffnIdeal.τ).loc Cert.RffnIdeal.main_arg0)
          ∧ r.2.mem ((c.tc : Thread Cert.RffnIdeal.nD Cert.RffnIdeal.τ).loc Cert.RffnIdeal.main_arg1) = m' ((c.tc : Thread Cert.RffnIdeal.nD Cert.RffnIdeal.τ).loc Cert.RffnIdeal.main_arg1)
          ∧ r.2.mem ((c.tc : Thread Cert.RffnIdeal.nD Cert.RffnIdeal.τ).loc Cert.RffnIdeal.main_arg2) = m' ((c.tc : Thread Cert.RffnIdeal.nD Cert.RffnIdeal.τ).loc Cert.RffnIdeal.main_arg2)
          ∧ r.2.mem ((c.tc : Thread Cert.RffnIdeal.nD Cert.RffnIdeal.τ).loc Cert.RffnIdeal.main_arg3) = m' ((c.tc : Thread Cert.RffnIdeal.nD Cert.RffnIdeal.τ).loc Cert.RffnIdeal.main_arg3))

def preserves_Kmerge_KmergeIdeal : Prop :=
  True

def algebraic_KmergeIdeal_RmergeIdeal [hKmergeIdeal : Cert.KmergeIdeal.Facts] [hRmergeIdeal : Cert.RmergeIdeal.Facts] : Prop :=
  ∀ (m : (ℓ : Loc Cert.KmergeIdeal.nD Cert.KmergeIdeal.τ Cert.KmergeIdeal.sig) → Buf (Elt Ideal) ℓ) (g : Dev Cert.KmergeIdeal.nD → PrngReg)
    (m' : (ℓ : Loc Cert.RmergeIdeal.nD Cert.RmergeIdeal.τ Cert.RmergeIdeal.sig) → Buf (Elt Ideal) ℓ) (g' : Dev Cert.RmergeIdeal.nD → PrngReg), Pre_KmergeIdeal m →
    (∀ c : Dev Cert.KmergeIdeal.nD,
      m' ((c.tc : Thread Cert.RmergeIdeal.nD Cert.RmergeIdeal.τ).loc Cert.RmergeIdeal.main_arg0) = m ((c.tc : Thread Cert.KmergeIdeal.nD Cert.KmergeIdeal.τ).loc Cert.KmergeIdeal.main_arg0)
      ∧ m' ((c.tc : Thread Cert.RmergeIdeal.nD Cert.RmergeIdeal.τ).loc Cert.RmergeIdeal.main_arg1) = m ((c.tc : Thread Cert.KmergeIdeal.nD Cert.KmergeIdeal.τ).loc Cert.KmergeIdeal.main_arg1)
      ∧ m' ((c.tc : Thread Cert.RmergeIdeal.nD Cert.RmergeIdeal.τ).loc Cert.RmergeIdeal.main_arg2) = m ((c.tc : Thread Cert.KmergeIdeal.nD Cert.KmergeIdeal.τ).loc Cert.KmergeIdeal.main_arg2)
      ∧ m' ((c.tc : Thread Cert.RmergeIdeal.nD Cert.RmergeIdeal.τ).loc Cert.RmergeIdeal.main_arg3) = m ((c.tc : Thread Cert.KmergeIdeal.nD Cert.KmergeIdeal.τ).loc Cert.KmergeIdeal.main_arg3)
      ∧ m' ((c.tc : Thread Cert.RmergeIdeal.nD Cert.RmergeIdeal.τ).loc Cert.RmergeIdeal.main_arg4) = m ((c.tc : Thread Cert.KmergeIdeal.nD Cert.KmergeIdeal.τ).loc Cert.KmergeIdeal.main_arg4)
      ∧ m' ((c.tc : Thread Cert.RmergeIdeal.nD Cert.RmergeIdeal.τ).loc Cert.RmergeIdeal.main_arg5) = m ((c.tc : Thread Cert.KmergeIdeal.nD Cert.KmergeIdeal.τ).loc Cert.KmergeIdeal.main_arg5)
      ∧ m' ((c.tc : Thread Cert.RmergeIdeal.nD Cert.RmergeIdeal.τ).loc Cert.RmergeIdeal.main_arg6) = m ((c.tc : Thread Cert.KmergeIdeal.nD Cert.KmergeIdeal.τ).loc Cert.KmergeIdeal.main_arg6)
      ∧ m' ((c.tc : Thread Cert.RmergeIdeal.nD Cert.RmergeIdeal.τ).loc Cert.RmergeIdeal.main_arg7) = m ((c.tc : Thread Cert.KmergeIdeal.nD Cert.KmergeIdeal.τ).loc Cert.KmergeIdeal.main_arg7)) →
    ∃ (v0 : (c : Dev Cert.KmergeIdeal.nD) → Buf (Elt Ideal) ((c.tc : Thread Cert.KmergeIdeal.nD Cert.KmergeIdeal.τ).loc Cert.KmergeIdeal.main_v5)),
      θ_run (Cert.KmergeIdeal.defs (F := Ideal)) (onTc (τ := Cert.KmergeIdeal.τ) (Cert.KmergeIdeal.main (F := Ideal))) ⟨m, fun _ => 0, g⟩ (fun r => ∀ c : Dev Cert.KmergeIdeal.nD,
          r.2.mem ((c.tc : Thread Cert.KmergeIdeal.nD Cert.KmergeIdeal.τ).loc Cert.KmergeIdeal.main_v5) = v0 c
          ∧ r.2.mem ((c.tc : Thread Cert.KmergeIdeal.nD Cert.KmergeIdeal.τ).loc Cert.KmergeIdeal.main_arg0) = m ((c.tc : Thread Cert.KmergeIdeal.nD Cert.KmergeIdeal.τ).loc Cert.KmergeIdeal.main_arg0)
          ∧ r.2.mem ((c.tc : Thread Cert.KmergeIdeal.nD Cert.KmergeIdeal.τ).loc Cert.KmergeIdeal.main_arg1) = m ((c.tc : Thread Cert.KmergeIdeal.nD Cert.KmergeIdeal.τ).loc Cert.KmergeIdeal.main_arg1)
          ∧ r.2.mem ((c.tc : Thread Cert.KmergeIdeal.nD Cert.KmergeIdeal.τ).loc Cert.KmergeIdeal.main_arg2) = m ((c.tc : Thread Cert.KmergeIdeal.nD Cert.KmergeIdeal.τ).loc Cert.KmergeIdeal.main_arg2)
          ∧ r.2.mem ((c.tc : Thread Cert.KmergeIdeal.nD Cert.KmergeIdeal.τ).loc Cert.KmergeIdeal.main_arg3) = m ((c.tc : Thread Cert.KmergeIdeal.nD Cert.KmergeIdeal.τ).loc Cert.KmergeIdeal.main_arg3)
          ∧ r.2.mem ((c.tc : Thread Cert.KmergeIdeal.nD Cert.KmergeIdeal.τ).loc Cert.KmergeIdeal.main_arg4) = m ((c.tc : Thread Cert.KmergeIdeal.nD Cert.KmergeIdeal.τ).loc Cert.KmergeIdeal.main_arg4)
          ∧ r.2.mem ((c.tc : Thread Cert.KmergeIdeal.nD Cert.KmergeIdeal.τ).loc Cert.KmergeIdeal.main_arg5) = m ((c.tc : Thread Cert.KmergeIdeal.nD Cert.KmergeIdeal.τ).loc Cert.KmergeIdeal.main_arg5)
          ∧ r.2.mem ((c.tc : Thread Cert.KmergeIdeal.nD Cert.KmergeIdeal.τ).loc Cert.KmergeIdeal.main_arg6) = m ((c.tc : Thread Cert.KmergeIdeal.nD Cert.KmergeIdeal.τ).loc Cert.KmergeIdeal.main_arg6)
          ∧ r.2.mem ((c.tc : Thread Cert.KmergeIdeal.nD Cert.KmergeIdeal.τ).loc Cert.KmergeIdeal.main_arg7) = m ((c.tc : Thread Cert.KmergeIdeal.nD Cert.KmergeIdeal.τ).loc Cert.KmergeIdeal.main_arg7))
      ∧ θ_run (Cert.RmergeIdeal.defs (F := Ideal)) (onTc (τ := Cert.RmergeIdeal.τ) (Cert.RmergeIdeal.main (F := Ideal))) ⟨m', fun _ => 0, g'⟩ (fun r => ∀ c : Dev Cert.RmergeIdeal.nD,
          r.2.mem ((c.tc : Thread Cert.RmergeIdeal.nD Cert.RmergeIdeal.τ).loc Cert.RmergeIdeal.main_v27) = v0 c
          ∧ r.2.mem ((c.tc : Thread Cert.RmergeIdeal.nD Cert.RmergeIdeal.τ).loc Cert.RmergeIdeal.main_arg0) = m' ((c.tc : Thread Cert.RmergeIdeal.nD Cert.RmergeIdeal.τ).loc Cert.RmergeIdeal.main_arg0)
          ∧ r.2.mem ((c.tc : Thread Cert.RmergeIdeal.nD Cert.RmergeIdeal.τ).loc Cert.RmergeIdeal.main_arg1) = m' ((c.tc : Thread Cert.RmergeIdeal.nD Cert.RmergeIdeal.τ).loc Cert.RmergeIdeal.main_arg1)
          ∧ r.2.mem ((c.tc : Thread Cert.RmergeIdeal.nD Cert.RmergeIdeal.τ).loc Cert.RmergeIdeal.main_arg2) = m' ((c.tc : Thread Cert.RmergeIdeal.nD Cert.RmergeIdeal.τ).loc Cert.RmergeIdeal.main_arg2)
          ∧ r.2.mem ((c.tc : Thread Cert.RmergeIdeal.nD Cert.RmergeIdeal.τ).loc Cert.RmergeIdeal.main_arg3) = m' ((c.tc : Thread Cert.RmergeIdeal.nD Cert.RmergeIdeal.τ).loc Cert.RmergeIdeal.main_arg3)
          ∧ r.2.mem ((c.tc : Thread Cert.RmergeIdeal.nD Cert.RmergeIdeal.τ).loc Cert.RmergeIdeal.main_arg4) = m' ((c.tc : Thread Cert.RmergeIdeal.nD Cert.RmergeIdeal.τ).loc Cert.RmergeIdeal.main_arg4)
          ∧ r.2.mem ((c.tc : Thread Cert.RmergeIdeal.nD Cert.RmergeIdeal.τ).loc Cert.RmergeIdeal.main_arg5) = m' ((c.tc : Thread Cert.RmergeIdeal.nD Cert.RmergeIdeal.τ).loc Cert.RmergeIdeal.main_arg5)
          ∧ r.2.mem ((c.tc : Thread Cert.RmergeIdeal.nD Cert.RmergeIdeal.τ).loc Cert.RmergeIdeal.main_arg6) = m' ((c.tc : Thread Cert.RmergeIdeal.nD Cert.RmergeIdeal.τ).loc Cert.RmergeIdeal.main_arg6)
          ∧ r.2.mem ((c.tc : Thread Cert.RmergeIdeal.nD Cert.RmergeIdeal.τ).loc Cert.RmergeIdeal.main_arg7) = m' ((c.tc : Thread Cert.RmergeIdeal.nD Cert.RmergeIdeal.τ).loc Cert.RmergeIdeal.main_arg7))

def preserves_Kin_KinIdeal : Prop :=
  True

def algebraic_KinIdeal_RinIdeal [hKinIdeal : Cert.KinIdeal.Facts] [hRinIdeal : Cert.RinIdeal.Facts] : Prop :=
  ∀ (m : (ℓ : Loc Cert.KinIdeal.nD Cert.KinIdeal.τ Cert.KinIdeal.sig) → Buf (Elt Ideal) ℓ) (g : Dev Cert.KinIdeal.nD → PrngReg)
    (m' : (ℓ : Loc Cert.RinIdeal.nD Cert.RinIdeal.τ Cert.RinIdeal.sig) → Buf (Elt Ideal) ℓ) (g' : Dev Cert.RinIdeal.nD → PrngReg), Pre_KinIdeal m →
    (∀ c : Dev Cert.KinIdeal.nD,
      m' ((c.tc : Thread Cert.RinIdeal.nD Cert.RinIdeal.τ).loc Cert.RinIdeal.main_arg0) = m ((c.tc : Thread Cert.KinIdeal.nD Cert.KinIdeal.τ).loc Cert.KinIdeal.main_arg0)
      ∧ m' ((c.tc : Thread Cert.RinIdeal.nD Cert.RinIdeal.τ).loc Cert.RinIdeal.main_arg1) = m ((c.tc : Thread Cert.KinIdeal.nD Cert.KinIdeal.τ).loc Cert.KinIdeal.main_arg1)) →
    ∃ (v0 : (c : Dev Cert.KinIdeal.nD) → Buf (Elt Ideal) ((c.tc : Thread Cert.KinIdeal.nD Cert.KinIdeal.τ).loc Cert.KinIdeal.main_v2)),
      θ_run (Cert.KinIdeal.defs (F := Ideal)) (onTc (τ := Cert.KinIdeal.τ) (Cert.KinIdeal.main (F := Ideal))) ⟨m, fun _ => 0, g⟩ (fun r => ∀ c : Dev Cert.KinIdeal.nD,
          r.2.mem ((c.tc : Thread Cert.KinIdeal.nD Cert.KinIdeal.τ).loc Cert.KinIdeal.main_v2) = v0 c
          ∧ r.2.mem ((c.tc : Thread Cert.KinIdeal.nD Cert.KinIdeal.τ).loc Cert.KinIdeal.main_arg0) = m ((c.tc : Thread Cert.KinIdeal.nD Cert.KinIdeal.τ).loc Cert.KinIdeal.main_arg0)
          ∧ r.2.mem ((c.tc : Thread Cert.KinIdeal.nD Cert.KinIdeal.τ).loc Cert.KinIdeal.main_arg1) = m ((c.tc : Thread Cert.KinIdeal.nD Cert.KinIdeal.τ).loc Cert.KinIdeal.main_arg1))
      ∧ θ_run (Cert.RinIdeal.defs (F := Ideal)) (onTc (τ := Cert.RinIdeal.τ) (Cert.RinIdeal.main (F := Ideal))) ⟨m', fun _ => 0, g'⟩ (fun r => ∀ c : Dev Cert.RinIdeal.nD,
          r.2.mem ((c.tc : Thread Cert.RinIdeal.nD Cert.RinIdeal.τ).loc Cert.RinIdeal.main_v3) = v0 c
          ∧ r.2.mem ((c.tc : Thread Cert.RinIdeal.nD Cert.RinIdeal.τ).loc Cert.RinIdeal.main_arg0) = m' ((c.tc : Thread Cert.RinIdeal.nD Cert.RinIdeal.τ).loc Cert.RinIdeal.main_arg0)
          ∧ r.2.mem ((c.tc : Thread Cert.RinIdeal.nD Cert.RinIdeal.τ).loc Cert.RinIdeal.main_arg1) = m' ((c.tc : Thread Cert.RinIdeal.nD Cert.RinIdeal.τ).loc Cert.RinIdeal.main_arg1))

def preserves_Kdown_KdownIdeal : Prop :=
  True

def algebraic_KdownIdeal_RdownIdeal [hKdownIdeal : Cert.KdownIdeal.Facts] [hRdownIdeal : Cert.RdownIdeal.Facts] : Prop :=
  ∀ (m : (ℓ : Loc Cert.KdownIdeal.nD Cert.KdownIdeal.τ Cert.KdownIdeal.sig) → Buf (Elt Ideal) ℓ) (g : Dev Cert.KdownIdeal.nD → PrngReg)
    (m' : (ℓ : Loc Cert.RdownIdeal.nD Cert.RdownIdeal.τ Cert.RdownIdeal.sig) → Buf (Elt Ideal) ℓ) (g' : Dev Cert.RdownIdeal.nD → PrngReg), Pre_KdownIdeal m →
    (∀ c : Dev Cert.KdownIdeal.nD,
      m' ((c.tc : Thread Cert.RdownIdeal.nD Cert.RdownIdeal.τ).loc Cert.RdownIdeal.main_arg0) = m ((c.tc : Thread Cert.KdownIdeal.nD Cert.KdownIdeal.τ).loc Cert.KdownIdeal.main_arg0)
      ∧ m' ((c.tc : Thread Cert.RdownIdeal.nD Cert.RdownIdeal.τ).loc Cert.RdownIdeal.main_arg1) = m ((c.tc : Thread Cert.KdownIdeal.nD Cert.KdownIdeal.τ).loc Cert.KdownIdeal.main_arg1)
      ∧ m' ((c.tc : Thread Cert.RdownIdeal.nD Cert.RdownIdeal.τ).loc Cert.RdownIdeal.main_arg2) = m ((c.tc : Thread Cert.KdownIdeal.nD Cert.KdownIdeal.τ).loc Cert.KdownIdeal.main_arg2)
      ∧ m' ((c.tc : Thread Cert.RdownIdeal.nD Cert.RdownIdeal.τ).loc Cert.RdownIdeal.main_arg3) = m ((c.tc : Thread Cert.KdownIdeal.nD Cert.KdownIdeal.τ).loc Cert.KdownIdeal.main_arg3)) →
    ∃ (v0 : (c : Dev Cert.KdownIdeal.nD) → Buf (Elt Ideal) ((c.tc : Thread Cert.KdownIdeal.nD Cert.KdownIdeal.τ).loc Cert.KdownIdeal.main_v1)),
      θ_run (Cert.KdownIdeal.defs (F := Ideal)) (onTc (τ := Cert.KdownIdeal.τ) (Cert.KdownIdeal.main (F := Ideal))) ⟨m, fun _ => 0, g⟩ (fun r => ∀ c : Dev Cert.KdownIdeal.nD,
          r.2.mem ((c.tc : Thread Cert.KdownIdeal.nD Cert.KdownIdeal.τ).loc Cert.KdownIdeal.main_v1) = v0 c
          ∧ r.2.mem ((c.tc : Thread Cert.KdownIdeal.nD Cert.KdownIdeal.τ).loc Cert.KdownIdeal.main_arg0) = m ((c.tc : Thread Cert.KdownIdeal.nD Cert.KdownIdeal.τ).loc Cert.KdownIdeal.main_arg0)
          ∧ r.2.mem ((c.tc : Thread Cert.KdownIdeal.nD Cert.KdownIdeal.τ).loc Cert.KdownIdeal.main_arg1) = m ((c.tc : Thread Cert.KdownIdeal.nD Cert.KdownIdeal.τ).loc Cert.KdownIdeal.main_arg1)
          ∧ r.2.mem ((c.tc : Thread Cert.KdownIdeal.nD Cert.KdownIdeal.τ).loc Cert.KdownIdeal.main_arg2) = m ((c.tc : Thread Cert.KdownIdeal.nD Cert.KdownIdeal.τ).loc Cert.KdownIdeal.main_arg2)
          ∧ r.2.mem ((c.tc : Thread Cert.KdownIdeal.nD Cert.KdownIdeal.τ).loc Cert.KdownIdeal.main_arg3) = m ((c.tc : Thread Cert.KdownIdeal.nD Cert.KdownIdeal.τ).loc Cert.KdownIdeal.main_arg3))
      ∧ θ_run (Cert.RdownIdeal.defs (F := Ideal)) (onTc (τ := Cert.RdownIdeal.τ) (Cert.RdownIdeal.main (F := Ideal))) ⟨m', fun _ => 0, g'⟩ (fun r => ∀ c : Dev Cert.RdownIdeal.nD,
          r.2.mem ((c.tc : Thread Cert.RdownIdeal.nD Cert.RdownIdeal.τ).loc Cert.RdownIdeal.main_v7) = v0 c
          ∧ r.2.mem ((c.tc : Thread Cert.RdownIdeal.nD Cert.RdownIdeal.τ).loc Cert.RdownIdeal.main_arg0) = m' ((c.tc : Thread Cert.RdownIdeal.nD Cert.RdownIdeal.τ).loc Cert.RdownIdeal.main_arg0)
          ∧ r.2.mem ((c.tc : Thread Cert.RdownIdeal.nD Cert.RdownIdeal.τ).loc Cert.RdownIdeal.main_arg1) = m' ((c.tc : Thread Cert.RdownIdeal.nD Cert.RdownIdeal.τ).loc Cert.RdownIdeal.main_arg1)
          ∧ r.2.mem ((c.tc : Thread Cert.RdownIdeal.nD Cert.RdownIdeal.τ).loc Cert.RdownIdeal.main_arg2) = m' ((c.tc : Thread Cert.RdownIdeal.nD Cert.RdownIdeal.τ).loc Cert.RdownIdeal.main_arg2)
          ∧ r.2.mem ((c.tc : Thread Cert.RdownIdeal.nD Cert.RdownIdeal.τ).loc Cert.RdownIdeal.main_arg3) = m' ((c.tc : Thread Cert.RdownIdeal.nD Cert.RdownIdeal.τ).loc Cert.RdownIdeal.main_arg3))

def preserves_Kout_KoutIdeal : Prop :=
  True

def algebraic_KoutIdeal_RoutIdeal [hKoutIdeal : Cert.KoutIdeal.Facts] [hRoutIdeal : Cert.RoutIdeal.Facts] : Prop :=
  ∀ (m : (ℓ : Loc Cert.KoutIdeal.nD Cert.KoutIdeal.τ Cert.KoutIdeal.sig) → Buf (Elt Ideal) ℓ) (g : Dev Cert.KoutIdeal.nD → PrngReg)
    (m' : (ℓ : Loc Cert.RoutIdeal.nD Cert.RoutIdeal.τ Cert.RoutIdeal.sig) → Buf (Elt Ideal) ℓ) (g' : Dev Cert.RoutIdeal.nD → PrngReg), Pre_KoutIdeal m →
    (∀ c : Dev Cert.KoutIdeal.nD,
      m' ((c.tc : Thread Cert.RoutIdeal.nD Cert.RoutIdeal.τ).loc Cert.RoutIdeal.main_arg0) = m ((c.tc : Thread Cert.KoutIdeal.nD Cert.KoutIdeal.τ).loc Cert.KoutIdeal.main_arg0)
      ∧ m' ((c.tc : Thread Cert.RoutIdeal.nD Cert.RoutIdeal.τ).loc Cert.RoutIdeal.main_arg1) = m ((c.tc : Thread Cert.KoutIdeal.nD Cert.KoutIdeal.τ).loc Cert.KoutIdeal.main_arg1)
      ∧ m' ((c.tc : Thread Cert.RoutIdeal.nD Cert.RoutIdeal.τ).loc Cert.RoutIdeal.main_arg2) = m ((c.tc : Thread Cert.KoutIdeal.nD Cert.KoutIdeal.τ).loc Cert.KoutIdeal.main_arg2)
      ∧ m' ((c.tc : Thread Cert.RoutIdeal.nD Cert.RoutIdeal.τ).loc Cert.RoutIdeal.main_arg3) = m ((c.tc : Thread Cert.KoutIdeal.nD Cert.KoutIdeal.τ).loc Cert.KoutIdeal.main_arg3)) →
    ∃ (v0 : (c : Dev Cert.KoutIdeal.nD) → Buf (Elt Ideal) ((c.tc : Thread Cert.KoutIdeal.nD Cert.KoutIdeal.τ).loc Cert.KoutIdeal.main_v1)),
      θ_run (Cert.KoutIdeal.defs (F := Ideal)) (onTc (τ := Cert.KoutIdeal.τ) (Cert.KoutIdeal.main (F := Ideal))) ⟨m, fun _ => 0, g⟩ (fun r => ∀ c : Dev Cert.KoutIdeal.nD,
          r.2.mem ((c.tc : Thread Cert.KoutIdeal.nD Cert.KoutIdeal.τ).loc Cert.KoutIdeal.main_v1) = v0 c
          ∧ r.2.mem ((c.tc : Thread Cert.KoutIdeal.nD Cert.KoutIdeal.τ).loc Cert.KoutIdeal.main_arg0) = m ((c.tc : Thread Cert.KoutIdeal.nD Cert.KoutIdeal.τ).loc Cert.KoutIdeal.main_arg0)
          ∧ r.2.mem ((c.tc : Thread Cert.KoutIdeal.nD Cert.KoutIdeal.τ).loc Cert.KoutIdeal.main_arg1) = m ((c.tc : Thread Cert.KoutIdeal.nD Cert.KoutIdeal.τ).loc Cert.KoutIdeal.main_arg1)
          ∧ r.2.mem ((c.tc : Thread Cert.KoutIdeal.nD Cert.KoutIdeal.τ).loc Cert.KoutIdeal.main_arg2) = m ((c.tc : Thread Cert.KoutIdeal.nD Cert.KoutIdeal.τ).loc Cert.KoutIdeal.main_arg2)
          ∧ r.2.mem ((c.tc : Thread Cert.KoutIdeal.nD Cert.KoutIdeal.τ).loc Cert.KoutIdeal.main_arg3) = m ((c.tc : Thread Cert.KoutIdeal.nD Cert.KoutIdeal.τ).loc Cert.KoutIdeal.main_arg3))
      ∧ θ_run (Cert.RoutIdeal.defs (F := Ideal)) (onTc (τ := Cert.RoutIdeal.τ) (Cert.RoutIdeal.main (F := Ideal))) ⟨m', fun _ => 0, g'⟩ (fun r => ∀ c : Dev Cert.RoutIdeal.nD,
          r.2.mem ((c.tc : Thread Cert.RoutIdeal.nD Cert.RoutIdeal.τ).loc Cert.RoutIdeal.main_v7) = v0 c
          ∧ r.2.mem ((c.tc : Thread Cert.RoutIdeal.nD Cert.RoutIdeal.τ).loc Cert.RoutIdeal.main_arg0) = m' ((c.tc : Thread Cert.RoutIdeal.nD Cert.RoutIdeal.τ).loc Cert.RoutIdeal.main_arg0)
          ∧ r.2.mem ((c.tc : Thread Cert.RoutIdeal.nD Cert.RoutIdeal.τ).loc Cert.RoutIdeal.main_arg1) = m' ((c.tc : Thread Cert.RoutIdeal.nD Cert.RoutIdeal.τ).loc Cert.RoutIdeal.main_arg1)
          ∧ r.2.mem ((c.tc : Thread Cert.RoutIdeal.nD Cert.RoutIdeal.τ).loc Cert.RoutIdeal.main_arg2) = m' ((c.tc : Thread Cert.RoutIdeal.nD Cert.RoutIdeal.τ).loc Cert.RoutIdeal.main_arg2)
          ∧ r.2.mem ((c.tc : Thread Cert.RoutIdeal.nD Cert.RoutIdeal.τ).loc Cert.RoutIdeal.main_arg3) = m' ((c.tc : Thread Cert.RoutIdeal.nD Cert.RoutIdeal.τ).loc Cert.RoutIdeal.main_arg3))

def preserves_Kmoba_KmobaIdeal : Prop :=
  True

def preserves_Kconv_KconvIdeal : Prop :=
  True

def algebraic_KconvIdeal_RconvIdeal [hKconvIdeal : Cert.KconvIdeal.Facts] [hRconvIdeal : Cert.RconvIdeal.Facts] : Prop :=
  ∀ (m : (ℓ : Loc Cert.KconvIdeal.nD Cert.KconvIdeal.τ Cert.KconvIdeal.sig) → Buf (Elt Ideal) ℓ) (g : Dev Cert.KconvIdeal.nD → PrngReg)
    (m' : (ℓ : Loc Cert.RconvIdeal.nD Cert.RconvIdeal.τ Cert.RconvIdeal.sig) → Buf (Elt Ideal) ℓ) (g' : Dev Cert.RconvIdeal.nD → PrngReg), Pre_KconvIdeal m →
    (∀ c : Dev Cert.KconvIdeal.nD,
      m' ((c.tc : Thread Cert.RconvIdeal.nD Cert.RconvIdeal.τ).loc Cert.RconvIdeal.main_arg0) = m ((c.tc : Thread Cert.KconvIdeal.nD Cert.KconvIdeal.τ).loc Cert.KconvIdeal.main_arg0)
      ∧ m' ((c.tc : Thread Cert.RconvIdeal.nD Cert.RconvIdeal.τ).loc Cert.RconvIdeal.main_arg1) = m ((c.tc : Thread Cert.KconvIdeal.nD Cert.KconvIdeal.τ).loc Cert.KconvIdeal.main_arg1)) →
    ∃ (v0 : (c : Dev Cert.KconvIdeal.nD) → Buf (Elt Ideal) ((c.tc : Thread Cert.KconvIdeal.nD Cert.KconvIdeal.τ).loc Cert.KconvIdeal.main_v0)),
      θ_run (Cert.KconvIdeal.defs (F := Ideal)) (onTc (τ := Cert.KconvIdeal.τ) (Cert.KconvIdeal.main (F := Ideal))) ⟨m, fun _ => 0, g⟩ (fun r => ∀ c : Dev Cert.KconvIdeal.nD,
          r.2.mem ((c.tc : Thread Cert.KconvIdeal.nD Cert.KconvIdeal.τ).loc Cert.KconvIdeal.main_v0) = v0 c
          ∧ r.2.mem ((c.tc : Thread Cert.KconvIdeal.nD Cert.KconvIdeal.τ).loc Cert.KconvIdeal.main_arg0) = m ((c.tc : Thread Cert.KconvIdeal.nD Cert.KconvIdeal.τ).loc Cert.KconvIdeal.main_arg0)
          ∧ r.2.mem ((c.tc : Thread Cert.KconvIdeal.nD Cert.KconvIdeal.τ).loc Cert.KconvIdeal.main_arg1) = m ((c.tc : Thread Cert.KconvIdeal.nD Cert.KconvIdeal.τ).loc Cert.KconvIdeal.main_arg1))
      ∧ θ_run (Cert.RconvIdeal.defs (F := Ideal)) (onTc (τ := Cert.RconvIdeal.τ) (Cert.RconvIdeal.main (F := Ideal))) ⟨m', fun _ => 0, g'⟩ (fun r => ∀ c : Dev Cert.RconvIdeal.nD,
          r.2.mem ((c.tc : Thread Cert.RconvIdeal.nD Cert.RconvIdeal.τ).loc Cert.RconvIdeal.main_v26) = v0 c
          ∧ r.2.mem ((c.tc : Thread Cert.RconvIdeal.nD Cert.RconvIdeal.τ).loc Cert.RconvIdeal.main_arg0) = m' ((c.tc : Thread Cert.RconvIdeal.nD Cert.RconvIdeal.τ).loc Cert.RconvIdeal.main_arg0)
          ∧ r.2.mem ((c.tc : Thread Cert.RconvIdeal.nD Cert.RconvIdeal.τ).loc Cert.RconvIdeal.main_arg1) = m' ((c.tc : Thread Cert.RconvIdeal.nD Cert.RconvIdeal.τ).loc Cert.RconvIdeal.main_arg1))

def preserves_Krank_KrankIdeal : Prop :=
  True

def algebraic_KrankIdeal_RrankIdeal [hKrankIdeal : Cert.KrankIdeal.Facts] [hRrankIdeal : Cert.RrankIdeal.Facts] : Prop :=
  ∀ (m : (ℓ : Loc Cert.KrankIdeal.nD Cert.KrankIdeal.τ Cert.KrankIdeal.sig) → Buf (Elt Ideal) ℓ) (g : Dev Cert.KrankIdeal.nD → PrngReg)
    (m' : (ℓ : Loc Cert.RrankIdeal.nD Cert.RrankIdeal.τ Cert.RrankIdeal.sig) → Buf (Elt Ideal) ℓ) (g' : Dev Cert.RrankIdeal.nD → PrngReg), Pre_KrankIdeal m →
    (∀ c : Dev Cert.KrankIdeal.nD,
      m' ((c.tc : Thread Cert.RrankIdeal.nD Cert.RrankIdeal.τ).loc Cert.RrankIdeal.main_arg0) = m ((c.tc : Thread Cert.KrankIdeal.nD Cert.KrankIdeal.τ).loc Cert.KrankIdeal.main_arg0)
      ∧ m' ((c.tc : Thread Cert.RrankIdeal.nD Cert.RrankIdeal.τ).loc Cert.RrankIdeal.main_arg1) = m ((c.tc : Thread Cert.KrankIdeal.nD Cert.KrankIdeal.τ).loc Cert.KrankIdeal.main_arg1)) →
    ∃ (v0 : (c : Dev Cert.KrankIdeal.nD) → Buf (Elt Ideal) ((c.tc : Thread Cert.KrankIdeal.nD Cert.KrankIdeal.τ).loc Cert.KrankIdeal.main_v5)),
      θ_run (Cert.KrankIdeal.defs (F := Ideal)) (onTc (τ := Cert.KrankIdeal.τ) (Cert.KrankIdeal.main (F := Ideal))) ⟨m, fun _ => 0, g⟩ (fun r => ∀ c : Dev Cert.KrankIdeal.nD,
          r.2.mem ((c.tc : Thread Cert.KrankIdeal.nD Cert.KrankIdeal.τ).loc Cert.KrankIdeal.main_v5) = v0 c
          ∧ r.2.mem ((c.tc : Thread Cert.KrankIdeal.nD Cert.KrankIdeal.τ).loc Cert.KrankIdeal.main_arg0) = m ((c.tc : Thread Cert.KrankIdeal.nD Cert.KrankIdeal.τ).loc Cert.KrankIdeal.main_arg0)
          ∧ r.2.mem ((c.tc : Thread Cert.KrankIdeal.nD Cert.KrankIdeal.τ).loc Cert.KrankIdeal.main_arg1) = m ((c.tc : Thread Cert.KrankIdeal.nD Cert.KrankIdeal.τ).loc Cert.KrankIdeal.main_arg1))
      ∧ θ_run (Cert.RrankIdeal.defs (F := Ideal)) (onTc (τ := Cert.RrankIdeal.τ) (Cert.RrankIdeal.main (F := Ideal))) ⟨m', fun _ => 0, g'⟩ (fun r => ∀ c : Dev Cert.RrankIdeal.nD,
          r.2.mem ((c.tc : Thread Cert.RrankIdeal.nD Cert.RrankIdeal.τ).loc Cert.RrankIdeal.main_v3) = v0 c
          ∧ r.2.mem ((c.tc : Thread Cert.RrankIdeal.nD Cert.RrankIdeal.τ).loc Cert.RrankIdeal.main_arg0) = m' ((c.tc : Thread Cert.RrankIdeal.nD Cert.RrankIdeal.τ).loc Cert.RrankIdeal.main_arg0)
          ∧ r.2.mem ((c.tc : Thread Cert.RrankIdeal.nD Cert.RrankIdeal.τ).loc Cert.RrankIdeal.main_arg1) = m' ((c.tc : Thread Cert.RrankIdeal.nD Cert.RrankIdeal.τ).loc Cert.RrankIdeal.main_arg1))

def preserves_Kmod_KmodIdeal : Prop :=
  True

def algebraic_KmodIdeal_RmodIdeal [hKmodIdeal : Cert.KmodIdeal.Facts] [hRmodIdeal : Cert.RmodIdeal.Facts] : Prop :=
  ∀ (m : (ℓ : Loc Cert.KmodIdeal.nD Cert.KmodIdeal.τ Cert.KmodIdeal.sig) → Buf (Elt Ideal) ℓ) (g : Dev Cert.KmodIdeal.nD → PrngReg)
    (m' : (ℓ : Loc Cert.RmodIdeal.nD Cert.RmodIdeal.τ Cert.RmodIdeal.sig) → Buf (Elt Ideal) ℓ) (g' : Dev Cert.RmodIdeal.nD → PrngReg), Pre_KmodIdeal m →
    (∀ c : Dev Cert.KmodIdeal.nD,
      m' ((c.tc : Thread Cert.RmodIdeal.nD Cert.RmodIdeal.τ).loc Cert.RmodIdeal.main_arg0) = m ((c.tc : Thread Cert.KmodIdeal.nD Cert.KmodIdeal.τ).loc Cert.KmodIdeal.main_arg0)
      ∧ m' ((c.tc : Thread Cert.RmodIdeal.nD Cert.RmodIdeal.τ).loc Cert.RmodIdeal.main_arg1) = m ((c.tc : Thread Cert.KmodIdeal.nD Cert.KmodIdeal.τ).loc Cert.KmodIdeal.main_arg1)
      ∧ m' ((c.tc : Thread Cert.RmodIdeal.nD Cert.RmodIdeal.τ).loc Cert.RmodIdeal.main_arg2) = m ((c.tc : Thread Cert.KmodIdeal.nD Cert.KmodIdeal.τ).loc Cert.KmodIdeal.main_arg2)
      ∧ m' ((c.tc : Thread Cert.RmodIdeal.nD Cert.RmodIdeal.τ).loc Cert.RmodIdeal.main_arg3) = m ((c.tc : Thread Cert.KmodIdeal.nD Cert.KmodIdeal.τ).loc Cert.KmodIdeal.main_arg3)) →
    ∃ (v0 : (c : Dev Cert.KmodIdeal.nD) → Buf (Elt Ideal) ((c.tc : Thread Cert.KmodIdeal.nD Cert.KmodIdeal.τ).loc Cert.KmodIdeal.main_v1)),
      θ_run (Cert.KmodIdeal.defs (F := Ideal)) (onTc (τ := Cert.KmodIdeal.τ) (Cert.KmodIdeal.main (F := Ideal))) ⟨m, fun _ => 0, g⟩ (fun r => ∀ c : Dev Cert.KmodIdeal.nD,
          r.2.mem ((c.tc : Thread Cert.KmodIdeal.nD Cert.KmodIdeal.τ).loc Cert.KmodIdeal.main_v1) = v0 c
          ∧ r.2.mem ((c.tc : Thread Cert.KmodIdeal.nD Cert.KmodIdeal.τ).loc Cert.KmodIdeal.main_arg0) = m ((c.tc : Thread Cert.KmodIdeal.nD Cert.KmodIdeal.τ).loc Cert.KmodIdeal.main_arg0)
          ∧ r.2.mem ((c.tc : Thread Cert.KmodIdeal.nD Cert.KmodIdeal.τ).loc Cert.KmodIdeal.main_arg1) = m ((c.tc : Thread Cert.KmodIdeal.nD Cert.KmodIdeal.τ).loc Cert.KmodIdeal.main_arg1)
          ∧ r.2.mem ((c.tc : Thread Cert.KmodIdeal.nD Cert.KmodIdeal.τ).loc Cert.KmodIdeal.main_arg2) = m ((c.tc : Thread Cert.KmodIdeal.nD Cert.KmodIdeal.τ).loc Cert.KmodIdeal.main_arg2)
          ∧ r.2.mem ((c.tc : Thread Cert.KmodIdeal.nD Cert.KmodIdeal.τ).loc Cert.KmodIdeal.main_arg3) = m ((c.tc : Thread Cert.KmodIdeal.nD Cert.KmodIdeal.τ).loc Cert.KmodIdeal.main_arg3))
      ∧ θ_run (Cert.RmodIdeal.defs (F := Ideal)) (onTc (τ := Cert.RmodIdeal.τ) (Cert.RmodIdeal.main (F := Ideal))) ⟨m', fun _ => 0, g'⟩ (fun r => ∀ c : Dev Cert.RmodIdeal.nD,
          r.2.mem ((c.tc : Thread Cert.RmodIdeal.nD Cert.RmodIdeal.τ).loc Cert.RmodIdeal.main_v19) = v0 c
          ∧ r.2.mem ((c.tc : Thread Cert.RmodIdeal.nD Cert.RmodIdeal.τ).loc Cert.RmodIdeal.main_arg0) = m' ((c.tc : Thread Cert.RmodIdeal.nD Cert.RmodIdeal.τ).loc Cert.RmodIdeal.main_arg0)
          ∧ r.2.mem ((c.tc : Thread Cert.RmodIdeal.nD Cert.RmodIdeal.τ).loc Cert.RmodIdeal.main_arg1) = m' ((c.tc : Thread Cert.RmodIdeal.nD Cert.RmodIdeal.τ).loc Cert.RmodIdeal.main_arg1)
          ∧ r.2.mem ((c.tc : Thread Cert.RmodIdeal.nD Cert.RmodIdeal.τ).loc Cert.RmodIdeal.main_arg2) = m' ((c.tc : Thread Cert.RmodIdeal.nD Cert.RmodIdeal.τ).loc Cert.RmodIdeal.main_arg2)
          ∧ r.2.mem ((c.tc : Thread Cert.RmodIdeal.nD Cert.RmodIdeal.τ).loc Cert.RmodIdeal.main_arg3) = m' ((c.tc : Thread Cert.RmodIdeal.nD Cert.RmodIdeal.τ).loc Cert.RmodIdeal.main_arg3))

def preserves_Kada_KadaIdeal : Prop :=
  True

def algebraic_KadaIdeal_RadaIdeal [hKadaIdeal : Cert.KadaIdeal.Facts] [hRadaIdeal : Cert.RadaIdeal.Facts] : Prop :=
  ∀ (m : (ℓ : Loc Cert.KadaIdeal.nD Cert.KadaIdeal.τ Cert.KadaIdeal.sig) → Buf (Elt Ideal) ℓ) (g : Dev Cert.KadaIdeal.nD → PrngReg)
    (m' : (ℓ : Loc Cert.RadaIdeal.nD Cert.RadaIdeal.τ Cert.RadaIdeal.sig) → Buf (Elt Ideal) ℓ) (g' : Dev Cert.RadaIdeal.nD → PrngReg), Pre_KadaIdeal m →
    (∀ c : Dev Cert.KadaIdeal.nD,
      m' ((c.tc : Thread Cert.RadaIdeal.nD Cert.RadaIdeal.τ).loc Cert.RadaIdeal.main_arg0) = m ((c.tc : Thread Cert.KadaIdeal.nD Cert.KadaIdeal.τ).loc Cert.KadaIdeal.main_arg0)
      ∧ m' ((c.tc : Thread Cert.RadaIdeal.nD Cert.RadaIdeal.τ).loc Cert.RadaIdeal.main_arg1) = m ((c.tc : Thread Cert.KadaIdeal.nD Cert.KadaIdeal.τ).loc Cert.KadaIdeal.main_arg1)
      ∧ m' ((c.tc : Thread Cert.RadaIdeal.nD Cert.RadaIdeal.τ).loc Cert.RadaIdeal.main_arg2) = m ((c.tc : Thread Cert.KadaIdeal.nD Cert.KadaIdeal.τ).loc Cert.KadaIdeal.main_arg2)) →
    ∃ (v0 : (c : Dev Cert.KadaIdeal.nD) → Buf (Elt Ideal) ((c.tc : Thread Cert.KadaIdeal.nD Cert.KadaIdeal.τ).loc Cert.KadaIdeal.main_v1)),
      θ_run (Cert.KadaIdeal.defs (F := Ideal)) (onTc (τ := Cert.KadaIdeal.τ) (Cert.KadaIdeal.main (F := Ideal))) ⟨m, fun _ => 0, g⟩ (fun r => ∀ c : Dev Cert.KadaIdeal.nD,
          r.2.mem ((c.tc : Thread Cert.KadaIdeal.nD Cert.KadaIdeal.τ).loc Cert.KadaIdeal.main_v1) = v0 c
          ∧ r.2.mem ((c.tc : Thread Cert.KadaIdeal.nD Cert.KadaIdeal.τ).loc Cert.KadaIdeal.main_arg0) = m ((c.tc : Thread Cert.KadaIdeal.nD Cert.KadaIdeal.τ).loc Cert.KadaIdeal.main_arg0)
          ∧ r.2.mem ((c.tc : Thread Cert.KadaIdeal.nD Cert.KadaIdeal.τ).loc Cert.KadaIdeal.main_arg1) = m ((c.tc : Thread Cert.KadaIdeal.nD Cert.KadaIdeal.τ).loc Cert.KadaIdeal.main_arg1)
          ∧ r.2.mem ((c.tc : Thread Cert.KadaIdeal.nD Cert.KadaIdeal.τ).loc Cert.KadaIdeal.main_arg2) = m ((c.tc : Thread Cert.KadaIdeal.nD Cert.KadaIdeal.τ).loc Cert.KadaIdeal.main_arg2))
      ∧ θ_run (Cert.RadaIdeal.defs (F := Ideal)) (onTc (τ := Cert.RadaIdeal.τ) (Cert.RadaIdeal.main (F := Ideal))) ⟨m', fun _ => 0, g'⟩ (fun r => ∀ c : Dev Cert.RadaIdeal.nD,
          r.2.mem ((c.tc : Thread Cert.RadaIdeal.nD Cert.RadaIdeal.τ).loc Cert.RadaIdeal.main_v19) = v0 c
          ∧ r.2.mem ((c.tc : Thread Cert.RadaIdeal.nD Cert.RadaIdeal.τ).loc Cert.RadaIdeal.main_arg0) = m' ((c.tc : Thread Cert.RadaIdeal.nD Cert.RadaIdeal.τ).loc Cert.RadaIdeal.main_arg0)
          ∧ r.2.mem ((c.tc : Thread Cert.RadaIdeal.nD Cert.RadaIdeal.τ).loc Cert.RadaIdeal.main_arg1) = m' ((c.tc : Thread Cert.RadaIdeal.nD Cert.RadaIdeal.τ).loc Cert.RadaIdeal.main_arg1)
          ∧ r.2.mem ((c.tc : Thread Cert.RadaIdeal.nD Cert.RadaIdeal.τ).loc Cert.RadaIdeal.main_arg2) = m' ((c.tc : Thread Cert.RadaIdeal.nD Cert.RadaIdeal.τ).loc Cert.RadaIdeal.main_arg2))

def preserves_Knorm_KnormIdeal : Prop :=
  True

def algebraic_KnormIdeal_RnormIdeal [hKnormIdeal : Cert.KnormIdeal.Facts] [hRnormIdeal : Cert.RnormIdeal.Facts] : Prop :=
  ∀ (m : (ℓ : Loc Cert.KnormIdeal.nD Cert.KnormIdeal.τ Cert.KnormIdeal.sig) → Buf (Elt Ideal) ℓ) (g : Dev Cert.KnormIdeal.nD → PrngReg)
    (m' : (ℓ : Loc Cert.RnormIdeal.nD Cert.RnormIdeal.τ Cert.RnormIdeal.sig) → Buf (Elt Ideal) ℓ) (g' : Dev Cert.RnormIdeal.nD → PrngReg), Pre_KnormIdeal m →
    (∀ c : Dev Cert.KnormIdeal.nD,
      m' ((c.tc : Thread Cert.RnormIdeal.nD Cert.RnormIdeal.τ).loc Cert.RnormIdeal.main_arg0) = m ((c.tc : Thread Cert.KnormIdeal.nD Cert.KnormIdeal.τ).loc Cert.KnormIdeal.main_arg0)
      ∧ m' ((c.tc : Thread Cert.RnormIdeal.nD Cert.RnormIdeal.τ).loc Cert.RnormIdeal.main_arg1) = m ((c.tc : Thread Cert.KnormIdeal.nD Cert.KnormIdeal.τ).loc Cert.KnormIdeal.main_arg1)) →
    ∃ (v0 : (c : Dev Cert.KnormIdeal.nD) → Buf (Elt Ideal) ((c.tc : Thread Cert.KnormIdeal.nD Cert.KnormIdeal.τ).loc Cert.KnormIdeal.main_v1)),
      θ_run (Cert.KnormIdeal.defs (F := Ideal)) (onTc (τ := Cert.KnormIdeal.τ) (Cert.KnormIdeal.main (F := Ideal))) ⟨m, fun _ => 0, g⟩ (fun r => ∀ c : Dev Cert.KnormIdeal.nD,
          r.2.mem ((c.tc : Thread Cert.KnormIdeal.nD Cert.KnormIdeal.τ).loc Cert.KnormIdeal.main_v1) = v0 c
          ∧ r.2.mem ((c.tc : Thread Cert.KnormIdeal.nD Cert.KnormIdeal.τ).loc Cert.KnormIdeal.main_arg0) = m ((c.tc : Thread Cert.KnormIdeal.nD Cert.KnormIdeal.τ).loc Cert.KnormIdeal.main_arg0)
          ∧ r.2.mem ((c.tc : Thread Cert.KnormIdeal.nD Cert.KnormIdeal.τ).loc Cert.KnormIdeal.main_arg1) = m ((c.tc : Thread Cert.KnormIdeal.nD Cert.KnormIdeal.τ).loc Cert.KnormIdeal.main_arg1))
      ∧ θ_run (Cert.RnormIdeal.defs (F := Ideal)) (onTc (τ := Cert.RnormIdeal.τ) (Cert.RnormIdeal.main (F := Ideal))) ⟨m', fun _ => 0, g'⟩ (fun r => ∀ c : Dev Cert.RnormIdeal.nD,
          r.2.mem ((c.tc : Thread Cert.RnormIdeal.nD Cert.RnormIdeal.τ).loc Cert.RnormIdeal.main_v12) = v0 c
          ∧ r.2.mem ((c.tc : Thread Cert.RnormIdeal.nD Cert.RnormIdeal.τ).loc Cert.RnormIdeal.main_arg0) = m' ((c.tc : Thread Cert.RnormIdeal.nD Cert.RnormIdeal.τ).loc Cert.RnormIdeal.main_arg0)
          ∧ r.2.mem ((c.tc : Thread Cert.RnormIdeal.nD Cert.RnormIdeal.τ).loc Cert.RnormIdeal.main_arg1) = m' ((c.tc : Thread Cert.RnormIdeal.nD Cert.RnormIdeal.τ).loc Cert.RnormIdeal.main_arg1))

def Claim : Prop :=
  ∃ (hKgla : Cert.Kgla.Facts) (hKglaIdeal : Cert.KglaIdeal.Facts) (hRglaIdeal : Cert.RglaIdeal.Facts) (hKffn : Cert.Kffn.Facts) (hKffnIdeal : Cert.KffnIdeal.Facts) (hRffnIdeal : Cert.RffnIdeal.Facts) (hKmerge : Cert.Kmerge.Facts) (hKmergeIdeal : Cert.KmergeIdeal.Facts) (hRmergeIdeal : Cert.RmergeIdeal.Facts) (hKin : Cert.Kin.Facts) (hKinIdeal : Cert.KinIdeal.Facts) (hRinIdeal : Cert.RinIdeal.Facts) (hKdown : Cert.Kdown.Facts) (hKdownIdeal : Cert.KdownIdeal.Facts) (hRdownIdeal : Cert.RdownIdeal.Facts) (hKout : Cert.Kout.Facts) (hKoutIdeal : Cert.KoutIdeal.Facts) (hRoutIdeal : Cert.RoutIdeal.Facts) (hKmoba : Cert.Kmoba.Facts) (hKmobaIdeal : Cert.KmobaIdeal.Facts) (hKconv : Cert.Kconv.Facts) (hKconvIdeal : Cert.KconvIdeal.Facts) (hRconvIdeal : Cert.RconvIdeal.Facts) (hKrank : Cert.Krank.Facts) (hKrankIdeal : Cert.KrankIdeal.Facts) (hRrankIdeal : Cert.RrankIdeal.Facts) (hKmod : Cert.Kmod.Facts) (hKmodIdeal : Cert.KmodIdeal.Facts) (hRmodIdeal : Cert.RmodIdeal.Facts) (hKada : Cert.Kada.Facts) (hKadaIdeal : Cert.KadaIdeal.Facts) (hRadaIdeal : Cert.RadaIdeal.Facts) (hKnorm : Cert.Knorm.Facts) (hKnormIdeal : Cert.KnormIdeal.Facts) (hRnormIdeal : Cert.RnormIdeal.Facts) (hPre_finite : Cert.Pre_finite.Facts),
    quiescent_Kgla (hKgla := hKgla)
    ∧ quiescent_KglaIdeal (hKglaIdeal := hKglaIdeal)
    ∧ quiescent_KglaIdeal_pre_finite (hKglaIdeal := hKglaIdeal) (hPre_finite := hPre_finite)
    ∧ quiescent_RglaIdeal (hRglaIdeal := hRglaIdeal)
    ∧ quiescent_RglaIdeal_pre_finite (hRglaIdeal := hRglaIdeal) (hPre_finite := hPre_finite)
    ∧ quiescent_Kffn (hKffn := hKffn)
    ∧ quiescent_KffnIdeal (hKffnIdeal := hKffnIdeal)
    ∧ quiescent_RffnIdeal (hRffnIdeal := hRffnIdeal)
    ∧ quiescent_Kmerge (hKmerge := hKmerge)
    ∧ quiescent_KmergeIdeal (hKmergeIdeal := hKmergeIdeal)
    ∧ quiescent_RmergeIdeal (hRmergeIdeal := hRmergeIdeal)
    ∧ quiescent_Kin (hKin := hKin)
    ∧ quiescent_KinIdeal (hKinIdeal := hKinIdeal)
    ∧ quiescent_RinIdeal (hRinIdeal := hRinIdeal)
    ∧ quiescent_Kdown (hKdown := hKdown)
    ∧ quiescent_KdownIdeal (hKdownIdeal := hKdownIdeal)
    ∧ quiescent_RdownIdeal (hRdownIdeal := hRdownIdeal)
    ∧ quiescent_Kout (hKout := hKout)
    ∧ quiescent_KoutIdeal (hKoutIdeal := hKoutIdeal)
    ∧ quiescent_RoutIdeal (hRoutIdeal := hRoutIdeal)
    ∧ quiescent_Kmoba (hKmoba := hKmoba)
    ∧ quiescent_KmobaIdeal (hKmobaIdeal := hKmobaIdeal)
    ∧ quiescent_Kconv (hKconv := hKconv)
    ∧ quiescent_KconvIdeal (hKconvIdeal := hKconvIdeal)
    ∧ quiescent_RconvIdeal (hRconvIdeal := hRconvIdeal)
    ∧ quiescent_Krank (hKrank := hKrank)
    ∧ quiescent_KrankIdeal (hKrankIdeal := hKrankIdeal)
    ∧ quiescent_RrankIdeal (hRrankIdeal := hRrankIdeal)
    ∧ quiescent_Kmod (hKmod := hKmod)
    ∧ quiescent_KmodIdeal (hKmodIdeal := hKmodIdeal)
    ∧ quiescent_RmodIdeal (hRmodIdeal := hRmodIdeal)
    ∧ quiescent_Kada (hKada := hKada)
    ∧ quiescent_KadaIdeal (hKadaIdeal := hKadaIdeal)
    ∧ quiescent_RadaIdeal (hRadaIdeal := hRadaIdeal)
    ∧ quiescent_Knorm (hKnorm := hKnorm)
    ∧ quiescent_KnormIdeal (hKnormIdeal := hKnormIdeal)
    ∧ quiescent_RnormIdeal (hRnormIdeal := hRnormIdeal)
    ∧ preserves_Kgla_KglaIdeal
    ∧ algebraic_KglaIdeal_RglaIdeal_pre_finite (hKglaIdeal := hKglaIdeal) (hRglaIdeal := hRglaIdeal) (hPre_finite := hPre_finite)
    ∧ preserves_Kffn_KffnIdeal
    ∧ algebraic_KffnIdeal_RffnIdeal (hKffnIdeal := hKffnIdeal) (hRffnIdeal := hRffnIdeal)
    ∧ preserves_Kmerge_KmergeIdeal
    ∧ algebraic_KmergeIdeal_RmergeIdeal (hKmergeIdeal := hKmergeIdeal) (hRmergeIdeal := hRmergeIdeal)
    ∧ preserves_Kin_KinIdeal
    ∧ algebraic_KinIdeal_RinIdeal (hKinIdeal := hKinIdeal) (hRinIdeal := hRinIdeal)
    ∧ preserves_Kdown_KdownIdeal
    ∧ algebraic_KdownIdeal_RdownIdeal (hKdownIdeal := hKdownIdeal) (hRdownIdeal := hRdownIdeal)
    ∧ preserves_Kout_KoutIdeal
    ∧ algebraic_KoutIdeal_RoutIdeal (hKoutIdeal := hKoutIdeal) (hRoutIdeal := hRoutIdeal)
    ∧ preserves_Kmoba_KmobaIdeal
    ∧ preserves_Kconv_KconvIdeal
    ∧ algebraic_KconvIdeal_RconvIdeal (hKconvIdeal := hKconvIdeal) (hRconvIdeal := hRconvIdeal)
    ∧ preserves_Krank_KrankIdeal
    ∧ algebraic_KrankIdeal_RrankIdeal (hKrankIdeal := hKrankIdeal) (hRrankIdeal := hRrankIdeal)
    ∧ preserves_Kmod_KmodIdeal
    ∧ algebraic_KmodIdeal_RmodIdeal (hKmodIdeal := hKmodIdeal) (hRmodIdeal := hRmodIdeal)
    ∧ preserves_Kada_KadaIdeal
    ∧ algebraic_KadaIdeal_RadaIdeal (hKadaIdeal := hKadaIdeal) (hRadaIdeal := hRadaIdeal)
    ∧ preserves_Knorm_KnormIdeal
    ∧ algebraic_KnormIdeal_RnormIdeal (hKnormIdeal := hKnormIdeal) (hRnormIdeal := hRnormIdeal)
-- ==== Pre_finite.lean ====
abbrev S4x2048x12288 : Shape := ⟨3, ![4, 2048, 12288]⟩
abbrev S4x2048x128 : Shape := ⟨3, ![4, 2048, 128]⟩
abbrev S16x768 : Shape := ⟨2, ![16, 768]⟩
abbrev S768 : Shape := ⟨1, ![768]⟩
abbrev S128 : Shape := ⟨1, ![128]⟩
abbrev S4x2048x16 : Shape := ⟨3, ![4, 2048, 16]⟩
abbrev S_ : Shape := ⟨0, ![]⟩

class Facts : Prop where
  slices_S4x2048x128_S4x2048x16_0_0_0 : S4x2048x128.Slices ![0, 0, 0] S4x2048x16
  bcast_S_S16x768 : S_.BroadcastsInDim S16x768 (![] : Fin 0 → Fin S16x768.rank)
  reducesTo_S16x768_S_d0_1 : S16x768.ReducesTo [0, 1] S_
  h_S_ : 0 < S_.numel
  bcast_S_S4x2048x16 : S_.BroadcastsInDim S4x2048x16 (![] : Fin 0 → Fin S4x2048x16.rank)
  reducesTo_S4x2048x16_S_d0_1_2 : S4x2048x16.ReducesTo [0, 1, 2] S_

variable [Facts]

def fn {F : FTy → Type} [FloatOps F] (main_arg0 : FVec F S4x2048x12288 .bf16) (main_arg1 : FVec F S4x2048x128 .f32) (main_arg2 : FVec F S16x768 .f32) (main_arg3 : FVec F S768 .f32) (main_arg4 : FVec F S128 .f32) : IVec S_ 1 :=
  let main_v0 : FVec F S4x2048x16 .f32 := (extractStridedSlice S4x2048x16 ![0, 0, 0] · slices_S4x2048x128_S4x2048x16_0_0_0) main_arg1
  let main_v1 : FVec F S16x768 .f32 := subf main_arg2 main_arg2
  let main_cst : FVec F S_ .f32 := constant S_ .f32 0x00000000#32
  let main_v2 : FVec F S16x768 .f32 := broadcastInDim S16x768 ![] bcast_S_S16x768 main_cst
  let main_v3 : IVec S16x768 1 := cmpf .oeq main_v1 main_v2
  let main_c : IVec S_ 1 := constantI S_ 1 1#1
  let main_v4 : IVec S_ 1 := (fun x v => Host.reduce IntOp.andi x v reducesTo_S16x768_S_d0_1 h_S_) main_v3 main_c
  let main_v5 : FVec F S4x2048x16 .f32 := subf main_v0 main_v0
  let main_cst_0 : FVec F S_ .f32 := constant S_ .f32 0x00000000#32
  let main_v6 : FVec F S4x2048x16 .f32 := broadcastInDim S4x2048x16 ![] bcast_S_S4x2048x16 main_cst_0
  let main_v7 : IVec S4x2048x16 1 := cmpf .oeq main_v5 main_v6
  let main_c_1 : IVec S_ 1 := constantI S_ 1 1#1
  let main_v8 : IVec S_ 1 := (fun x v => Host.reduce IntOp.andi x v reducesTo_S4x2048x16_S_d0_1_2 h_S_) main_v7 main_c_1
  let main_v9 : IVec S_ 1 := andi main_v4 main_v8
  main_v9
-- ==== Kgla.lean ====
abbrev S4x2048x12288 : Shape := ⟨3, ![4, 2048, 12288]⟩
abbrev S4x2048x128 : Shape := ⟨3, ![4, 2048, 128]⟩
abbrev S16x768 : Shape := ⟨2, ![16, 768]⟩
abbrev S768 : Shape := ⟨1, ![768]⟩
abbrev S128 : Shape := ⟨1, ![128]⟩
abbrev S_ : Shape := ⟨0, ![]⟩
abbrev S128x768 : Shape := ⟨2, ![128, 768]⟩
abbrev S1 : Shape := ⟨1, ![1]⟩
abbrev S1x768 : Shape := ⟨2, ![1, 768]⟩
abbrev S1x128 : Shape := ⟨2, ![1, 128]⟩
abbrev S4x2048x1536 : Shape := ⟨3, ![4, 2048, 1536]⟩
abbrev S1x2048x128 : Shape := ⟨3, ![1, 2048, 128]⟩
abbrev S1x2048x256 : Shape := ⟨3, ![1, 2048, 256]⟩
abbrev S128x128 : Shape := ⟨2, ![128, 128]⟩
abbrev S256x128 : Shape := ⟨2, ![256, 128]⟩
abbrev S64x64 : Shape := ⟨2, ![64, 64]⟩
abbrev S1x64x128 : Shape := ⟨3, ![1, 64, 128]⟩
abbrev S64x128 : Shape := ⟨2, ![64, 128]⟩
abbrev S1x64x256 : Shape := ⟨3, ![1, 64, 256]⟩
abbrev S64x256 : Shape := ⟨2, ![64, 256]⟩
abbrev S64 : Shape := ⟨1, ![64]⟩
abbrev S64x1 : Shape := ⟨2, ![64, 1]⟩

abbrev nBuf : Space → Nat
  | .hbm => 13
  | .vmem => 18
  | .smem => 0
  | _ => 0

abbrev bufTy : (tb : Table) → Fin (tcTables nBuf tb) → BufTy
  | .hbm, ⟨0, _⟩ => ⟨S4x2048x12288, .bf16⟩
  | .hbm, ⟨1, _⟩ => ⟨S4x2048x128, .f32⟩
  | .hbm, ⟨2, _⟩ => ⟨S16x768, .f32⟩
  | .hbm, ⟨3, _⟩ => ⟨S768, .f32⟩
  | .hbm, ⟨4, _⟩ => ⟨S128, .f32⟩
  | .hbm, ⟨5, _⟩ => ⟨S_, .f32⟩
  | .hbm, ⟨6, _⟩ => ⟨S128x768, .f32⟩
  | .hbm, ⟨7, _⟩ => ⟨S_, .i32⟩
  | .hbm, ⟨8, _⟩ => ⟨S1, .i32⟩
  | .hbm, ⟨9, _⟩ => ⟨S128x768, .f32⟩
  | .hbm, ⟨10, _⟩ => ⟨S1x768, .f32⟩
  | .hbm, ⟨11, _⟩ => ⟨S1x128, .f32⟩
  | .hbm, ⟨12, _⟩ => ⟨S4x2048x1536, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x128, .f32⟩
  | .local _ .vmem, ⟨9, _⟩ => ⟨S1x2048x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x2048x256, .bf16⟩
  | .local _ .vmem, ⟨16, _⟩ => ⟨S1x2048x256, .bf16⟩
  | .local _ .vmem, ⟨17, _⟩ => ⟨S256x128, .f32⟩
  | _, _ => ⟨S4x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 6], ![false, false]⟩

@[reducible] def k0_t1_loop : Scf.Loop 32 :=
  let c0_i32 : BitVec 32 := 0#32
  let c32_i32 : BitVec 32 := 32#32
  let v40 : BitVec 32 := Scalar.addi c0_i32 c32_i32
  let c1_i32 : BitVec 32 := 1#32
  ⟨c0_i32, v40, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32_17 : BitVec 32 := 64#32
  let v41 : BitVec 32 := Scalar.muli arg12 c64_i32_17
  v41
def k0_off1 (k0_t1 : Fin k0_t1_loop.trips) : Fin 3 → Nat :=
  let c0_18 : Index := 0#32
  let c0_i32 : BitVec 32 := 0#32
  let c1_i32 : BitVec 32 := 1#32
  let arg12 : BitVec 32 := Scf.iv c0_i32 c1_i32 k0_t1
  let c64_i32_17 : BitVec 32 := 64#32
  let v41 : BitVec 32 := Scalar.muli arg12 c64_i32_17
  let v42 : BitVec 32 := v41
  let v43 : Index := Scalar.indexCast v42
  let c0_19 : Index := 0#32
  ![0, v43.toNat, 0]
def k0_off2 (k0_t1 : Fin k0_t1_loop.trips) : Fin 3 → Nat :=
  let c0_35 : Index := 0#32
  let c0_i32 : BitVec 32 := 0#32
  let c1_i32 : BitVec 32 := 1#32
  let arg12 : BitVec 32 := Scf.iv c0_i32 c1_i32 k0_t1
  let c64_i32_17 : BitVec 32 := 64#32
  let v41 : BitVec 32 := Scalar.muli arg12 c64_i32_17
  let v42 : BitVec 32 := v41
  let v102 : Index := Scalar.indexCast v42
  let c0_36 : Index := 0#32
  ![0, v102.toNat, 0]
def cc0_transform_0 (i : grid0.Coords) : Fin 3 → Nat :=
  let arg0 : BitVec 32 := BitVec.ofNat 32 (i 0).val
  let arg1 : BitVec 32 := BitVec.ofNat 32 (i 1).val
  let c60_i32 : BitVec 32 := 60#32
  let v0 : BitVec 32 := Scalar.addi c60_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RglaIdeal.lean ====
abbrev S4x2048x12288 : Shape := ⟨3, ![4, 2048, 12288]⟩
abbrev S4x2048x128 : Shape := ⟨3, ![4, 2048, 128]⟩
abbrev S16x768 : Shape := ⟨2, ![16, 768]⟩
abbrev S768 : Shape := ⟨1, ![768]⟩
abbrev S128 : Shape := ⟨1, ![128]⟩
abbrev S4x2048x768 : Shape := ⟨3, ![4, 2048, 768]⟩
abbrev S4x2048x1536 : Shape := ⟨3, ![4, 2048, 1536]⟩
abbrev S4x2048x16 : Shape := ⟨3, ![4, 2048, 16]⟩
abbrev S1x1x768 : Shape := ⟨3, ![1, 1, 768]⟩
abbrev S_ : Shape := ⟨0, ![]⟩
abbrev S4x32x64x12x64 : Shape := ⟨5, ![4, 32, 64, 12, 64]⟩
abbrev S32x4x12x64x64 : Shape := ⟨5, ![32, 4, 12, 64, 64]⟩
abbrev S4x32x64x12x128 : Shape := ⟨5, ![4, 32, 64, 12, 128]⟩
abbrev S32x4x12x64x128 : Shape := ⟨5, ![32, 4, 12, 64, 128]⟩
abbrev S64x64 : Shape := ⟨2, ![64, 64]⟩
abbrev S32x4x12x1x64 : Shape := ⟨5, ![32, 4, 12, 1, 64]⟩
abbrev S32x4x12x64 : Shape := ⟨4, ![32, 4, 12, 64]⟩
abbrev S4x12x64x128 : Shape := ⟨4, ![4, 12, 64, 128]⟩
abbrev S1x4x12x64x64 : Shape := ⟨5, ![1, 4, 12, 64, 64]⟩
abbrev S4x12x64x64 : Shape := ⟨4, ![4, 12, 64, 64]⟩
abbrev S1x4x12x64 : Shape := ⟨4, ![1, 4, 12, 64]⟩
abbrev S4x12x64 : Shape := ⟨3, ![4, 12, 64]⟩
abbrev S1x4x12x64x128 : Shape := ⟨5, ![1, 4, 12, 64, 128]⟩
abbrev S4x12x64x1 : Shape := ⟨4, ![4, 12, 64, 1]⟩
abbrev S4x2048x12x128 : Shape := ⟨4, ![4, 2048, 12, 128]⟩
abbrev S4x2048x12 : Shape := ⟨3, ![4, 2048, 12]⟩
abbrev S4x2048x12x1 : Shape := ⟨4, ![4, 2048, 12, 1]⟩
abbrev S1x1x1x128 : Shape := ⟨4, ![1, 1, 1, 128]⟩

abbrev nBuf : Space → Nat
  | .hbm => 162
  | .vmem => 0
  | .smem => 0
  | _ => 0

abbrev hbmTy0_0 (i : Nat) : BufTy := match i % 128 with
  | 0 => ⟨S4x2048x12288, .bf16⟩
  | 1 => ⟨S4x2048x128, .f32⟩
  | 2 => ⟨S16x768, .f32⟩
  | 3 => ⟨S768, .f32⟩
  | 4 => ⟨S128, .f32⟩
  | 5 => ⟨S4x2048x12288, .f32⟩
  | 6 => ⟨S4x2048x768, .f32⟩
  | 7 => ⟨S4x2048x768, .f32⟩
  | 8 => ⟨S4x2048x1536, .f32⟩
  | 9 => ⟨S4x2048x16, .f32⟩
  | 10 => ⟨S4x2048x768, .f32⟩
  | 11 => ⟨S1x1x768, .f32⟩
  | 12 => ⟨S4x2048x768, .f32⟩
  | 13 => ⟨S4x2048x768, .f32⟩
  | 14 => ⟨S4x2048x768, .f32⟩
  | 15 => ⟨S_, .f32⟩
  | 16 => ⟨S4x2048x768, .f32⟩
  | 17 => ⟨S4x2048x768, .f32⟩
  | 18 => ⟨S4x2048x768, .f32⟩
  | 19 => ⟨S4x2048x768, .f32⟩
  | 20 => ⟨S4x2048x768, .i1⟩
  | 21 => ⟨S4x2048x768, .f32⟩
  | 22 => ⟨S4x2048x768, .f32⟩
  | 23 => ⟨S4x2048x768, .f32⟩
  | 24 => ⟨S4x2048x768, .f32⟩
  | 25 => ⟨S4x2048x768, .f32⟩
  | 26 => ⟨S4x2048x768, .f32⟩
  | 27 => ⟨S4x2048x768, .f32⟩
  | 28 => ⟨S4x2048x768, .f32⟩
  | 29 => ⟨S4x2048x768, .f32⟩
  | 30 => ⟨S_, .f32⟩
  | 31 => ⟨S4x2048x768, .f32⟩
  | 32 => ⟨S4x2048x768, .f32⟩
  | 33 => ⟨S_, .f32⟩
  | 34 => ⟨S4x2048x768, .f32⟩
  | 35 => ⟨S4x2048x768, .f32⟩
  | 36 => ⟨S4x32x64x12x64, .f32⟩
  | 37 => ⟨S32x4x12x64x64, .f32⟩
  | 38 => ⟨S4x32x64x12x64, .f32⟩
  | 39 => ⟨S32x4x12x64x64, .f32⟩
  | 40 => ⟨S4x32x64x12x64, .f32⟩
  | 41 => ⟨S32x4x12x64x64, .f32⟩
  | 42 => ⟨S4x32x64x12x128, .f32⟩
  | 43 => ⟨S32x4x12x64x128, .f32⟩
  | 44 => ⟨S_, .f32⟩
  | 45 => ⟨S_, .f32⟩
  | 46 => ⟨S32x4x12x64x64, .f32⟩
  | 47 => ⟨S32x4x12x64x64, .f32⟩
  | 48 => ⟨S32x4x12x64x64, .f32⟩
  | 49 => ⟨S32x4x12x64x64, .f32⟩
  | 50 => ⟨S32x4x12x64x64, .f32⟩
  | 51 => ⟨S32x4x12x64x64, .f32⟩
  | 52 => ⟨S_, .i1⟩
  | 53 => ⟨S64x64, .i1⟩
  | 54 => ⟨S64x64, .i32⟩
  | 55 => ⟨S_, .i32⟩
  | 56 => ⟨S64x64, .i32⟩
  | 57 => ⟨S64x64, .i32⟩
  | 58 => ⟨S64x64, .i32⟩
  | 59 => ⟨S64x64, .i1⟩
  | 60 => ⟨S_, .i1⟩
  | 61 => ⟨S64x64, .i1⟩
  | 62 => ⟨S64x64, .i1⟩
  | 63 => ⟨S32x4x12x64x64, .f32⟩
  | 64 => ⟨S_, .f32⟩
  | 65 => ⟨S_, .f32⟩
  | 66 => ⟨S32x4x12x64x64, .i1⟩
  | 67 => ⟨S32x4x12x64x64, .f32⟩
  | 68 => ⟨S32x4x12x64x64, .f32⟩
  | 69 => ⟨S32x4x12x64x128, .f32⟩
  | 70 => ⟨S32x4x12x1x64, .f32⟩
  | 71 => ⟨S32x4x12x64, .f32⟩
  | 72 => ⟨S32x4x12x1x64, .f32⟩
  | 73 => ⟨S32x4x12x64x64, .f32⟩
  | 74 => ⟨S32x4x12x64x64, .f32⟩
  | 75 => ⟨S32x4x12x64x64, .f32⟩
  | 76 => ⟨S32x4x12x64x64, .f32⟩
  | 77 => ⟨S32x4x12x64x128, .f32⟩
  | 78 => ⟨S_, .f32⟩
  | 79 => ⟨S4x12x64x128, .f32⟩
  | 80 => ⟨S_, .f32⟩
  | 81 => ⟨S32x4x12x64x128, .f32⟩
  | 82 => ⟨S_, .i32⟩
  | 83 => ⟨S32x4x12x64x64, .f32⟩
  | 84 => ⟨S32x4x12x64, .f32⟩
  | 85 => ⟨S32x4x12x64x128, .f32⟩
  | 86 => ⟨S32x4x12x64x128, .f32⟩
  | 87 => ⟨S_, .i32⟩
  | 88 => ⟨S4x12x64x128, .f32⟩
  | 89 => ⟨S32x4x12x64x128, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x4x12x64x64, .f32⟩
  | 97 => ⟨S4x12x64x64, .f32⟩
  | 98 => ⟨S_, .i32⟩
  | 99 => ⟨S_, .i32⟩
  | 100 => ⟨S_, .i32⟩
  | 101 => ⟨S1x4x12x64, .f32⟩
  | 102 => ⟨S4x12x64, .f32⟩
  | 103 => ⟨S_, .i32⟩
  | 104 => ⟨S_, .i32⟩
  | 105 => ⟨S_, .i32⟩
  | 106 => ⟨S_, .i32⟩
  | 107 => ⟨S1x4x12x64x128, .f32⟩
  | 108 => ⟨S4x12x64x128, .f32⟩
  | 109 => ⟨S_, .i32⟩
  | 110 => ⟨S_, .i32⟩
  | 111 => ⟨S_, .i32⟩
  | 112 => ⟨S_, .i32⟩
  | 113 => ⟨S1x4x12x64x128, .f32⟩
  | 114 => ⟨S4x12x64x128, .f32⟩
  | 115 => ⟨S4x12x64x128, .f32⟩
  | 116 => ⟨S4x12x64, .f32⟩
  | 117 => ⟨S4x12x64x1, .f32⟩
  | 118 => ⟨S4x12x64x128, .f32⟩
  | 119 => ⟨S4x12x64x128, .f32⟩
  | 120 => ⟨S4x12x64x128, .f32⟩
  | 121 => ⟨S4x12x64x128, .f32⟩
  | 122 => ⟨S1x4x12x64x128, .f32⟩
  | 123 => ⟨S_, .i32⟩
  | 124 => ⟨S_, .i32⟩
  | 125 => ⟨S_, .i32⟩
  | 126 => ⟨S_, .i32⟩
  | 127 => ⟨S32x4x12x64x128, .f32⟩
  | _ => ⟨S4x2048x12288, .bf16⟩

abbrev hbmTy0_1 (i : Nat) : BufTy := match i % 128 with
  | 0 => ⟨S_, .i32⟩
  | 1 => ⟨S_, .i32⟩
  | 2 => ⟨S4x32x64x12x128, .f32⟩
  | 3 => ⟨S4x2048x12x128, .f32⟩
  | 4 => ⟨S4x2048x12x128, .f32⟩
  | 5 => ⟨S_, .f32⟩
  | 6 => ⟨S4x2048x12, .f32⟩
  | 7 => ⟨S4x2048x12x1, .f32⟩
  | 8 => ⟨S_, .f32⟩
  | 9 => ⟨S4x2048x12x1, .f32⟩
  | 10 => ⟨S4x2048x12x1, .f32⟩
  | 11 => ⟨S_, .f32⟩
  | 12 => ⟨S4x2048x12x1, .f32⟩
  | 13 => ⟨S4x2048x12x1, .f32⟩
  | 14 => ⟨S4x2048x12x1, .f32⟩
  | 15 => ⟨S4x2048x12x128, .f32⟩
  | 16 => ⟨S4x2048x12x128, .f32⟩
  | 17 => ⟨S1x1x1x128, .f32⟩
  | 18 => ⟨S4x2048x12x128, .f32⟩
  | 19 => ⟨S4x2048x12x128, .f32⟩
  | 20 => ⟨S4x2048x1536, .f32⟩
  | 21 => ⟨S4x2048x12288, .f32⟩
  | 22 => ⟨S4x2048x1536, .f32⟩
  | 23 => ⟨S4x2048x1536, .f32⟩
  | 24 => ⟨S4x2048x1536, .f32⟩
  | 25 => ⟨S_, .f32⟩
  | 26 => ⟨S4x2048x1536, .f32⟩
  | 27 => ⟨S4x2048x1536, .f32⟩
  | 28 => ⟨S_, .f32⟩
  | 29 => ⟨S4x2048x1536, .f32⟩
  | 30 => ⟨S4x2048x1536, .f32⟩
  | 31 => ⟨S4x2048x1536, .f32⟩
  | 32 => ⟨S4x2048x1536, .f32⟩
  | 33 => ⟨S4x2048x1536, .bf16⟩
  | _ => ⟨S4x2048x12288, .bf16⟩

abbrev hbmTy (i : Nat) : BufTy := match i / 128 with
  | 0 => hbmTy0_0 i
  | 1 => hbmTy0_1 i
  | _ => ⟨S4x2048x12288, .bf16⟩

abbrev bufTy : (tb : Table) → Fin (tcTables nBuf tb) → BufTy
  | .hbm, ⟨i, _⟩ => hbmTy i
  | _, _ => ⟨S4x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_call0_cst : Ref sig .tc := ⟨.hbm, 44, rfl⟩
abbrev main_call1_call0_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_0 : Ref sig .tc := ⟨.hbm, 60, rfl⟩
abbrev main_call2_v5 : Ref sig .tc := ⟨.hbm, 61, rfl⟩
abbrev main_v29 : Ref sig .tc := ⟨.hbm, 62, rfl⟩
abbrev main_v30 : Ref sig .tc := ⟨.hbm, 63, rfl⟩
abbrev main_cst_1 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_2 : Ref sig .tc := ⟨.hbm, 78, rfl⟩
abbrev main_v41 : Ref sig .tc := ⟨.hbm, 79, rfl⟩
abbrev main_cst_3 : Ref sig .tc := ⟨.hbm, 80, rfl⟩
abbrev main_v42 : Ref sig .tc := ⟨.hbm, 81, rfl⟩
abbrev main_c_4 : Ref sig .tc := ⟨.hbm, 82, rfl⟩
abbrev main_v43_0 : Ref sig .tc := ⟨.hbm, 83, rfl⟩
abbrev main_v43_1 : Ref sig .tc := ⟨.hbm, 84, rfl⟩
abbrev main_v43_2 : Ref sig .tc := ⟨.hbm, 85, rfl⟩
abbrev main_v43_3 : Ref sig .tc := ⟨.hbm, 86, rfl⟩
abbrev main_v43_4 : Ref sig .tc := ⟨.hbm, 87, rfl⟩
abbrev main_v43_5 : Ref sig .tc := ⟨.hbm, 88, rfl⟩
abbrev main_v43_6 : Ref sig .tc := ⟨.hbm, 89, rfl⟩
abbrev main_while0c_c_14 : Ref sig .tc := ⟨.hbm, 90, rfl⟩
abbrev main_while0c_v65 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_c_2 : Ref sig .tc := ⟨.hbm, 95, rfl⟩
abbrev main_while0b_call4_v0 : Ref sig .tc := ⟨.hbm, 96, rfl⟩
abbrev main_while0b_v65 : Ref sig .tc := ⟨.hbm, 97, rfl⟩
abbrev main_while0b_call5_c : Ref sig .tc := ⟨.hbm, 98, rfl⟩
abbrev main_while0b_call5_c_0 : Ref sig .tc := ⟨.hbm, 99, rfl⟩
abbrev main_while0b_call5_c_1 : Ref sig .tc := ⟨.hbm, 100, rfl⟩
abbrev main_while0b_call5_v0 : Ref sig .tc := ⟨.hbm, 101, rfl⟩
abbrev main_while0b_v66 : Ref sig .tc := ⟨.hbm, 102, rfl⟩
abbrev main_while0b_call6_c : Ref sig .tc := ⟨.hbm, 103, rfl⟩
abbrev main_while0b_call6_c_0 : Ref sig .tc := ⟨.hbm, 104, rfl⟩
abbrev main_while0b_call6_c_1 : Ref sig .tc := ⟨.hbm, 105, rfl⟩
abbrev main_while0b_call6_c_2 : Ref sig .tc := ⟨.hbm, 106, rfl⟩
abbrev main_while0b_call6_v0 : Ref sig .tc := ⟨.hbm, 107, rfl⟩
abbrev main_while0b_v67 : Ref sig .tc := ⟨.hbm, 108, rfl⟩
abbrev main_while0b_call7_c : Ref sig .tc := ⟨.hbm, 109, rfl⟩
abbrev main_while0b_call7_c_0 : Ref sig .tc := ⟨.hbm, 110, rfl⟩
abbrev main_while0b_call7_c_1 : Ref sig .tc := ⟨.hbm, 111, rfl⟩
abbrev main_while0b_call7_c_2 : Ref sig .tc := ⟨.hbm, 112, rfl⟩
abbrev main_while0b_call7_v0 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_call8_v0 : Ref sig .tc := ⟨.hbm, 122, rfl⟩
abbrev main_while0b_call8_c : Ref sig .tc := ⟨.hbm, 123, rfl⟩
abbrev main_while0b_call8_c_0 : Ref sig .tc := ⟨.hbm, 124, rfl⟩
abbrev main_while0b_call8_c_1 : Ref sig .tc := ⟨.hbm, 125, rfl⟩
abbrev main_while0b_call8_c_2 : Ref sig .tc := ⟨.hbm, 126, rfl⟩
abbrev main_while0b_v76 : Ref sig .tc := ⟨.hbm, 127, rfl⟩
abbrev main_while0b_c_14 : Ref sig .tc := ⟨.hbm, 128, rfl⟩
abbrev main_while0b_v77 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_cst_5 : Ref sig .tc := ⟨.hbm, 133, rfl⟩
abbrev main_v47 : Ref sig .tc := ⟨.hbm, 134, rfl⟩
abbrev main_v48 : Ref sig .tc := ⟨.hbm, 135, rfl⟩
abbrev main_cst_6 : Ref sig .tc := ⟨.hbm, 136, rfl⟩
abbrev main_v49 : Ref sig .tc := ⟨.hbm, 137, rfl⟩
abbrev main_v50 : Ref sig .tc := ⟨.hbm, 138, rfl⟩
abbrev main_cst_7 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_call9_v0 : Ref sig .tc := ⟨.hbm, 151, rfl⟩
abbrev main_call9_v1 : Ref sig .tc := ⟨.hbm, 152, rfl⟩
abbrev main_call9_cst : Ref sig .tc := ⟨.hbm, 153, rfl⟩
abbrev main_call9_v2 : Ref sig .tc := ⟨.hbm, 154, rfl⟩
abbrev main_call9_v3 : Ref sig .tc := ⟨.hbm, 155, rfl⟩
abbrev main_call9_cst_0 : Ref sig .tc := ⟨.hbm, 156, rfl⟩
abbrev main_call9_v4 : Ref sig .tc := ⟨.hbm, 157, rfl⟩
abbrev main_call9_v5 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩

abbrev nD : Nat := 1
abbrev τ : Topo := Topo.v7x

variable {F : FTy → Type} [FloatOps F]

abbrev main_while0_count : Scf.Loop 32 := ⟨0#32, 32#32, 1#32⟩
-- ==== Kffn.lean ====
abbrev S8192x4096 : Shape := ⟨2, ![8192, 4096]⟩
abbrev S4096x11008 : Shape := ⟨2, ![4096, 11008]⟩
abbrev S3x11008 : Shape := ⟨2, ![3, 11008]⟩
abbrev S8192x11008 : Shape := ⟨2, ![8192, 11008]⟩
abbrev S1024x4096 : Shape := ⟨2, ![1024, 4096]⟩
abbrev S4096x256 : Shape := ⟨2, ![4096, 256]⟩
abbrev S3x256 : Shape := ⟨2, ![3, 256]⟩
abbrev S1024x256 : Shape := ⟨2, ![1024, 256]⟩
abbrev S43x8x256 : Shape := ⟨3, ![43, 8, 256]⟩
abbrev S8x256 : Shape := ⟨2, ![8, 256]⟩
abbrev S1x8x256 : Shape := ⟨3, ![1, 8, 256]⟩
abbrev S1x256 : Shape := ⟨2, ![1, 256]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .f32⟩
  | .hbm, ⟨2, _⟩ => ⟨S4096x11008, .f32⟩
  | .hbm, ⟨3, _⟩ => ⟨S3x11008, .f32⟩
  | .hbm, ⟨4, _⟩ => ⟨S4096x11008, .bf16⟩
  | .hbm, ⟨5, _⟩ => ⟨S4096x11008, .bf16⟩
  | .hbm, ⟨6, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S3x256, .f32⟩
  | .local _ .vmem, ⟨7, _⟩ => ⟨S3x256, .f32⟩
  | .local _ .vmem, ⟨8, _⟩ => ⟨S1024x256, .bf16⟩
  | .local _ .vmem, ⟨9, _⟩ => ⟨S1024x256, .bf16⟩
  | .local _ .vmem, ⟨10, _⟩ => ⟨S43x8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg0 : BitVec 32 := BitVec.ofNat 32 (i 0).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg0 v8
  let c0_i32_7 : BitVec 32 := 0#32
  let v11 : BitVec 1 := Scalar.cmpi .slt v9 c0_i32_7
  let c0_i32_8 : BitVec 32 := 0#32
  let v12 : BitVec 1 := Scalar.cmpi .slt v8 c0_i32_8
  let v13 : BitVec 1 := Scalar.xori v11 v12
  let c0_i32_6 : BitVec 32 := 0#32
  let v10 : BitVec 1 := Scalar.cmpi .ne v9 c0_i32_6
  let v14 : BitVec 1 := Scalar.andi v13 v10
  let v15 : BitVec 32 := Scalar.addi v9 v8
  let v16 : BitVec 32 := Scalar.select v14 v15 v9
  let c0_i32_9 : BitVec 32 := 0#32
  let v17 : BitVec 1 := Scalar.cmpi .eq v16 c0_i32_9
  let v18 : BitVec 32 := Scalar.extui v17
  let c0_i32_10 : BitVec 32 := 0#32
  let v19 : BitVec 1 := Scalar.cmpi .ne v18 c0_i32_10
  v19

def k0_off1 (i : grid0.Coords) : Fin 3 → Nat :=
  let arg1 : BitVec 32 := BitVec.ofNat 32 (i 1).val
  let v67 : Index := Scalar.indexCast arg1
  let c0_25 : Index := 0#32
  let c0_26 : Index := 0#32
  ![v67.toNat, 0, 0]
def k0_off2 (i : grid0.Coords) : Fin 3 → Nat :=
  let arg1 : BitVec 32 := BitVec.ofNat 32 (i 1).val
  let v20 : Index := Scalar.indexCast arg1
  let c0_11 : Index := 0#32
  let c0_12 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RffnIdeal.lean ====
abbrev S8192x4096 : Shape := ⟨2, ![8192, 4096]⟩
abbrev S4096x11008 : Shape := ⟨2, ![4096, 11008]⟩
abbrev S3x11008 : Shape := ⟨2, ![3, 11008]⟩
abbrev S4x2048x4096 : Shape := ⟨3, ![4, 2048, 4096]⟩
abbrev S4x2048x11008 : Shape := ⟨3, ![4, 2048, 11008]⟩
abbrev S_ : Shape := ⟨0, ![]⟩
abbrev S4x2050x11008 : Shape := ⟨3, ![4, 2050, 11008]⟩
abbrev S1x11008 : Shape := ⟨2, ![1, 11008]⟩
abbrev S11008 : Shape := ⟨1, ![11008]⟩
abbrev S1x1x11008 : Shape := ⟨3, ![1, 1, 11008]⟩
abbrev S8192x11008 : Shape := ⟨2, ![8192, 11008]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .f32⟩
  | .hbm, ⟨2, _⟩ => ⟨S4096x11008, .f32⟩
  | .hbm, ⟨3, _⟩ => ⟨S3x11008, .f32⟩
  | .hbm, ⟨4, _⟩ => ⟨S8192x4096, .f32⟩
  | .hbm, ⟨5, _⟩ => ⟨S4x2048x4096, .f32⟩
  | .hbm, ⟨6, _⟩ => ⟨S4x2048x11008, .f32⟩
  | .hbm, ⟨7, _⟩ => ⟨S_, .i32⟩
  | .hbm, ⟨8, _⟩ => ⟨S_, .f32⟩
  | .hbm, ⟨9, _⟩ => ⟨S4x2050x11008, .f32⟩
  | .hbm, ⟨10, _⟩ => ⟨S1x11008, .f32⟩
  | .hbm, ⟨11, _⟩ => ⟨S11008, .f32⟩
  | .hbm, ⟨12, _⟩ => ⟨S1x1x11008, .f32⟩
  | .hbm, ⟨13, _⟩ => ⟨S4x2048x11008, .f32⟩
  | .hbm, ⟨14, _⟩ => ⟨S4x2048x11008, .f32⟩
  | .hbm, ⟨15, _⟩ => ⟨S1x11008, .f32⟩
  | .hbm, ⟨16, _⟩ => ⟨S11008, .f32⟩
  | .hbm, ⟨17, _⟩ => ⟨S4x2048x11008, .f32⟩
  | .hbm, ⟨18, _⟩ => ⟨S1x1x11008, .f32⟩
  | .hbm, ⟨19, _⟩ => ⟨S4x2048x11008, .f32⟩
  | .hbm, ⟨20, _⟩ => ⟨S4x2048x11008, .f32⟩
  | .hbm, ⟨21, _⟩ => ⟨S4x2048x11008, .f32⟩
  | .hbm, ⟨22, _⟩ => ⟨S1x11008, .f32⟩
  | .hbm, ⟨23, _⟩ => ⟨S11008, .f32⟩
  | .hbm, ⟨24, _⟩ => ⟨S4x2048x11008, .f32⟩
  | .hbm, ⟨25, _⟩ => ⟨S1x1x11008, .f32⟩
  | .hbm, ⟨26, _⟩ => ⟨S4x2048x11008, .f32⟩
  | .hbm, ⟨27, _⟩ => ⟨S4x2048x11008, .f32⟩
  | .hbm, ⟨28, _⟩ => ⟨S4x2048x11008, .f32⟩
  | .hbm, ⟨29, _⟩ => ⟨S4x2048x11008, .f32⟩
  | .hbm, ⟨30, _⟩ => ⟨S4x2048x11008, .f32⟩
  | .hbm, ⟨31, _⟩ => ⟨S_, .f32⟩
  | .hbm, ⟨32, _⟩ => ⟨S4x2048x11008, .f32⟩
  | .hbm, ⟨33, _⟩ => ⟨S4x2048x11008, .f32⟩
  | .hbm, ⟨34, _⟩ => ⟨S_, .f32⟩
  | .hbm, ⟨35, _⟩ => ⟨S4x2048x11008, .f32⟩
  | .hbm, ⟨36, _⟩ => ⟨S4x2048x11008, .f32⟩
  | .hbm, ⟨37, _⟩ => ⟨S4x2048x11008, .f32⟩
  | .hbm, ⟨38, _⟩ => ⟨S4x2048x11008, .f32⟩
  | .hbm, ⟨39, _⟩ => ⟨S4x2048x11008, .f32⟩
  | .hbm, ⟨40, _⟩ => ⟨S4x2048x11008, .bf16⟩
  | .hbm, ⟨41, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kmerge.lean ====
abbrev S8192x4096 : Shape := ⟨2, ![8192, 4096]⟩
abbrev S8192x1536 : Shape := ⟨2, ![8192, 1536]⟩
abbrev S8192x1024 : Shape := ⟨2, ![8192, 1024]⟩
abbrev S4096x24592 : Shape := ⟨2, ![4096, 24592]⟩
abbrev S1536x4096 : Shape := ⟨2, ![1536, 4096]⟩
abbrev S1024x4096 : Shape := ⟨2, ![1024, 4096]⟩
abbrev S4096x12288 : Shape := ⟨2, ![4096, 12288]⟩
abbrev S512x4096 : Shape := ⟨2, ![512, 4096]⟩
abbrev S512x1536 : Shape := ⟨2, ![512, 1536]⟩
abbrev S512x1024 : Shape := ⟨2, ![512, 1024]⟩
abbrev S4096x256 : Shape := ⟨2, ![4096, 256]⟩
abbrev S1536x256 : Shape := ⟨2, ![1536, 256]⟩
abbrev S1024x256 : Shape := ⟨2, ![1024, 256]⟩
abbrev S512x256 : Shape := ⟨2, ![512, 256]⟩

abbrev nBuf : Space → Nat
  | .hbm => 14
  | .vmem => 22
  | .smem => 0
  | _ => 0

abbrev bufTy : (tb : Table) → Fin (tcTables nBuf tb) → BufTy
  | .hbm, ⟨0, _⟩ => ⟨S8192x4096, .bf16⟩
  | .hbm, ⟨1, _⟩ => ⟨S8192x1536, .bf16⟩
  | .hbm, ⟨2, _⟩ => ⟨S8192x1024, .bf16⟩
  | .hbm, ⟨3, _⟩ => ⟨S8192x1536, .bf16⟩
  | .hbm, ⟨4, _⟩ => ⟨S4096x24592, .f32⟩
  | .hbm, ⟨5, _⟩ => ⟨S1536x4096, .f32⟩
  | .hbm, ⟨6, _⟩ => ⟨S1024x4096, .f32⟩
  | .hbm, ⟨7, _⟩ => ⟨S1536x4096, .f32⟩
  | .hbm, ⟨8, _⟩ => ⟨S4096x12288, .f32⟩
  | .hbm, ⟨9, _⟩ => ⟨S4096x12288, .bf16⟩
  | .hbm, ⟨10, _⟩ => ⟨S1536x4096, .bf16⟩
  | .hbm, ⟨11, _⟩ => ⟨S1024x4096, .bf16⟩
  | .hbm, ⟨12, _⟩ => ⟨S1536x4096, .bf16⟩
  | .hbm, ⟨13, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S512x1536, .bf16⟩
  | .local _ .vmem, ⟨3, _⟩ => ⟨S512x1536, .bf16⟩
  | .local _ .vmem, ⟨4, _⟩ => ⟨S512x1024, .bf16⟩
  | .local _ .vmem, ⟨5, _⟩ => ⟨S512x1024, .bf16⟩
  | .local _ .vmem, ⟨6, _⟩ => ⟨S512x1536, .bf16⟩
  | .local _ .vmem, ⟨7, _⟩ => ⟨S512x1536, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S1536x256, .bf16⟩
  | .local _ .vmem, ⟨15, _⟩ => ⟨S1536x256, .bf16⟩
  | .local _ .vmem, ⟨16, _⟩ => ⟨S1024x256, .bf16⟩
  | .local _ .vmem, ⟨17, _⟩ => ⟨S1024x256, .bf16⟩
  | .local _ .vmem, ⟨18, _⟩ => ⟨S1536x256, .bf16⟩
  | .local _ .vmem, ⟨19, _⟩ => ⟨S1536x256, .bf16⟩
  | .local _ .vmem, ⟨20, _⟩ => ⟨S512x256, .bf16⟩
  | .local _ .vmem, ⟨21, _⟩ => ⟨S512x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1536x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1536x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RmergeIdeal.lean ====
abbrev S8192x4096 : Shape := ⟨2, ![8192, 4096]⟩
abbrev S8192x1536 : Shape := ⟨2, ![8192, 1536]⟩
abbrev S8192x1024 : Shape := ⟨2, ![8192, 1024]⟩
abbrev S4096x24592 : Shape := ⟨2, ![4096, 24592]⟩
abbrev S1536x4096 : Shape := ⟨2, ![1536, 4096]⟩
abbrev S1024x4096 : Shape := ⟨2, ![1024, 4096]⟩
abbrev S4096x12288 : Shape := ⟨2, ![4096, 12288]⟩
abbrev S8192x12288 : Shape := ⟨2, ![8192, 12288]⟩
abbrev S_ : Shape := ⟨0, ![]⟩
abbrev S8192x3x4096 : Shape := ⟨3, ![8192, 3, 4096]⟩
abbrev S8192x1x4096 : Shape := ⟨3, ![8192, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1536, .bf16⟩
  | .hbm, ⟨2, _⟩ => ⟨S8192x1024, .bf16⟩
  | .hbm, ⟨3, _⟩ => ⟨S8192x1536, .bf16⟩
  | .hbm, ⟨4, _⟩ => ⟨S4096x24592, .f32⟩
  | .hbm, ⟨5, _⟩ => ⟨S1536x4096, .f32⟩
  | .hbm, ⟨6, _⟩ => ⟨S1024x4096, .f32⟩
  | .hbm, ⟨7, _⟩ => ⟨S1536x4096, .f32⟩
  | .hbm, ⟨8, _⟩ => ⟨S8192x4096, .f32⟩
  | .hbm, ⟨9, _⟩ => ⟨S4096x12288, .f32⟩
  | .hbm, ⟨10, _⟩ => ⟨S8192x12288, .f32⟩
  | .hbm, ⟨11, _⟩ => ⟨S8192x12288, .f32⟩
  | .hbm, ⟨12, _⟩ => ⟨S8192x12288, .f32⟩
  | .hbm, ⟨13, _⟩ => ⟨S_, .f32⟩
  | .hbm, ⟨14, _⟩ => ⟨S8192x12288, .f32⟩
  | .hbm, ⟨15, _⟩ => ⟨S8192x12288, .f32⟩
  | .hbm, ⟨16, _⟩ => ⟨S_, .f32⟩
  | .hbm, ⟨17, _⟩ => ⟨S8192x12288, .f32⟩
  | .hbm, ⟨18, _⟩ => ⟨S8192x12288, .f32⟩
  | .hbm, ⟨19, _⟩ => ⟨S8192x3x4096, .f32⟩
  | .hbm, ⟨20, _⟩ => ⟨S8192x1x4096, .f32⟩
  | .hbm, ⟨21, _⟩ => ⟨S8192x4096, .f32⟩
  | .hbm, ⟨22, _⟩ => ⟨S8192x1536, .f32⟩
  | .hbm, ⟨23, _⟩ => ⟨S8192x4096, .f32⟩
  | .hbm, ⟨24, _⟩ => ⟨S8192x4096, .f32⟩
  | .hbm, ⟨25, _⟩ => ⟨S8192x1x4096, .f32⟩
  | .hbm, ⟨26, _⟩ => ⟨S8192x4096, .f32⟩
  | .hbm, ⟨27, _⟩ => ⟨S8192x1024, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x1x4096, .f32⟩
  | .hbm, ⟨32, _⟩ => ⟨S8192x4096, .f32⟩
  | .hbm, ⟨33, _⟩ => ⟨S8192x1536, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kin.lean ====
abbrev S8192x4096 : Shape := ⟨2, ![8192, 4096]⟩
abbrev S4096x24592 : Shape := ⟨2, ![4096, 24592]⟩
abbrev S4096x12288 : Shape := ⟨2, ![4096, 12288]⟩
abbrev S8192x12288 : Shape := ⟨2, ![8192, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x24592, .f32⟩
  | .hbm, ⟨2, _⟩ => ⟨S4096x12288, .f32⟩
  | .hbm, ⟨3, _⟩ => ⟨S4096x12288, .bf16⟩
  | .hbm, ⟨4, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RinIdeal.lean ====
abbrev S8192x4096 : Shape := ⟨2, ![8192, 4096]⟩
abbrev S4096x24592 : Shape := ⟨2, ![4096, 24592]⟩
abbrev S8192x24592 : Shape := ⟨2, ![8192, 24592]⟩
abbrev S8192x12288 : Shape := ⟨2, ![8192, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x24592, .f32⟩
  | .hbm, ⟨2, _⟩ => ⟨S8192x4096, .f32⟩
  | .hbm, ⟨3, _⟩ => ⟨S8192x24592, .f32⟩
  | .hbm, ⟨4, _⟩ => ⟨S8192x12288, .f32⟩
  | .hbm, ⟨5, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kdown.lean ====
abbrev S8192x11008 : Shape := ⟨2, ![8192, 11008]⟩
abbrev S11008x4096 : Shape := ⟨2, ![11008, 4096]⟩
abbrev S8192x4096 : Shape := ⟨2, ![8192, 4096]⟩
abbrev S4x1x4096 : Shape := ⟨3, ![4, 1, 4096]⟩
abbrev S512x11008 : Shape := ⟨2, ![512, 11008]⟩
abbrev S11008x256 : Shape := ⟨2, ![11008, 256]⟩
abbrev S512x256 : Shape := ⟨2, ![512, 256]⟩
abbrev S1x1x256 : Shape := ⟨3, ![1, 1, 256]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S4x1x4096, .f32⟩
  | .hbm, ⟨4, _⟩ => ⟨S11008x4096, .bf16⟩
  | .hbm, ⟨5, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S1x1x256, .f32⟩
  | .local _ .vmem, ⟨7, _⟩ => ⟨S1x1x256, .f32⟩
  | .local _ .vmem, ⟨8, _⟩ => ⟨S512x256, .f32⟩
  | .local _ .vmem, ⟨9, _⟩ => ⟨S512x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RdownIdeal.lean ====
abbrev S8192x11008 : Shape := ⟨2, ![8192, 11008]⟩
abbrev S11008x4096 : Shape := ⟨2, ![11008, 4096]⟩
abbrev S8192x4096 : Shape := ⟨2, ![8192, 4096]⟩
abbrev S4x1x4096 : Shape := ⟨3, ![4, 1, 4096]⟩
abbrev S4x2048x4096 : Shape := ⟨3, ![4, 2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S4x1x4096, .f32⟩
  | .hbm, ⟨4, _⟩ => ⟨S4x2048x4096, .f32⟩
  | .hbm, ⟨5, _⟩ => ⟨S8192x11008, .f32⟩
  | .hbm, ⟨6, _⟩ => ⟨S8192x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kout.lean ====
abbrev S8192x4096 : Shape := ⟨2, ![8192, 4096]⟩
abbrev S4096x4096 : Shape := ⟨2, ![4096, 4096]⟩
abbrev S4x1x4096 : Shape := ⟨3, ![4, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4x1x4096, .f32⟩
  | .hbm, ⟨4, _⟩ => ⟨S4096x4096, .bf16⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RoutIdeal.lean ====
abbrev S8192x4096 : Shape := ⟨2, ![8192, 4096]⟩
abbrev S4096x4096 : Shape := ⟨2, ![4096, 4096]⟩
abbrev S4x1x4096 : Shape := ⟨3, ![4, 1, 4096]⟩
abbrev S4x2048x4096 : Shape := ⟨3, ![4, 2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4x1x4096, .f32⟩
  | .hbm, ⟨4, _⟩ => ⟨S4x2048x4096, .f32⟩
  | .hbm, ⟨5, _⟩ => ⟨S8192x4096, .f32⟩
  | .hbm, ⟨6, _⟩ => ⟨S8192x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kmoba.lean ====
abbrev S4x2048x12288 : Shape := ⟨3, ![4, 2048, 12288]⟩
abbrev S12 : Shape := ⟨1, ![12]⟩
abbrev S4x2048x1536 : Shape := ⟨3, ![4, 2048, 1536]⟩
abbrev S1x256x128 : Shape := ⟨3, ![1, 256, 128]⟩
abbrev S1x2048x128 : Shape := ⟨3, ![1, 2048, 128]⟩
abbrev S128x128 : Shape := ⟨2, ![128, 128]⟩
abbrev S256x128 : Shape := ⟨2, ![256, 128]⟩
abbrev S256x1 : Shape := ⟨2, ![256, 1]⟩
abbrev S1 : Shape := ⟨1, ![1]⟩
abbrev S128x2048 : Shape := ⟨2, ![128, 2048]⟩
abbrev S2048x128 : Shape := ⟨2, ![2048, 128]⟩
abbrev S256x256 : Shape := ⟨2, ![256, 256]⟩
abbrev S256 : Shape := ⟨1, ![256]⟩

abbrev nBuf : Space → Nat
  | .hbm => 3
  | .vmem => 14
  | .smem => 1
  | _ => 0

abbrev bufTy : (tb : Table) → Fin (tcTables nBuf tb) → BufTy
  | .hbm, ⟨0, _⟩ => ⟨S4x2048x12288, .bf16⟩
  | .hbm, ⟨1, _⟩ => ⟨S12, .f32⟩
  | .hbm, ⟨2, _⟩ => ⟨S4x2048x1536, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S128x128, .bf16⟩
  | .local _ .vmem, ⟨9, _⟩ => ⟨S128x128, .bf16⟩
  | .local _ .vmem, ⟨10, _⟩ => ⟨S256x128, .f32⟩
  | .local _ .vmem, ⟨11, _⟩ => ⟨S256x1, .f32⟩
  | .local _ .vmem, ⟨12, _⟩ => ⟨S256x1, .f32⟩
  | .local _ .vmem, ⟨13, _⟩ => ⟨S256x128, .f32⟩
  | .local _ .smem, ⟨0, _⟩ => ⟨S12, .f32⟩
  | _, _ => ⟨S4x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 12, 8], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c256_i32 : BitVec 32 := 256#32
  let v27 : BitVec 32 := Scalar.muli arg2 c256_i32
  v27
def k0_off2 (i : grid0.Coords) : Fin 3 → Nat :=
  let c0_12 : Index := 0#32
  let arg2 : BitVec 32 := BitVec.ofNat 32 (i 2).val
  let c256_i32 : BitVec 32 := 256#32
  let v27 : BitVec 32 := Scalar.muli arg2 c256_i32
  let v28 : BitVec 32 := v27
  let v29 : Index := Scalar.indexCast v28
  let c0_13 : Index := 0#32
  ![0, v29.toNat, 0]
@[reducible] def k0_t1_loop (i : grid0.Coords) : Scf.Loop 32 :=
  let c0_i32_28 : BitVec 32 := 0#32
  let arg2 : BitVec 32 := BitVec.ofNat 32 (i 2).val
  let v59 : BitVec 32 := Scalar.subi arg2 c0_i32_28
  let c1_i32 : BitVec 32 := 1#32
  let v61 : BitVec 32 := Scalar.divsi v59 c1_i32
  let v62 : BitVec 32 := Scalar.muli v61 c1_i32
  let v63 : BitVec 32 := Scalar.addi c0_i32_28 v62
  let c1_i32_29 : BitVec 32 := 1#32
  ⟨c0_i32_28, v63, c1_i32_29⟩
def k0_mult2 (i : grid0.Coords) (k0_t1 : Fin (k0_t1_loop i).trips) : BitVec 32 :=
  let c0_i32_28 : BitVec 32 := 0#32
  let c1_i32_29 : BitVec 32 := 1#32
  let arg14 : BitVec 32 := Scf.iv c0_i32_28 c1_i32_29 k0_t1
  let c256_i32_49 : BitVec 32 := 256#32
  let v100 : BitVec 32 := Scalar.muli arg14 c256_i32_49
  v100
def k0_off3 (i : grid0.Coords) (k0_t1 : Fin (k0_t1_loop i).trips) : Fin 3 → Nat :=
  let c0_51 : Index := 0#32
  let c0_i32_28 : BitVec 32 := 0#32
  let c1_i32_29 : BitVec 32 := 1#32
  let arg14 : BitVec 32 := Scf.iv c0_i32_28 c1_i32_29 k0_t1
  let c256_i32_49 : BitVec 32 := 256#32
  let v100 : BitVec 32 := Scalar.muli arg14 c256_i32_49
  let v101 : BitVec 32 := v100
  let v106 : Index := Scalar.indexCast v101
  let c0_52 : Index := 0#32
  ![0, v106.toNat, 0]
@[reducible] def k0_t2_loop (i : grid0.Coords) : Scf.Loop 32 :=
  let c0_i32_28 : BitVec 32 := 0#32
  let arg2 : BitVec 32 := BitVec.ofNat 32 (i 2).val
  let v59 : BitVec 32 := Scalar.subi arg2 c0_i32_28
  let c1_i32 : BitVec 32 := 1#32
  let v61 : BitVec 32 := Scalar.divsi v59 c1_i32
  let v62 : BitVec 32 := Scalar.muli v61 c1_i32
  let v63 : BitVec 32 := Scalar.addi c0_i32_28 v62
  let v60 : BitVec 32 := Scalar.addi c0_i32_28 v59
  let c1_i32_30 : BitVec 32 := 1#32
  ⟨v63, v60, c1_i32_30⟩
def k0_mult3 (i : grid0.Coords) (k0_t2 : Fin (k0_t2_loop i).trips) : BitVec 32 :=
  let c0_i32_28 : BitVec 32 := 0#32
  let arg2 : BitVec 32 := BitVec.ofNat 32 (i 2).val
  let v59 : BitVec 32 := Scalar.subi arg2 c0_i32_28
  let c1_i32 : BitVec 32 := 1#32
  let v61 : BitVec 32 := Scalar.divsi v59 c1_i32
  let v62 : BitVec 32 := Scalar.muli v61 c1_i32
  let v63 : BitVec 32 := Scalar.addi c0_i32_28 v62
  let c1_i32_30 : BitVec 32 := 1#32
  let arg14 : BitVec 32 := Scf.iv v63 c1_i32_30 k0_t2
  let c256_i32_49 : BitVec 32 := 256#32
  let v100 : BitVec 32 := Scalar.muli arg14 c256_i32_49
  v100
def k0_off4 (i : grid0.Coords) (k0_t2 : Fin (k0_t2_loop i).trips) : Fin 3 → Nat :=
  let c0_51 : Index := 0#32
  let c0_i32_28 : BitVec 32 := 0#32
  let arg2 : BitVec 32 := BitVec.ofNat 32 (i 2).val
  let v59 : BitVec 32 := Scalar.subi arg2 c0_i32_28
  let c1_i32 : BitVec 32 := 1#32
  let v61 : BitVec 32 := Scalar.divsi v59 c1_i32
  let v62 : BitVec 32 := Scalar.muli v61 c1_i32
  let v63 : BitVec 32 := Scalar.addi c0_i32_28 v62
  let c1_i32_30 : BitVec 32 := 1#32
  let arg14 : BitVec 32 := Scf.iv v63 c1_i32_30 k0_t2
  let c256_i32_49 : BitVec 32 := 256#32
  let v100 : BitVec 32 := Scalar.muli arg14 c256_i32_49
  let v101 : BitVec 32 := v100
  let v106 : Index := Scalar.indexCast v101
  let c0_52 : Index := 0#32
  ![0, v106.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kconv.lean ====
abbrev S4x2048x12288 : Shape := ⟨3, ![4, 2048, 12288]⟩
abbrev S3x1024 : Shape := ⟨2, ![3, 1024]⟩
abbrev S4x2048x1024 : Shape := ⟨3, ![4, 2048, 1024]⟩
abbrev S1x2048x256 : Shape := ⟨3, ![1, 2048, 256]⟩
abbrev S3x256 : Shape := ⟨2, ![3, 256]⟩
abbrev S2048x256 : Shape := ⟨2, ![2048, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x2048x12288, .bf16⟩
  | .hbm, ⟨1, _⟩ => ⟨S3x1024, .f32⟩
  | .hbm, ⟨2, _⟩ => ⟨S4x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S3x256, .f32⟩
  | .local _ .vmem, ⟨7, _⟩ => ⟨S3x256, .f32⟩
  | .local _ .vmem, ⟨8, _⟩ => ⟨S1x2048x256, .bf16⟩
  | .local _ .vmem, ⟨9, _⟩ => ⟨S1x2048x256, .bf16⟩
  | _, _ => ⟨S4x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RconvIdeal.lean ====
abbrev S4x2048x12288 : Shape := ⟨3, ![4, 2048, 12288]⟩
abbrev S3x1024 : Shape := ⟨2, ![3, 1024]⟩
abbrev S4x2048x1024 : Shape := ⟨3, ![4, 2048, 1024]⟩
abbrev S_ : Shape := ⟨0, ![]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x12288, .bf16⟩
  | .hbm, ⟨1, _⟩ => ⟨S3x1024, .f32⟩
  | .hbm, ⟨2, _⟩ => ⟨S4x2048x12288, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .i32⟩
  | .hbm, ⟨8, _⟩ => ⟨S_, .f32⟩
  | .hbm, ⟨9, _⟩ => ⟨S4x2050x1024, .f32⟩
  | .hbm, ⟨10, _⟩ => ⟨S1x1024, .f32⟩
  | .hbm, ⟨11, _⟩ => ⟨S1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S1x1024, .f32⟩
  | .hbm, ⟨16, _⟩ => ⟨S1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S1x1024, .f32⟩
  | .hbm, ⟨23, _⟩ => ⟨S1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .bf16⟩
  | _, _ => ⟨S4x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Krank.lean ====
abbrev S8192x4096 : Shape := ⟨2, ![8192, 4096]⟩
abbrev S4096x24592 : Shape := ⟨2, ![4096, 24592]⟩
abbrev S_ : Shape := ⟨0, ![]⟩
abbrev S4096x128 : Shape := ⟨2, ![4096, 128]⟩
abbrev S4096x16 : Shape := ⟨2, ![4096, 16]⟩
abbrev S1 : Shape := ⟨1, ![1]⟩
abbrev S8192x128 : Shape := ⟨2, ![8192, 128]⟩
abbrev S1024x4096 : Shape := ⟨2, ![1024, 4096]⟩
abbrev S1024x128 : Shape := ⟨2, ![1024, 128]⟩

abbrev nBuf : Space → Nat
  | .hbm => 10
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x24592, .f32⟩
  | .hbm, ⟨2, _⟩ => ⟨S_, .bf16⟩
  | .hbm, ⟨3, _⟩ => ⟨S4096x128, .bf16⟩
  | .hbm, ⟨4, _⟩ => ⟨S4096x16, .f32⟩
  | .hbm, ⟨5, _⟩ => ⟨S4096x16, .bf16⟩
  | .hbm, ⟨6, _⟩ => ⟨S_, .i32⟩
  | .hbm, ⟨7, _⟩ => ⟨S1, .i32⟩
  | .hbm, ⟨8, _⟩ => ⟨S4096x128, .bf16⟩
  | .hbm, ⟨9, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RrankIdeal.lean ====
abbrev S8192x4096 : Shape := ⟨2, ![8192, 4096]⟩
abbrev S4096x24592 : Shape := ⟨2, ![4096, 24592]⟩
abbrev S8192x24592 : Shape := ⟨2, ![8192, 24592]⟩
abbrev S8192x16 : Shape := ⟨2, ![8192, 16]⟩
abbrev S_ : Shape := ⟨0, ![]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x24592, .f32⟩
  | .hbm, ⟨2, _⟩ => ⟨S8192x4096, .f32⟩
  | .hbm, ⟨3, _⟩ => ⟨S8192x24592, .f32⟩
  | .hbm, ⟨4, _⟩ => ⟨S8192x16, .f32⟩
  | .hbm, ⟨5, _⟩ => ⟨S_, .i32⟩
  | .hbm, ⟨6, _⟩ => ⟨S_, .f32⟩
  | .hbm, ⟨7, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kmod.lean ====
abbrev S4x2048x4096 : Shape := ⟨3, ![4, 2048, 4096]⟩
abbrev S4096 : Shape := ⟨1, ![4096]⟩
abbrev S4x1x4096 : Shape := ⟨3, ![4, 1, 4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S1x4096, .f32⟩
  | .hbm, ⟨5, _⟩ => ⟨S4x2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RmodIdeal.lean ====
abbrev S4x2048x4096 : Shape := ⟨3, ![4, 2048, 4096]⟩
abbrev S4096 : Shape := ⟨1, ![4096]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S_, .f32⟩
  | .hbm, ⟨21, _⟩ => ⟨S4x1x4096, .f32⟩
  | .hbm, ⟨22, _⟩ => ⟨S4x1x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kada.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RadaIdeal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S2x8x24576 : Shape := ⟨3, ![2, 8, 24576]⟩

abbrev nBuf : Space → Nat
  | .hbm => 31
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | .hbm, ⟨20, _⟩ => ⟨S1x4096x24576, .f32⟩
  | .hbm, ⟨21, _⟩ => ⟨S4096x24576, .f32⟩
  | .hbm, ⟨22, _⟩ => ⟨S8x24576, .f32⟩
  | .hbm, ⟨23, _⟩ => ⟨S1x24576, .f32⟩
  | .hbm, ⟨24, _⟩ => ⟨S24576, .f32⟩
  | .hbm, ⟨25, _⟩ => ⟨S1x24576, .f32⟩
  | .hbm, ⟨26, _⟩ => ⟨S8x24576, .f32⟩
  | .hbm, ⟨27, _⟩ => ⟨S8x24576, .f32⟩
  | .hbm, ⟨28, _⟩ => ⟨S1x8x24576, .f32⟩
  | .hbm, ⟨29, _⟩ => ⟨S1x8x24576, .f32⟩
  | .hbm, ⟨30, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Knorm.lean ====
abbrev S4x2048x4096 : Shape := ⟨3, ![4, 2048, 4096]⟩
abbrev S4096 : Shape := ⟨1, ![4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S1x4096, .f32⟩
  | .hbm, ⟨3, _⟩ => ⟨S4x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x256x4096, .f32⟩
  | .local _ .vmem, ⟨4, _⟩ => ⟨S1x256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RnormIdeal.lean ====
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.GlaLoopIdeal.lean ====
/- The token mixer's chunk loop, read as a recursion over the chunks: what the state buffer holds before each
   chunk, and the row block each chunk stores into the output. -/
module

public import proofs.«01_k».proof.Proof.Gen.KglaIdeal.Frame.Runs
public import Idealize.ShloMosaic.Lib.VecWindow

@[expose] public section

set_option maxRecDepth 16384

noncomputable section

namespace Cert.KglaIdeal.Mix

open Idealize.ShloMosaic Idealize.ShloMosaic.TcCoe Idealize.ShloMosaic.Tactic
open Idealize.SL.Sem
open Cert.KglaIdeal Cert.KglaIdeal.Gen

variable {F : FTy → Type} [FloatOps F]

/-- The number of chunks. -/
abbrev T : ℕ := k0_t1_loop.trips
/-- A chunk's rows of a 128-lane block, and of a 256-lane block. -/
abbrev rows1 (k : Fin T) : Rect S1x2048x128 := Rect.unit (s := S1x2048x128) (k0_off1 k) S1x64x128.size (k0_off1_inb k)
abbrev rows2 (k : Fin T) : Rect S1x2048x256 := Rect.unit (s := S1x2048x256) (k0_off2 k) S1x64x256.size (k0_off2_inb k)

/-- The state after a chunk, from the chunk's gate input, keys and values and the state before it. -/
def next (a5h a5l : FVec F S128x128 .bf16) (a6 : FVec F S1x128 .f32)
    (ac : Vec F S1x64x128 .f32) (kk : Vec F S1x64x128 .bf16) (vv : Vec F S1x64x256 .bf16) (st : Vec F S256x128 .f32) :
    Vec F S256x128 .f32 :=
  k0_pay11 (k0_pay18 (F := F))
    (k0_pay7 (k0_pay2 (k0_pay17 (F := F)) a5h a5l a6 ac) (k0_pay3 (k0_pay17 (F := F)) a5h a5l a6 ac) kk)
    (k0_pay8 vv) st (k0_pay10 (k0_pay3 (k0_pay17 (F := F)) a5h a5l a6 ac))

/-- The rows a chunk stores, from the chunk's rows of every operand and the state before it. -/
def out (a5h a5l : FVec F S128x128 .bf16) (a6 : FVec F S1x128 .f32) (a7 : Vec F S1x128 .f32)
    (ac : Vec F S1x64x128 .f32) (qq kk : Vec F S1x64x128 .bf16) (vv rr : Vec F S1x64x256 .bf16) (st : Vec F S256x128 .f32) :
    FVec F S1x64x256 .bf16 :=
  k0_pay12 (k0_pay1 a7)
    (k0_pay9 (k0_pay14 (F := F)) (k0_pay15 (F := F)) k0_pay16 (k0_pay2 (k0_pay17 (F := F)) a5h a5l a6 ac) (k0_pay4 qq)
      (k0_pay5 (F := F)) kk vv st) rr

/-- The state before chunk `k`: zero before the first. -/
def state (a5h a5l : FVec F S128x128 .bf16) (a6 : FVec F S1x128 .f32)
    (ac : Fin T → Vec F S1x64x128 .f32) (kk : Fin T → Vec F S1x64x128 .bf16) (vv : Fin T → Vec F S1x64x256 .bf16) :
    ℕ → Vec F S256x128 .f32
  | 0 => k0_pay13 (F := F)
  | k + 1 => if h : k < T then next a5h a5l a6 (ac ⟨k, h⟩) (kk ⟨k, h⟩) (vv ⟨k, h⟩) (state a5h a5l a6 ac kk vv k)
      else state a5h a5l a6 ac kk vv k

/-- The row blocks stored by the chunks before `k`, the last one first. -/
def pieces (a5h a5l : FVec F S128x128 .bf16) (a6 : FVec F S1x128 .f32) (a7 : Vec F S1x128 .f32)
    (ac : Fin T → Vec F S1x64x128 .f32) (qq kk : Fin T → Vec F S1x64x128 .bf16) (vv rr : Fin T → Vec F S1x64x256 .bf16) :
    ℕ → List (View.Piece (Elt F) S1x2048x256 .bf16)
  | 0 => []
  | k + 1 => if h : k < T then
      ⟨rows2 ⟨k, h⟩, out a5h a5l a6 a7 (ac ⟨k, h⟩) (qq ⟨k, h⟩) (kk ⟨k, h⟩) (vv ⟨k, h⟩) (rr ⟨k, h⟩) (state a5h a5l a6 ac kk vv k)⟩
        :: pieces a5h a5l a6 a7 ac qq kk vv rr k
      else pieces a5h a5l a6 a7 ac qq kk vv rr k

/-- THE LOOP: started on a zeroed state, the chunks before `k` leave the state of the recursion, and what they store
    into the output is the recursion's row blocks, whatever the two buffers held before. -/
theorem loop (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048x256 .bf16) (harg10 : arg10.IsWhole) (arg11 : Memref sig .tc .vmem S256x128 .f32) (harg11 : arg11.IsWhole)
    (a5h a5l : FVec F S128x128 .bf16) (a6 : FVec F S1x128 .f32) (a7 : Vec F S1x128 .f32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty)
    (G10 : BufTy.Contents (Elt F) arg10.view.ty) (G11 : BufTy.Contents (Elt F) arg11.view.ty)
    (hG : arg11.view.readAt (Elt F) (Rect.unit (s := S256x128) ![0, 0] S256x128.size inb_S256x128_S256x128_0_0).toLoadRect G11 = k0_pay13 (F := F))
    (k : ℕ) (hk : k ≤ T) :
    let P := pb_k0_t1 (F := F) 𝒱 c bd i arg2 harg2 arg3 harg3 arg4 harg4 arg5 harg5 arg6 harg6 arg7 harg7 arg8 harg8 arg9 harg9 arg10 harg10 arg11 harg11 (k0_pay14 (F := F)) (k0_pay15 (F := F)) k0_pay16 (k0_pay17 (F := F)) (k0_pay18 (F := F)) a5h a5l a6 a7 X2 X3 X4 X5 X6 G10 G11 k
    P.1 = pieces a5h a5l a6 a7 (fun k => arg6.view.readAt (Elt F) (rows1 k).toLoadRect X6)
        (fun k => arg2.view.readAt (Elt F) (rows1 k).toLoadRect X2) (fun k => arg3.view.readAt (Elt F) (rows1 k).toLoadRect X3)
        (fun k => arg4.view.readAt (Elt F) (rows2 k).toLoadRect X4) (fun k => arg5.view.readAt (Elt F) (rows2 k).toLoadRect X5) k
      ∧ arg11.view.readAt (Elt F) (Rect.unit (s := S256x128) ![0, 0] S256x128.size inb_S256x128_S256x128_0_0).toLoadRect
          (arg11.view.writes (Elt F) G11 P.2)
        = state a5h a5l a6 (fun k => arg6.view.readAt (Elt F) (rows1 k).toLoadRect X6)
            (fun k => arg3.view.readAt (Elt F) (rows1 k).toLoadRect X3) (fun k => arg4.view.readAt (Elt F) (rows2 k).toLoadRect X4) k := by
  intro P
  induction k with
  | zero => exact ⟨rfl, hG⟩
  | succ k ih =>
    obtain ⟨ih1, ih2⟩ := ih (by omega)
    have hs := pb_k0_t1_succ (F := F) 𝒱 c bd i arg2 harg2 arg3 harg3 arg4 harg4 arg5 harg5 arg6 harg6 arg7 harg7 arg8 harg8 arg9 harg9 arg10 harg10 arg11 harg11 (k0_pay14 (F := F)) (k0_pay15 (F := F)) k0_pay16 (k0_pay17 (F := F)) (k0_pay18 (F := F)) a5h a5l a6 a7 X2 X3 X4 X5 X6 G10 G11 ⟨k, hk⟩
    have hP : P = _ := hs
    clear_value P
    subst hP
    unfold tripL_k0_t1 trip_k0_t1
    dsimp only
    simp only [trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1, trip_k0_t1.sl.r]
    constructor
    · rw [pieces, dif_pos (show k < T from hk), ← ih1, ← ih2]
      rfl
    · rw [state, dif_pos (show k < T from hk), ← ih2]
      exact View.readAt_writes_full _ _ _ _ _ _

/-- … so what the chunks store into the output. -/
theorem loop_pieces (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048x256 .bf16) (harg10 : arg10.IsWhole) (arg11 : Memref sig .tc .vmem S256x128 .f32) (harg11 : arg11.IsWhole)
    (a5h a5l : FVec F S128x128 .bf16) (a6 : FVec F S1x128 .f32) (a7 : Vec F S1x128 .f32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty)
    (G10 : BufTy.Contents (Elt F) arg10.view.ty) (G11 : BufTy.Contents (Elt F) arg11.view.ty)
    (hG : arg11.view.readAt (Elt F) (Rect.unit (s := S256x128) ![0, 0] S256x128.size inb_S256x128_S256x128_0_0).toLoadRect G11 = k0_pay13 (F := F))
    (k : ℕ) (hk : k ≤ T) :
      (pb_k0_t1 (F := F) 𝒱 c bd i arg2 harg2 arg3 harg3 arg4 harg4 arg5 harg5 arg6 harg6 arg7 harg7 arg8 harg8 arg9 harg9 arg10 harg10 arg11 harg11 (k0_pay14 (F := F)) (k0_pay15 (F := F)) k0_pay16 (k0_pay17 (F := F)) (k0_pay18 (F := F)) a5h a5l a6 a7 X2 X3 X4 X5 X6 G10 G11 k).1 = pieces a5h a5l a6 a7 (fun k => arg6.view.readAt (Elt F) (rows1 k).toLoadRect X6)
        (fun k => arg2.view.readAt (Elt F) (rows1 k).toLoadRect X2) (fun k => arg3.view.readAt (Elt F) (rows1 k).toLoadRect X3)
        (fun k => arg4.view.readAt (Elt F) (rows2 k).toLoadRect X4) (fun k => arg5.view.readAt (Elt F) (rows2 k).toLoadRect X5) k :=
  (loop 𝒱 c bd i arg2 harg2 arg3 harg3 arg4 harg4 arg5 harg5 arg6 harg6 arg7 harg7 arg8 harg8 arg9 harg9 arg10 harg10 arg11 harg11 a5h a5l a6 a7 X2 X3 X4 X5 X6 G10 G11 hG k hk).1

end Cert.KglaIdeal.Mix

end
-- ==== Proof.GlaSpec.lean ====
/- The gated recurrence of one head, chunk by chunk, over the extended reals: what both programs' rows are. -/
module

public import Idealize.ShloMosaic.Lib.Pipeline.ValueKit

@[expose] public section

noncomputable section

namespace Cert.Mix

open Idealize.ShloMosaic

/-- The sum of the rows up to a row of the chunk. -/
def upTo (g : Fin 64 → Fin 64 → EReal) (i d : Fin 64) : EReal := ∑ s : Fin 64, if s ≤ i then g s d else 0

/-- One entry of the state before each chunk, from what the chunks decay it by and add to it. -/
def stateAt (D : Fin 32 → EReal) (A : Fin 32 → EReal) : ℕ → EReal
  | 0 => 0
  | k + 1 => if hk : k < 32 then Ideal.exp (D ⟨k, hk⟩) * stateAt D A k + A ⟨k, hk⟩ else stateAt D A k

/-- What a row takes from the rows of its own chunk. -/
def own (q k B : Fin 64 → Fin 64 → EReal) (v : Fin 64 → Fin 128 → EReal) (i : Fin 64) (e : Fin 128) : EReal :=
  ∑ s : Fin 64, if s ≤ i then (∑ d : Fin 64, q i d * Ideal.exp (B i d) * (k s d * Ideal.exp (-B s d))) * v s e else 0

/-- What a chunk adds to the state. -/
def gain (k B : Fin 64 → Fin 64 → EReal) (v : Fin 64 → Fin 128 → EReal) (d : Fin 64) (e : Fin 128) : EReal :=
  ∑ s : Fin 64, k s d * Ideal.exp (B 63 d - B s d) * v s e

/-- The state before a chunk. -/
def before (k g : Fin 32 → Fin 64 → Fin 64 → EReal) (v : Fin 32 → Fin 64 → Fin 128 → EReal) (n : ℕ) (d : Fin 64) (e : Fin 128) : EReal :=
  stateAt (fun n => upTo (g n) 63 d) (fun n => gain (k n) (upTo (g n)) (v n) d e) n

/-- A row before its normalisation. -/
def row (q k g : Fin 32 → Fin 64 → Fin 64 → EReal) (v : Fin 32 → Fin 64 → Fin 128 → EReal) (n : Fin 32) (i : Fin 64) (e : Fin 128) : EReal :=
  own (q n) (k n) (upTo (g n)) (v n) i e + ∑ d : Fin 64, q n i d * Ideal.exp (upTo (g n) i d) * before k g v n.val d e

/-- A row normalised, weighted and gated. -/
def finish (r : EReal) (o w : Fin 128 → EReal) (e : Fin 128) : EReal :=
  r * Ideal.div 1 (1 + Ideal.exp (-r))
    * (o e * Ideal.rsqrt (Ideal.div (∑ x, o x * o x) (Ideal.ofBits FTy.f32 1124073472#32) + Ideal.ofBits FTy.f32 897988541#32) * w e)

/-- The logarithm of a decay, of the gate's score. -/
def refDecay (z : EReal) : EReal :=
  Ideal.div (-(if -z ≠ -z then -z else max (-z) 0 + Ideal.log1p (Ideal.exp (-FloatOps.absf (F := Idealize.ShloMosaic.Ideal) (φ := .f32) (-z))))) (Ideal.ofBits FTy.f32 1098907648#32)

end Cert.Mix

end
-- ==== Proof.GlaDecay.lean ====
/- The two ways the programs form the logarithm of a decay from the gate's score agree, and it is never +∞; a sum of
   rows formed with the remainders of a rounding is the plain sum. -/
module

public import proofs.«01_k».proof.Proof.GlaSpec

@[expose] public section

noncomputable section

namespace Cert.Mix

open Idealize.ShloMosaic

/-- The logarithm of a decay, as the kernel forms it. -/
def kDecay (z : EReal) : EReal :=
  (min z 0 - Ideal.log1p (Ideal.exp (0 - FloatOps.absf (F := Idealize.ShloMosaic.Ideal) (φ := .f32) z))) * Ideal.ofBits FTy.f32 1031798784#32

theorem exp_real (x : EReal) (hx : x ≠ ⊤) : ∃ r : ℝ, 0 ≤ r ∧ Ideal.exp x = (r : EReal) := by
  induction x using EReal.rec with
  | bot => exact ⟨0, le_rfl, rfl⟩
  | top => exact absurd rfl hx
  | coe r => exact ⟨Real.exp r, (Real.exp_pos r).le, rfl⟩

theorem log1p_real (r : ℝ) (hr : 0 ≤ r) : ∃ s : ℝ, Ideal.log1p (r : EReal) = (s : EReal) := by
  refine ⟨Real.log (1 + r), ?_⟩
  have h1 : (1 : EReal) + (r : EReal) = ((1 + r : ℝ) : EReal) := by rw [EReal.coe_add, EReal.coe_one]
  unfold Ideal.log1p
  rw [h1]
  show (if 1 + r ≤ 0 then (⊥ : EReal) else _) = _
  rw [if_neg (by linarith)]

theorem soft_real (z : EReal) : ∃ s : ℝ, Ideal.log1p (Ideal.exp (0 - max z (-z))) = (s : EReal) := by
  obtain ⟨r, hr, he⟩ := exp_real (0 - max z (-z)) (by
    induction z using EReal.rec with
    | bot => simp
    | top => simp
    | coe r =>
      intro h
      rw [zero_sub, EReal.neg_eq_top_iff, max_eq_bot] at h
      exact EReal.coe_ne_bot r h.1)
  rw [he]
  exact log1p_real r hr

theorem neg_max (z : EReal) : -(max (-z) 0) = min z 0 := by
  rcases le_total z 0 with h | h
  · rw [min_eq_left h, max_eq_left (by simpa using h), neg_neg]
  · rw [min_eq_right h, max_eq_right (by simpa using h), neg_zero]

theorem sixteen : Ideal.ofBits FTy.f32 1098907648#32 = ((16 : ℝ) : EReal) := by
  simp [Ideal.ofBits, Ideal.ieee, -EReal.coe_mul]; norm_num

theorem sixteenth : Ideal.ofBits FTy.f32 1031798784#32 = ((1 / 16 : ℝ) : EReal) := by
  simp [Ideal.ofBits, Ideal.ieee, -EReal.coe_mul]; norm_num

theorem refDecay_eq (z : EReal) : refDecay z = kDecay z := by
  unfold refDecay kDecay
  rw [if_neg (by simp), Ideal.absf_def, Ideal.absf_def, neg_neg, max_comm (-z) z, sixteen, sixteenth, Ideal.div_coe (by norm_num), ← zero_sub (max z (-z))]
  obtain ⟨s, hs⟩ := soft_real z
  rw [hs, EReal.neg_add (.inr (EReal.coe_ne_top s)) (.inr (EReal.coe_ne_bot s)), neg_max]

theorem kDecay_ne_top (z : EReal) : kDecay z ≠ ⊤ := by
  unfold kDecay
  rw [Ideal.absf_def, sixteenth]
  obtain ⟨s, hs⟩ := soft_real z
  rw [hs]
  have hm : min z 0 ≠ ⊤ := ne_of_lt (lt_of_le_of_lt (min_le_right z 0) EReal.zero_lt_top)
  generalize min z 0 = w at hm
  induction w using EReal.rec with
  | bot =>
    rw [EReal.bot_sub, EReal.bot_mul_coe_of_pos (by norm_num)]
    exact bot_ne_top
  | top => exact absurd rfl hm
  | coe r =>
    rw [← EReal.coe_sub, ← EReal.coe_mul]
    exact EReal.coe_ne_top _

/-- A number short of +∞ with the remainders of two roundings that lose nothing. -/
theorem remainders (x : EReal) (hx : x ≠ ⊤) : x + (x - x) + ((x - x) - (x - x)) = x := by
  induction x using EReal.rec with
  | bot => simp
  | top => exact absurd rfl hx
  | coe r => rw [← EReal.coe_sub, sub_self, EReal.coe_zero, sub_zero, add_zero, add_zero]

/-- … and their sums. -/
theorem sum_remainders (P : Fin 64 → Prop) [DecidablePred P] (f : Fin 64 → EReal) (hf : ∀ s, f s ≠ ⊤) :
    (∑ s, if P s then f s else 0) + (∑ s, if P s then f s - f s else 0) + (∑ s, if P s then (f s - f s) - (f s - f s) else 0)
      = ∑ s, if P s then f s else 0 := by
  rw [← Finset.sum_add_distrib, ← Finset.sum_add_distrib]
  refine Finset.sum_congr rfl fun s _ => ?_
  by_cases h : P s
  · simp only [if_pos h]
    exact remainders _ (hf s)
  · simp only [if_neg h, add_zero]

end Cert.Mix

end
-- ==== Proof.GlaRows.lean ====
/- What one chunk of the kernel's loop stores and leaves in the state, at a head's rows: the recurrence of that head. -/
module

public import proofs.«01_k».proof.Proof.GlaLoopIdeal
public import proofs.«01_k».proof.Proof.GlaDecay
public import Idealize.ShloMosaic.Lib.Pipeline.ValueKit

@[expose] public section

set_option maxRecDepth 16384

noncomputable section

namespace Cert.KglaIdeal.Mix

open Idealize.ShloMosaic Idealize.ShloMosaic.TcCoe Idealize.SL.Sem
open Cert.KglaIdeal Cert.KglaIdeal.Gen Cert.Mix

local notation "𝕀" => Idealize.ShloMosaic.Ideal

/-- A head's lane within the pair's 128, and its column within the pair's 256. -/
abbrev lane (u : Fin 2) (d : Fin 64) : Fin 128 := ⟨64 * u.val + d.val, by omega⟩
abbrev col (u : Fin 2) (e : Fin 128) : Fin 256 := ⟨128 * u.val + e.val, by omega⟩

theorem sum_lanes (f : Fin 128 → EReal) : ∑ l, f l = (∑ d, f (lane 0 d)) + ∑ d, f (lane 1 d) := by
  rw [Fin.sum_univ_two_halves 64 64 rfl f]
  refine congrArg₂ _ (Finset.sum_congr rfl fun d _ => congrArg f (Fin.ext ?_)) rfl
  show d.val = 64 * 0 + d.val
  omega

/-- A sum over the pair's lanes whose terms vanish off one head. -/
theorem sum_head (u : Fin 2) (f : Fin 128 → EReal) (h : ∀ u' d, u' ≠ u → f (lane u' d) = 0) : ∑ l, f l = ∑ d, f (lane u d) := by
  rw [sum_lanes]
  fin_cases u
  · rw [Finset.sum_eq_zero (s := Finset.univ) (f := fun d => f (lane 1 d)) (fun d _ => h 1 d (by decide)), add_zero]; rfl
  · rw [Finset.sum_eq_zero (s := Finset.univ) (f := fun d => f (lane 0 d)) (fun d _ => h 0 d (by decide)), zero_add]; rfl

/-- The gate's score, as the kernel forms it from the split weights. -/
def kScore (a5h a5l : FVec 𝕀 S128x128 .bf16) (a6 : FVec 𝕀 S1x128 .f32) (ac : Vec 𝕀 S1x64x128 .f32) (i : Fin 64) (l : Fin 128) : EReal :=
  (∑ x : Fin 128, ac (ix3 0 i x) * a5h (ix2 x l)) + (∑ x : Fin 128, ac (ix3 0 i x) * a5l (ix2 x l))
    + (∑ x : Fin 128, (ac (ix3 0 i x) - ac (ix3 0 i x)) * a5h (ix2 x l)) + a6 (ix2 0 l)

theorem below (i s : Fin 64) (x y : EReal) : Scalar.select (k0_pay16 (ix2 i s)) x y = if s ≤ i then x else y := by
  have h : k0_pay16 (ix2 i s) = IntOp.cmpi CmpIPredicate.sle (BitVec.ofNat 32 s.val) (BitVec.ofNat 32 i.val) := by
    pointwise [k0_pay16]
  have : IntOp.cmpi CmpIPredicate.sle (BitVec.ofNat 32 s.val) (BitVec.ofNat 32 i.val) = if s ≤ i then 1#1 else 0#1 := by
    revert i s; decide +kernel
  rw [h, this]
  by_cases h : s ≤ i
  · rw [if_pos h, if_pos h]; rfl
  · rw [if_neg h, if_neg h]; rfl

/-- The running sums of the logarithms of the decays. -/
theorem pay2_at (a5h a5l a6 ac) (i : Fin 64) (l : Fin 128) : k0_pay2 (F := 𝕀) k0_pay17 a5h a5l a6 ac (ix2 i l)
    = ∑ s : Fin 64, if s ≤ i then kDecay (kScore a5h a5l a6 ac s l) else 0 := by
  rw [← sum_remainders (fun s => s ≤ i) (fun s => kDecay (kScore a5h a5l a6 ac s l)) (fun s => kDecay_ne_top _)]
  pointwise [k0_pay2, k0_pay17]
  simp only [below]
  rfl

theorem pay3_at (a5h a5l a6 ac) (l : Fin 128) : k0_pay3 (F := 𝕀) k0_pay17 a5h a5l a6 ac (ix2 0 l)
    = k0_pay2 (F := 𝕀) k0_pay17 a5h a5l a6 ac (ix2 63 l) := by
  pointwise [k0_pay3]

theorem mask14 (u : Fin 2) (d : Fin 64) : k0_pay14 (F := 𝕀) (ix2 0 (lane u d)) = if u = 0 then 1 else 0 := by
  pointwise [k0_pay14]
  have : IntOp.cmpi CmpIPredicate.slt (BitVec.ofNat 32 (64 * u.val + d.val)) 64#32 = if u = 0 then 1#1 else 0#1 := by
    revert u d; decide +kernel
  rw [this]
  by_cases h : u = 0
  · rw [if_pos h, if_pos h]; rfl
  · rw [if_neg h, if_neg h]; rfl

theorem mask15 (u : Fin 2) (d : Fin 64) : k0_pay15 (F := 𝕀) (ix2 0 (lane u d)) = if u = 1 then 1 else 0 := by
  have h : k0_pay15 (F := 𝕀) (ix2 0 (lane u d)) = 1 - k0_pay14 (F := 𝕀) (ix2 0 (lane u d)) := by
    pointwise [k0_pay15]
  rw [h, mask14]
  fin_cases u
  · show (1 : EReal) - 1 = 0
    exact EReal.sub_self (by decide) (by decide)
  · show (1 : EReal) - 0 = 1
    exact sub_zero _

theorem mask18 (u u' : Fin 2) (e : Fin 128) (d : Fin 64) : k0_pay18 (F := 𝕀) (ix2 (col u e) (lane u' d)) = if u = u' then 1 else 0 := by
  pointwise [k0_pay18]
  have h1 : IntOp.cmpi CmpIPredicate.slt (BitVec.ofNat 32 (128 * u.val + e.val)) 128#32 = if u = 0 then 1#1 else 0#1 := by
    revert u e; decide +kernel
  have h2 : IntOp.cmpi CmpIPredicate.slt (BitVec.ofNat 32 (64 * u'.val + d.val)) 64#32 = if u' = 0 then 1#1 else 0#1 := by
    revert u' d; decide +kernel
  rw [h1, h2]
  fin_cases u <;> fin_cases u' <;> rfl

/-- The rows of the operands in every chunk. -/
structure Rows where
  a5h : FVec 𝕀 S128x128 .bf16
  a5l : FVec 𝕀 S128x128 .bf16
  a6 : FVec 𝕀 S1x128 .f32
  a7 : Vec 𝕀 S1x128 .f32
  ac : Fin 32 → Vec 𝕀 S1x64x128 .f32
  qq : Fin 32 → Vec 𝕀 S1x64x128 .bf16
  kk : Fin 32 → Vec 𝕀 S1x64x128 .bf16
  vv : Fin 32 → Vec 𝕀 S1x64x256 .bf16
  rr : Fin 32 → Vec 𝕀 S1x64x256 .bf16

namespace Rows
variable (R : Rows) (u : Fin 2)

abbrev g (n : Fin 32) (i d : Fin 64) : EReal := kDecay (kScore R.a5h R.a5l R.a6 (R.ac n) i (lane u d))
abbrev q (n : Fin 32) (i d : Fin 64) : EReal := R.qq n (ix3 0 i (lane u d)) * Ideal.ofBits FTy.f32 1040187392#32
abbrev k (n : Fin 32) (i d : Fin 64) : EReal := R.kk n (ix3 0 i (lane u d))
abbrev v (n : Fin 32) (i : Fin 64) (e : Fin 128) : EReal := R.vv n (ix3 0 i (col u e))

theorem upTo_at (n : Fin 32) (i d : Fin 64) :
    k0_pay2 (F := 𝕀) k0_pay17 R.a5h R.a5l R.a6 (R.ac n) (ix2 i (lane u d)) = upTo (R.g u n) i d := pay2_at _ _ _ _ _ _

theorem next_at (n : Fin 32) (st : Vec 𝕀 S256x128 .f32) (u' : Fin 2) (e : Fin 128) (d : Fin 64) :
    next R.a5h R.a5l R.a6 (R.ac n) (R.kk n) (R.vv n) st (ix2 (col u e) (lane u' d))
      = st (ix2 (col u e) (lane u' d)) * Ideal.exp (upTo (R.g u' n) 63 d)
        + (∑ s : Fin 64, R.v u n s e * (R.k u' n s d * Ideal.exp (upTo (R.g u' n) 63 d - upTo (R.g u' n) s d))) * (if u = u' then 1 else 0) := by
  have h7 : ∀ s : Fin 64, k0_pay7 (F := 𝕀) (k0_pay2 k0_pay17 R.a5h R.a5l R.a6 (R.ac n)) (k0_pay3 k0_pay17 R.a5h R.a5l R.a6 (R.ac n)) (R.kk n) (ix2 s (lane u' d))
      = R.k u' n s d * Ideal.exp (upTo (R.g u' n) 63 d - upTo (R.g u' n) s d) := by
    intro s
    rw [← upTo_at, ← upTo_at, ← pay3_at]
    pointwise [k0_pay7, k0_pay6]
  have h8 : ∀ s : Fin 64, k0_pay8 (F := 𝕀) (R.vv n) (ix2 s (col u e)) = R.v u n s e := by
    intro s; pointwise [k0_pay8]
  have h10 : k0_pay10 (F := 𝕀) (k0_pay3 k0_pay17 R.a5h R.a5l R.a6 (R.ac n)) (ix2 (col u e) (lane u' d)) = Ideal.exp (upTo (R.g u' n) 63 d) := by
    rw [← upTo_at, ← pay3_at]
    pointwise [k0_pay10]
  have h11 : ∀ v29 v101 v104 v123 v130, k0_pay11 (F := 𝕀) v29 v101 v104 v123 v130 (ix2 (col u e) (lane u' d))
      = v123 (ix2 (col u e) (lane u' d)) * v130 (ix2 (col u e) (lane u' d)) + (∑ x : Fin 64, v104 (ix2 x (col u e)) * v101 (ix2 x (lane u' d))) * v29 (ix2 (col u e) (lane u' d)) := by
    intro v29 v101 v104 v123 v130
    pointwise [k0_pay11]
  unfold next
  rw [h11, h10, mask18]
  simp only [h7, h8]

end Rows

end Cert.KglaIdeal.Mix

end
-- ==== Proof.GlaChunk.lean ====
/- The state before every chunk and the rows every chunk stores, head by head: the recurrence. -/
module

public import proofs.«01_k».proof.Proof.GlaRows

@[expose] public section

set_option maxRecDepth 16384

noncomputable section

namespace Cert.KglaIdeal.Mix

open Idealize.ShloMosaic Idealize.ShloMosaic.TcCoe Idealize.SL.Sem
open Cert.KglaIdeal Cert.KglaIdeal.Gen Cert.Mix

local notation "𝕀" => Idealize.ShloMosaic.Ideal

theorem times {a b c d : EReal} (h : a = c) (h' : b = d) : a * b = c * d := by rw [h, h']

namespace Rows
variable (R : Rows) (u : Fin 2)

/-- The state before a chunk. -/
abbrev st (n : ℕ) : Vec 𝕀 S256x128 .f32 := state R.a5h R.a5l R.a6 R.ac R.kk R.vv n

theorem st_succ (n : ℕ) (h : n < 32) : R.st (n + 1) = next R.a5h R.a5l R.a6 (R.ac ⟨n, h⟩) (R.kk ⟨n, h⟩) (R.vv ⟨n, h⟩) (R.st n) :=
  dif_pos (show n < T from h)

theorem before_succ (n : ℕ) (h : n < 32) (d : Fin 64) (e : Fin 128) : before (R.k u) (R.g u) (R.v u) (n + 1) d e
    = Ideal.exp (upTo (R.g u ⟨n, h⟩) 63 d) * before (R.k u) (R.g u) (R.v u) n d e + gain (R.k u ⟨n, h⟩) (upTo (R.g u ⟨n, h⟩)) (R.v u ⟨n, h⟩) d e :=
  dif_pos h

/-- The state keeps each head's recurrence on its own lanes, and zero elsewhere. -/
theorem state_at (n : ℕ) (hn : n ≤ 32) (u' : Fin 2) (e : Fin 128) (d : Fin 64) :
    R.st n (ix2 (col u e) (lane u' d)) = if u = u' then before (R.k u) (R.g u) (R.v u) n d e else 0 := by
  induction n with
  | zero =>
    have : R.st 0 (ix2 (col u e) (lane u' d)) = 0 := by
      show k0_pay13 (F := 𝕀) (ix2 (col u e) (lane u' d)) = 0
      pointwise [k0_pay13]
    rw [this]
    split <;> rfl
  | succ n ih =>
    rw [R.st_succ n hn, next_at, ih (by omega)]
    by_cases h : u = u'
    · subst h
      rw [if_pos rfl, if_pos rfl, if_pos rfl, R.before_succ u n hn, mul_one, mul_comm (before _ _ _ n d e)]
      refine congrArg _ (Finset.sum_congr rfl fun s _ => ?_)
      rw [mul_comm]
    · rw [if_neg h, if_neg h, if_neg h, zero_mul, mul_zero, add_zero]

theorem pay9_at (n : Fin 32) (s : Vec 𝕀 S256x128 .f32) (i : Fin 64) (e : Fin 128)
    (hs : ∀ u' d, s (ix2 (col u e) (lane u' d)) = if u = u' then before (R.k u) (R.g u) (R.v u) n.val d e else 0) :
    k0_pay9 (F := 𝕀) k0_pay14 k0_pay15 k0_pay16 (k0_pay2 k0_pay17 R.a5h R.a5l R.a6 (R.ac n)) (k0_pay4 (R.qq n)) k0_pay5 (R.kk n) (R.vv n) s (ix2 i (col u e))
      = row (R.q u) (R.k u) (R.g u) (R.v u) n i e := by
  have h1 : ∀ (v9 v11 : FVec 𝕀 S1x128 .f32) v78, k0_pay9 (F := 𝕀) v9 v11 k0_pay16 v78 (k0_pay4 (R.qq n)) k0_pay5 (R.kk n) (R.vv n) s (ix2 i (col u e))
      = (∑ x : Fin 64, if x ≤ i then (∑ l : Fin 128, R.qq n (ix3 0 i l) * Ideal.ofBits FTy.f32 1040187392#32 * Ideal.exp (v78 (ix2 i l)) * (if u = 0 then v9 (ix2 0 l) else v11 (ix2 0 l))
            * (R.kk n (ix3 0 x l) * Ideal.exp (0 - v78 (ix2 x l)))) * R.vv n (ix3 0 x (col u e)) else 0)
        + ∑ l : Fin 128, R.qq n (ix3 0 i l) * Ideal.ofBits FTy.f32 1040187392#32 * Ideal.exp (v78 (ix2 i l)) * s (ix2 (col u e) l) := by
    intro v9 v11 v78
    pointwise [k0_pay9, k0_pay4, k0_pay5, k0_pay6, k0_pay8]
    simp only [below]
    refine congrArg₂ (· + ·) ?_ rfl
    rcases (show u = 0 ∨ u = 1 by omega) with h | h
    · rw [dif_pos (by rw [h]; simp)]
      refine Finset.sum_congr rfl fun x _ => ?_
      simp only [if_pos h]
    · have hc : (⟨128 + (128 * u.val + e.val - 128), by have := e.isLt; have := congrArg Fin.val h; simp at this; omega⟩ : Fin 256) = col u e := Fin.ext (by have := congrArg Fin.val h; simp at this ⊢; omega)
      rw [dif_neg (by rw [h]; simp)]
      refine Finset.sum_congr rfl fun x _ => ?_
      rw [hc]
      simp only [if_neg (show ¬ u = 0 by rw [h]; decide)]
  have hm : ∀ u' d, (if u = 0 then k0_pay14 (F := 𝕀) (ix2 0 (lane u' d)) else k0_pay15 (F := 𝕀) (ix2 0 (lane u' d))) = if u = u' then 1 else 0 := by
    intro u' d
    rw [mask14, mask15]
    fin_cases u <;> fin_cases u' <;> rfl
  rw [h1]
  refine congrArg₂ (· + ·) (Finset.sum_congr rfl fun x _ => ?_) ?_
  · by_cases hx : x ≤ i
    · rw [if_pos hx, if_pos hx, sum_head u]
      · refine congrArg (· * _) (Finset.sum_congr rfl fun d _ => ?_)
        rw [hm, if_pos rfl, mul_one, upTo_at, upTo_at, zero_sub]
      · intro u' d hu
        rw [hm, if_neg (Ne.symm hu), mul_zero, zero_mul]
    · rw [if_neg hx, if_neg hx]
  · rw [sum_head u]
    · refine Finset.sum_congr rfl fun d _ => ?_
      rw [hs, if_pos rfl, upTo_at]
    · intro u' d hu
      rw [hs, if_neg (Ne.symm hu), mul_zero]

/-- The rows a chunk stores. -/
theorem out_at (n : Fin 32) (i : Fin 64) (e : Fin 128) :
    out R.a5h R.a5l R.a6 R.a7 (R.ac n) (R.qq n) (R.kk n) (R.vv n) (R.rr n) (R.st n.val) (ix3 0 i (col u e))
      = finish (R.rr n (ix3 0 i (col u e))) (fun x => row (R.q u) (R.k u) (R.g u) (R.v u) n i x) (fun x => R.a7 (ix2 0 x)) e := by
  have hp : ∀ x, k0_pay9 (F := 𝕀) k0_pay14 k0_pay15 k0_pay16 (k0_pay2 k0_pay17 R.a5h R.a5l R.a6 (R.ac n)) (k0_pay4 (R.qq n)) k0_pay5 (R.kk n) (R.vv n) (R.st n.val) (ix2 i (col u x))
      = row (R.q u) (R.k u) (R.g u) (R.v u) n i x :=
    fun x => R.pay9_at u n _ i x fun u' d => R.state_at u n.val (by omega) u' x d
  have h12 : ∀ v, k0_pay12 (F := 𝕀) (k0_pay1 R.a7) v (R.rr n) (ix3 0 i (col u e))
      = finish (R.rr n (ix3 0 i (col u e))) (fun x => v (ix2 i (col u x))) (fun x => R.a7 (ix2 0 x)) e := by
    intro v
    unfold finish
    pointwise [k0_pay12, k0_pay1, Ideal.logistic]
    rcases (show u = 0 ∨ u = 1 by omega) with h | h
    · subst h
      have hc : ∀ x : Fin 128, col 0 x = ⟨x.val, by omega⟩ := fun x => Fin.ext (by simp)
      rw [dif_pos (by have := e.isLt; show 128 * 0 + e.val < 128; omega)]
      refine times rfl (times (times ?_ ?_) ?_)
      · exact congrArg (fun z : Fin 256 => v (ix2 i z)) (Fin.ext rfl)
      · simp only [hc]
      · exact congrArg (fun z : Fin 128 => R.a7 (ix2 0 z)) (Fin.ext (by show 128 * 0 + e.val = e.val; omega))
    · subst h
      rw [dif_neg (by show ¬ 128 * 1 + e.val < 128; omega)]
      refine times rfl (times (times ?_ ?_) ?_)
      · exact congrArg (fun z : Fin 256 => v (ix2 i z)) (Fin.ext (by show 128 + (128 * 1 + e.val - 128) = 128 * 1 + e.val; omega))
      · rfl
      · exact congrArg (fun z : Fin 128 => R.a7 (ix2 0 z)) (Fin.ext (by show 128 * 1 + e.val - 128 = e.val; omega))
  unfold out
  rw [h12]
  exact congrArg (fun o => finish _ o _ e) (funext hp)

end Rows

end Cert.KglaIdeal.Mix

end
-- ==== Proof.GlaFrameIdeal.lean ====
/- The token mixer's launch: one point of the grid runs the chunk loop and leaves the recursion's row blocks in its
   output block; the launch keeps every argument and names the result array block by block. -/
module

public import proofs.«01_k».proof.Proof.GlaLoopIdeal
public import Idealize.ShloMosaic.Lib.Claim
public import Idealize.ShloMosaic.Lib.Pipeline.Value

@[expose] public section

set_option maxRecDepth 16384

noncomputable section

namespace Cert.KglaIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KglaIdeal Cert.KglaIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row blocks a point's chunks store, from the point's operand blocks. -/
def outPieces (x0 : Vec F S1x2048x128 .bf16) (x1 : Vec F S1x2048x128 .bf16) (x2 : Vec F S1x2048x256 .bf16) (x3 : Vec F S1x2048x256 .bf16) (x4 : Vec F S1x2048x128 .f32) (x5 : Vec F S128x128 .f32) (x6 : Vec F S1x128 .f32) (x7 : Vec F S1x128 .f32) :
    List (View.Piece (Elt F) S1x2048x256 .bf16) :=
  pieces (k0_pay20 x5) (k0_pay21 x5) (k0_pay22 x6) x7 (fun k => View.ld x4 (rows1 k)) (fun k => View.ld x0 (rows1 k))
    (fun k => View.ld x1 (rows1 k)) (fun k => View.ld x2 (rows2 k)) (fun k => View.ld x3 (rows2 k)) T

/-- A load of the whole state after the zero fill reads zeros. -/
theorem zeroed (arg11 : Memref sig .tc .vmem S256x128 .f32) (f : BufTy.Contents (Elt F) arg11.view.ty) :
    arg11.view.readAt (Elt F) (Rect.unit (s := S256x128) ![0, 0] S256x128.size inb_S256x128_S256x128_0_0).toLoadRect
      (arg11.view.writes (Elt F) f [⟨Rect.unit (s := S256x128) ![0, 0] S256x128.size inb_S256x128_S256x128_0_0, k0_pay13 (F := F)⟩])
      = k0_pay13 (F := F) := View.readAt_writes_full _ _ _ _ _ _

/-- The row blocks through the staging memrefs are the row blocks of the contents. -/
theorem read_pieces (arg2 : Memref sig .tc .vmem S1x2048x128 .bf16) (harg2 : arg2.IsWhole) (arg3 : Memref sig .tc .vmem S1x2048x128 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole)
    (x0 : Vec F S1x2048x128 .bf16) (x1 : Vec F S1x2048x128 .bf16) (x2 : Vec F S1x2048x256 .bf16) (x3 : Vec F S1x2048x256 .bf16) (x4 : Vec F S1x2048x128 .f32) (x5 : Vec F S128x128 .f32) (x6 : Vec F S1x128 .f32) (x7 : Vec F S1x128 .f32) :
    pieces (k0_pay20 (arg7.view.readAt (Elt F) (Rect.unit (s := S128x128) ![0, 0] S128x128.size inb_S128x128_S128x128_0_0).toLoadRect (harg7.unread x5)))
      (k0_pay21 (arg7.view.readAt (Elt F) (Rect.unit (s := S128x128) ![0, 0] S128x128.size inb_S128x128_S128x128_0_0).toLoadRect (harg7.unread x5)))
      (k0_pay22 (arg8.view.readAt (Elt F) (Rect.unit (s := S1x128) ![0, 0] S1x128.size inb_S1x128_S1x128_0_0).toLoadRect (harg8.unread x6)))
      (arg9.view.readAt (Elt F) (Rect.unit (s := S1x128) ![0, 0] S1x128.size inb_S1x128_S1x128_0_0).toLoadRect (harg9.unread x7))
      (fun k => arg6.view.readAt (Elt F) (rows1 k).toLoadRect (harg6.unread x4))
      (fun k => arg2.view.readAt (Elt F) (rows1 k).toLoadRect (harg2.unread x0))
      (fun k => arg3.view.readAt (Elt F) (rows1 k).toLoadRect (harg3.unread x1))
      (fun k => arg4.view.readAt (Elt F) (rows2 k).toLoadRect (harg4.unread x2))
      (fun k => arg5.view.readAt (Elt F) (rows2 k).toLoadRect (harg5.unread x3)) T
      = outPieces x0 x1 x2 x3 x4 x5 x6 x7 := by
  unfold outPieces
  rw [View.readAt_full, View.readAt_full, View.readAt_full]
  simp only [View.readAt_eq_ld, Memref.IsWhole.read_unread]

set_option maxHeartbeats 2000000 in
/-- One point of the grid: from operand blocks `x0 … x7` the body leaves the output block with its row blocks written
    and everything it only reads as it was. -/
theorem point_run (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048x256 .bf16) (harg10 : arg10.IsWhole) (arg11 : Memref sig .tc .vmem S256x128 .f32) (harg11 : arg11.IsWhole)
    (x0 : Vec F S1x2048x128 .bf16) (x1 : Vec F S1x2048x128 .bf16) (x2 : Vec F S1x2048x256 .bf16) (x3 : Vec F S1x2048x256 .bf16) (x4 : Vec F S1x2048x128 .f32) (x5 : Vec F S128x128 .f32) (x6 : Vec F S1x128 .f32) (x7 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f (outPieces x0 x1 x2 x3 x4 x5 x6 x7)) ∗ (∃ d, owns (c : Thread nD τ) arg11 fullShare d)) -∗ K ⟨⟩))
          ⊢ wp frame (wpE (defs₀ (F := F)) Variants.none c none) E (cc0_gla_mixer i arg2 harg2 arg3 harg3 arg4 harg4 arg5 harg5 arg6 harg6 arg7 harg7 arg8 harg8 arg9 harg9 arg10 harg10 arg11 harg11) K := by
  intro E K
  · simp only [cc0_gla_mixer_eq_skeleton]; unfold cc0_gla_mixer_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists f8
      rw [← (loop_pieces (F := F) Variants.none c none i arg2 harg2 arg3 harg3 arg4 harg4 arg5 harg5 arg6 harg6 arg7 harg7 arg8 harg8 arg9 harg9 arg10 harg10 arg11 harg11 _ _ _ _ _ _ _ _ _ f8 _ (zeroed arg11 arg11.view.junk) T le_rfl).trans
        (read_pieces arg2 harg2 arg3 harg3 arg4 harg4 arg5 harg5 arg6 harg6 arg7 harg7 arg8 harg8 arg9 harg9 x0 x1 x2 x3 x4 x5 x6 x7)]
      iexact H8
    iexists _, _; isplitr; swap; · iexact HS0
    ipureintro; rfl

/-- The row blocks tile the output block, so they cover it. -/
theorem cover (x0 : Vec F S1x2048x128 .bf16) (x1 : Vec F S1x2048x128 .bf16) (x2 : Vec F S1x2048x256 .bf16) (x3 : Vec F S1x2048x256 .bf16) (x4 : Vec F S1x2048x128 .f32) (x5 : Vec F S128x128 .f32) (x6 : Vec F S1x128 .f32) (x7 : Vec F S1x128 .f32) (y : S1x2048x256.Idx) :
    ∃ pc ∈ (outPieces x0 x1 x2 x3 x4 x5 x6 x7), y ∈ pc.1.set :=
  View.cover_of_tiledL (outPieces x0 x1 x2 x3 x4 x5 x6 x7) S1x64x256.size (by sl_kernel_rfl) y

/-- What a point leaves in its output block: its row blocks, read back. -/
def outBlock (x0 : Vec F S1x2048x128 .bf16) (x1 : Vec F S1x2048x128 .bf16) (x2 : Vec F S1x2048x256 .bf16) (x3 : Vec F S1x2048x256 .bf16) (x4 : Vec F S1x2048x128 .f32) (x5 : Vec F S128x128 .f32) (x6 : Vec F S1x128 .f32) (x7 : Vec F S1x128 .f32) : Vec F S1x2048x256 .bf16 :=
  VO0_8.read (Elt F) (VO0_8.writes (Elt F) VO0_8.junk (outPieces x0 x1 x2 x3 x4 x5 x6 x7))

/-! ## What the outputs hold after each point -/

/-- What the outputs' staging buffers hold after the body at point `t`: the run's contents at
    the point's memrefs and input blocks. -/
def outsAt0 (c : Dev nD) (t : Fin cfg0.N) : Vec F S1x2048x256 .bf16 :=
  outBlock (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold outBlock
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (point_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: the argument arrays end unchanged and every semaphore counter of the machine at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 8's array: the contents after the body (`outsAt0`), read through the window's block. -/
theorem flushed8 (c : Dev nD) (t : Fin cfg0.N) :
    (dats m 0 c).flushed 8 t = (cfg0.win 8).cut (grid0.coords t) (outsAt0 m c t) := by
  show (cfg0.win 8).cut (grid0.coords t) ((dats m 0 c).after 8 t) = _
  rw [after0_8]

/-- The index map sends distinct grid points to distinct block indices (decided over the 24 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x2048x1536.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5) = (dats m 0 c).arrAt 8 cfg0.N :=
  (h c).1 8

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post8 m r h c,
      kept_main_arg0 m r h c,
      kept_main_arg1 m r h c,
      kept_main_arg2 m r h c,
      kept_main_arg3 m r h c,
      kept_main_arg4 m r h c⟩)
    (run_main m ρ)

end Cert.KglaIdeal.Mix

end
-- ==== Proof.GlaBlock.lean ====
/- The block a grid point leaves: each row is the recurrence of its head, over the point's operand blocks. -/
module

public import proofs.«01_k».proof.Proof.GlaChunk
public import proofs.«01_k».proof.Proof.GlaFrameIdeal
public import Idealize.ShloMosaic.Lib.WritesUnit

@[expose] public section

set_option maxRecDepth 16384

noncomputable section

namespace Cert.KglaIdeal.Mix

open Idealize.ShloMosaic Idealize.ShloMosaic.TcCoe Idealize.SL.Sem
open Cert.KglaIdeal Cert.KglaIdeal.Gen Cert.Mix

local notation "𝕀" => Idealize.ShloMosaic.Ideal

/-- A row's place in the sequence. -/
abbrev place (n : Fin 32) (i : Fin 64) : Fin 2048 := ⟨n.val * 64 + i.val, by omega⟩

/-- A chunk as a turn of the loop. -/
abbrev turn (n : Fin 32) : Fin T := ⟨n.val, n.isLt⟩

theorem off1 : ∀ k : Fin T, k0_off1 k = ![0, k.val * 64, 0] := by decide +kernel
theorem off2 : ∀ k : Fin T, k0_off2 k = ![0, k.val * 64, 0] := by decide +kernel

/-- The chunk's rows of a block. -/
def cut1 {e : EltTy} (X : Vec 𝕀 S1x2048x128 e) (n : Fin 32) : Vec 𝕀 S1x64x128 e := View.ld X (rows1 (turn n))
def cut2 {e : EltTy} (X : Vec 𝕀 S1x2048x256 e) (n : Fin 32) : Vec 𝕀 S1x64x256 e := View.ld X (rows2 (turn n))

/-- The chunk's rows of a block are the block at the rows' places. -/
theorem cut1_at {e : EltTy} (X : Vec 𝕀 S1x2048x128 e) (n : Fin 32) (i : Fin 64) (l : Fin 128) :
    cut1 X n (ix3 0 i l) = X (ix3 0 (place n i) l) := by
  refine congrArg X (funext fun a => Fin.ext ?_)
  show k0_off1 (turn n) a + 1 * (ix3 0 i l a).val = _
  rw [off1]
  fin_cases a
  · rfl
  · show n.val * 64 + 1 * i.val = n.val * 64 + i.val
    omega
  · show 0 + 1 * l.val = l.val
    omega

theorem cut2_at {e : EltTy} (X : Vec 𝕀 S1x2048x256 e) (n : Fin 32) (i : Fin 64) (l : Fin 256) :
    cut2 X n (ix3 0 i l) = X (ix3 0 (place n i) l) := by
  refine congrArg X (funext fun a => Fin.ext ?_)
  show k0_off2 (turn n) a + 1 * (ix3 0 i l a).val = _
  rw [off2]
  fin_cases a
  · rfl
  · show n.val * 64 + 1 * i.val = n.val * 64 + i.val
    omega
  · show 0 + 1 * l.val = l.val
    omega

/-- The stored row blocks, read back at a chunk's row, are what that chunk stored. -/
theorem read_row (R : Rows) (k : ℕ) (hk : k ≤ 32) (n : Fin 32) (hn : n.val < k) (i : Fin 64) (l : Fin 256) :
    VO0_8.read (Elt 𝕀) (VO0_8.writes (Elt 𝕀) VO0_8.junk (pieces R.a5h R.a5l R.a6 R.a7 R.ac R.qq R.kk R.vv R.rr k)) (ix3 0 (place n i) l)
      = out R.a5h R.a5l R.a6 R.a7 (R.ac n) (R.qq n) (R.kk n) (R.vv n) (R.rr n) (R.st n.val) (ix3 0 i l) := by
  induction k with
  | zero => omega
  | succ k ih =>
    have hp : pieces R.a5h R.a5l R.a6 R.a7 R.ac R.qq R.kk R.vv R.rr (k + 1)
        = ⟨rows2 ⟨k, hk⟩, out R.a5h R.a5l R.a6 R.a7 (R.ac ⟨k, hk⟩) (R.qq ⟨k, hk⟩) (R.kk ⟨k, hk⟩) (R.vv ⟨k, hk⟩) (R.rr ⟨k, hk⟩) (R.st k)⟩
          :: pieces R.a5h R.a5l R.a6 R.a7 R.ac R.qq R.kk R.vv R.rr k := dif_pos (show k < T from hk)
    rw [hp]
    by_cases h : n.val = k
    · have hn' : n = ⟨k, hk⟩ := Fin.ext h
      subst hn'
      refine View.read_writes_cons_unit_of_mem VO0_8 _ _ _ _ _ (ix3 0 i l) (off2 ⟨k, hk⟩) fun a => ?_
      fin_cases a
      · rfl
      · rfl
      · exact (Nat.zero_add _).symm
    · rw [View.read_writes_cons_unit_of_not_mem VO0_8 _ _ _ _ _ (off2 ⟨k, hk⟩) (1 : Fin 3)
        (Or.inl (show n.val * 64 + i.val < k * 64 by omega))]
      exact ih (by omega) (by omega)

/-- The rows of a grid point's operand blocks. -/
abbrev rowsOf (x0 x1 : Vec 𝕀 S1x2048x128 .bf16) (x2 x3 : Vec 𝕀 S1x2048x256 .bf16) (x4 : Vec 𝕀 S1x2048x128 .f32)
    (x5 : Vec 𝕀 S128x128 .f32) (x6 x7 : Vec 𝕀 S1x128 .f32) : Rows where
  a5h := k0_pay20 x5
  a5l := k0_pay21 x5
  a6 := k0_pay22 x6
  a7 := x7
  ac n := cut1 x4 n
  qq n := cut1 x0 n
  kk n := cut1 x1 n
  vv n := cut2 x2 n
  rr n := cut2 x3 n

/-- With finite weights that vanish beyond their first 16 rows, and finite inputs on those, the split score is the plain one. -/
theorem kScore_eq (x4 : Vec 𝕀 S1x2048x128 .f32) (x5 : Vec 𝕀 S128x128 .f32) (x6 : Vec 𝕀 S1x128 .f32) (n : Fin 32) (i : Fin 64) (l : Fin 128)
    (h4 : ∀ (t : Fin 2048) (r : Fin 128), r.val < 16 → x4 (ix3 0 t r) ≠ ⊤ ∧ x4 (ix3 0 t r) ≠ ⊥)
    (h5 : ∀ (r l : Fin 128), x5 (ix2 r l) ≠ ⊤ ∧ x5 (ix2 r l) ≠ ⊥) (h0 : ∀ (r l : Fin 128), 16 ≤ r.val → x5 (ix2 r l) = 0) :
    kScore (k0_pay20 (F := 𝕀) x5) (k0_pay21 (F := 𝕀) x5) (k0_pay22 (F := 𝕀) x6) (cut1 x4 n) i l
      = (∑ r : Fin 16, x4 (ix3 0 (place n i) ⟨r.val, by omega⟩) * x5 (ix2 ⟨r.val, by omega⟩ l)) + x6 (ix2 0 l) := by
  have e20 : ∀ r : Fin 128, k0_pay20 (F := 𝕀) x5 (ix2 r l) = x5 (ix2 r l) := by intro r; pointwise [k0_pay20, k0_pay19]
  have e21 : ∀ r : Fin 128, k0_pay21 (F := 𝕀) x5 (ix2 r l) = 0 := by
    intro r
    have : k0_pay21 (F := 𝕀) x5 (ix2 r l) = x5 (ix2 r l) - x5 (ix2 r l) := by pointwise [k0_pay21, k0_pay20, k0_pay19]
    rw [this]
    exact EReal.sub_self (h5 r l).1 (h5 r l).2
  have e22 : k0_pay22 (F := 𝕀) x6 (ix2 0 l) = x6 (ix2 0 l) := by pointwise [k0_pay22]
  unfold kScore
  simp only [e20, e21, e22, cut1_at, mul_zero, Finset.sum_const_zero, add_zero]
  have hr : ∀ r : Fin 128, (x4 (ix3 0 (place n i) r) - x4 (ix3 0 (place n i) r)) * x5 (ix2 r l) = 0 := by
    intro r
    by_cases h : r.val < 16
    · rw [EReal.sub_self (h4 _ r h).1 (h4 _ r h).2, zero_mul]
    · rw [h0 r l (by omega), mul_zero]
  rw [Finset.sum_eq_zero (fun r _ => hr r), add_zero]
  refine congrArg (· + _) ?_
  rw [Fin.sum_univ_add (a := 16) (b := 112) (fun r : Fin 128 => x4 (ix3 0 (place n i) r) * x5 (ix2 r l))]
  rw [Finset.sum_eq_zero (s := Finset.univ) (f := fun r : Fin 112 => _) (fun r _ => by
    rw [h0 _ l (by show 16 ≤ 16 + r.val; omega), mul_zero]), add_zero]
  rfl

/-- A grid point's block, at a row and a head's column. -/
theorem outBlock_at (x0 x1 : Vec 𝕀 S1x2048x128 .bf16) (x2 x3 : Vec 𝕀 S1x2048x256 .bf16) (x4 : Vec 𝕀 S1x2048x128 .f32)
    (x5 : Vec 𝕀 S128x128 .f32) (x6 x7 : Vec 𝕀 S1x128 .f32) (u : Fin 2) (n : Fin 32) (i : Fin 64) (e : Fin 128)
    (h4 : ∀ (t : Fin 2048) (r : Fin 128), r.val < 16 → x4 (ix3 0 t r) ≠ ⊤ ∧ x4 (ix3 0 t r) ≠ ⊥)
    (h5 : ∀ (r l : Fin 128), x5 (ix2 r l) ≠ ⊤ ∧ x5 (ix2 r l) ≠ ⊥) (h0 : ∀ (r l : Fin 128), 16 ≤ r.val → x5 (ix2 r l) = 0) :
    outBlock x0 x1 x2 x3 x4 x5 x6 x7 (ix3 0 (place n i) (col u e))
      = finish (x3 (ix3 0 (place n i) (col u e)))
          (fun x => row (fun n i d => x0 (ix3 0 (place n i) (lane u d)) * Ideal.ofBits FTy.f32 1040187392#32)
            (fun n i d => x1 (ix3 0 (place n i) (lane u d)))
            (fun n i d => kDecay ((∑ r : Fin 16, x4 (ix3 0 (place n i) ⟨r.val, by omega⟩) * x5 (ix2 ⟨r.val, by omega⟩ (lane u d))) + x6 (ix2 0 (lane u d))))
            (fun n i e => x2 (ix3 0 (place n i) (col u e))) n i x)
          (fun x => x7 (ix2 0 x)) e := by
  have h := read_row (rowsOf x0 x1 x2 x3 x4 x5 x6 x7) 32 le_rfl n n.isLt i (col u e)
  refine Eq.trans h ?_
  rw [Rows.out_at]
  unfold Rows.q Rows.k Rows.g Rows.v
  simp only [cut1_at, cut2_at, kScore_eq x4 x5 x6 _ _ _ h4 h5 h0]

end Cert.KglaIdeal.Mix

end
-- ==== Proof.GlaArray.lean ====
/- The kernel's result array: every grid point's operand blocks found in the arguments, and its block put in its place. -/
module

public import proofs.«01_k».proof.Proof.GlaBlock
public import Idealize.ShloMosaic.Lib.Routing.OpsSet
public import Idealize.ShloMosaic.Lib.Routing.OpsPair

@[expose] public section

set_option maxRecDepth 16384

noncomputable section
namespace Cert.KglaIdeal.Mix
open Idealize.ShloMosaic Idealize.ShloMosaic.TcCoe Idealize.SL.Sem
open Cert.KglaIdeal Cert.KglaIdeal.Gen Cert.Mix
local notation "𝕀" => Idealize.ShloMosaic.Ideal
variable (m : (ℓ : Loc nD τ sig) → Buf (Elt Ideal) ℓ) (c : Dev nD)
/-- Which block of its array each window reads or writes at a grid point. -/
theorem idx : ∀ t : Fin cfg0.N, win0_0.index t = ![t.val / 6, 0, 60 + t.val % 6]
    ∧ win0_1.index t = ![t.val / 6, 0, 66 + t.val % 6]
    ∧ win0_2.index t = ![t.val / 6, 0, 36 + t.val % 6]
    ∧ win0_3.index t = ![t.val / 6, 0, 42 + t.val % 6]
    ∧ win0_4.index t = ![t.val / 6, 0, 0]
    ∧ win0_5.index t = ![0, t.val % 6]
    ∧ win0_6.index t = ![0, t.val % 6]
    ∧ win0_7.index t = ![0, 0]
    ∧ win0_8.index t = ![t.val / 6, 0, t.val % 6]
    ∧ t.val / 6 < 4 :=
  (by decide +kernel : ∀ t : Fin grid0.N, _)

abbrev sd := scatter_S128x768_S1_S16x768_01_n_0_0

/-- The weights' rows are set at the top of the padded array. -/
theorem lands (k : S16x768.Idx) (r : Fin 128) (l : Fin 768) (z : IVec S1 32) (hz : ∀ i, z i = 0#32) :
    sd.resultIdx? k z = some (ix2 r l) ↔ (k 0).val = r.val ∧ (k 1).val = l.val := by
  have h0 : sd.start k z 0 = 0 := by
    unfold ScatterDims.start
    rw [dif_pos (by decide), hz]; rfl
  have h1 : sd.start k z 1 = 0 := by
    unfold ScatterDims.start
    rw [dif_neg (by decide)]
  have w0 : sd.window k 0 = (k 0).val := by
    unfold ScatterDims.window
    rw [dif_pos (by decide)]; rfl
  have w1 : sd.window k 1 = (k 1).val := by
    unfold ScatterDims.window
    rw [dif_pos (by decide)]; rfl
  refine (Routing.resultIdx?_ix2 sd k z r l).trans ?_
  rw [h0, h1, w0, w1]
  omega

/-- The padded weights: the weights' 16 rows, and zero rows. -/
theorem padded (x0 : FVec 𝕀 S128x768 .f32) (h0 : ∀ i, x0 i = 0) (z : IVec S1 32) (hz : ∀ i, z i = 0#32) (w : FVec 𝕀 S16x768 .f32) (r : Fin 128) (l : Fin 768) :
    (Host.scatter sd (fun _ b => b) x0 z w (ix2 r l) : EReal) = if h : r.val < 16 then w (ix2 ⟨r.val, h⟩ l) else 0 := by
  by_cases h : r.val < 16
  · rw [dif_pos h]
    refine Routing.scatter_set_hit sd x0 z w _ _ (fun k hk => ?_) (ix2 ⟨r.val, h⟩ l) ((lands _ r l z hz).mpr ⟨rfl, rfl⟩)
    have := (lands k r l z hz).mp hk
    refine congrArg w (funext fun a => Fin.ext ?_)
    fin_cases a
    · exact this.1
    · exact this.2
  · rw [dif_neg h, Routing.scatter_set_miss sd x0 z w _ (fun k hk => ?_), h0]
    have h1 := ((lands k r l z hz).mp hk).1
    have h2 : (k 0).val < 16 := (k 0).isLt
    omega

/-- The arguments' arrays. -/
abbrev ar0 : FVec 𝕀 S4x2048x12288 .bf16 := m ((c : Thread nD τ).loc main_arg0)
abbrev ar1 : FVec 𝕀 S4x2048x128 .f32 := m ((c : Thread nD τ).loc main_arg1)
abbrev ar2 : FVec 𝕀 S16x768 .f32 := m ((c : Thread nD τ).loc main_arg2)
abbrev ar3 : FVec 𝕀 S768 .f32 := m ((c : Thread nD τ).loc main_arg3)
abbrev ar4 : FVec 𝕀 S128 .f32 := m ((c : Thread nD τ).loc main_arg4)

/-! Each window's block at a grid point, in its argument. -/

theorem blk0 (t : Fin cfg0.N) (s : Fin 2048) (l : Fin 128) (b : Fin 4) (k : Fin 12288) (hb : b.val = t.val / 6) (hk : k.val = 7680 + 128 * (t.val % 6) + l.val) :
    iblk m c 0 t (ix3 0 s l) = ar0 m c (ix3 b s k) := by
  blk_ext [iblk, V, idx t]

theorem blk1 (t : Fin cfg0.N) (s : Fin 2048) (l : Fin 128) (b : Fin 4) (k : Fin 12288) (hb : b.val = t.val / 6) (hk : k.val = 8448 + 128 * (t.val % 6) + l.val) :
    iblk m c 1 t (ix3 0 s l) = ar0 m c (ix3 b s k) := by
  blk_ext [iblk, V, idx t]

theorem blk2 (t : Fin cfg0.N) (s : Fin 2048) (l : Fin 256) (b : Fin 4) (k : Fin 12288) (hb : b.val = t.val / 6) (hk : k.val = 9216 + 256 * (t.val % 6) + l.val) :
    iblk m c 2 t (ix3 0 s l) = ar0 m c (ix3 b s k) := by
  blk_ext [iblk, V, idx t]

theorem blk3 (t : Fin cfg0.N) (s : Fin 2048) (l : Fin 256) (b : Fin 4) (k : Fin 12288) (hb : b.val = t.val / 6) (hk : k.val = 10752 + 256 * (t.val % 6) + l.val) :
    iblk m c 3 t (ix3 0 s l) = ar0 m c (ix3 b s k) := by
  blk_ext [iblk, V, idx t]

theorem blk4 (t : Fin cfg0.N) (s : Fin 2048) (l : Fin 128) (b : Fin 4) (k : Fin 128) (hb : b.val = t.val / 6) (hk : k.val = l.val) :
    iblk m c 4 t (ix3 0 s l) = ar1 m c (ix3 b s k) := by
  blk_ext [iblk, V, idx t]

theorem blk5 (t : Fin cfg0.N) (r l : Fin 128) (k : Fin 768) (hk : k.val = 128 * (t.val % 6) + l.val) :
    iblk m c 5 t (ix2 r l) = if h : r.val < 16 then ar2 m c (ix2 ⟨r.val, h⟩ k) else (0 : EReal) := by
  have he : ((View.whole main_v2).slice (win0_5.rect t)).emb (ix2 r l) = ix2 r k := by
    blk_ext [idx t]
  blk_simp [iblk, idx t]
  entry_read
  rw [he]
  refine padded _ ?_ _ ?_ _ r k
  · intro i; pointwise
  · intro i; pointwise

theorem blk6 (t : Fin cfg0.N) (l : Fin 128) (k : Fin 768) (hk : k.val = 128 * (t.val % 6) + l.val) :
    iblk m c 6 t (ix2 0 l) = ar3 m c (ix1 k) := by
  blk_simp [iblk, idx t]
  entry_read
  pointwise
  blk_ext [idx t]

theorem blk7 (t : Fin cfg0.N) (l : Fin 128) : iblk m c 7 t (ix2 0 l) = ar4 m c (ix1 l) := by
  blk_simp [iblk, idx t]
  entry_read
  pointwise
  blk_ext [idx t]

end Cert.KglaIdeal.Mix

end
-- ==== Proof.GlaValue.lean ====
/- The kernel's result array, entry by entry: one head's recurrence over the arguments. -/
module

public import proofs.«01_k».proof.Proof.GlaArray

@[expose] public section

set_option maxRecDepth 16384

noncomputable section

namespace Cert.KglaIdeal.Mix

open Idealize.ShloMosaic Idealize.ShloMosaic.TcCoe Idealize.SL.Sem
open Cert.KglaIdeal Cert.KglaIdeal.Gen Cert.Mix

local notation "𝕀" => Idealize.ShloMosaic.Ideal

/-- A batch's rows, one head's columns: what the result holds there. -/
def value (x0 : FVec 𝕀 S4x2048x12288 .bf16) (x1 : FVec 𝕀 S4x2048x128 .f32) (x2 : FVec 𝕀 S16x768 .f32) (x3 : FVec 𝕀 S768 .f32) (x4 : FVec 𝕀 S128 .f32)
    (b : Fin 4) (h : Fin 12) (n : Fin 32) (i : Fin 64) (e : Fin 128) : EReal :=
  finish (x0 (ix3 b (place n i) ⟨10752 + (h.val * 128 + e.val), by omega⟩))
    (fun x => row (fun n i d => x0 (ix3 b (place n i) ⟨7680 + (h.val * 64 + d.val), by omega⟩) * Ideal.ofBits FTy.f32 1040187392#32)
      (fun n i d => x0 (ix3 b (place n i) ⟨8448 + (h.val * 64 + d.val), by omega⟩))
      (fun n i d => kDecay ((∑ r : Fin 16, x1 (ix3 b (place n i) ⟨r.val, by omega⟩) * x2 (ix2 r ⟨h.val * 64 + d.val, by omega⟩)) + x3 (ix1 ⟨h.val * 64 + d.val, by omega⟩)))
      (fun n i e => x0 (ix3 b (place n i) ⟨9216 + (h.val * 128 + e.val), by omega⟩)) n i x)
    (fun x => x4 (ix1 x)) e

/-- A block of rows and columns of the operands gives the result's entries there. -/
theorem value_of_blocks (y0 y1 : Vec 𝕀 S1x2048x128 .bf16) (y2 y3 : Vec 𝕀 S1x2048x256 .bf16) (y4 : Vec 𝕀 S1x2048x128 .f32)
    (y5 : Vec 𝕀 S128x128 .f32) (y6 y7 : Vec 𝕀 S1x128 .f32)
    (x0 : FVec 𝕀 S4x2048x12288 .bf16) (x1 : FVec 𝕀 S4x2048x128 .f32) (x2 : FVec 𝕀 S16x768 .f32) (x3 : FVec 𝕀 S768 .f32) (x4 : FVec 𝕀 S128 .f32)
    (b : Fin 4) (h : Fin 12) (u : Fin 2) (j : ℕ) (hj : h.val = 2 * j + u.val)
    (e0 : ∀ s (l : Fin 128) (k : Fin 12288), k.val = 7680 + 128 * j + l.val → y0 (ix3 0 s l) = x0 (ix3 b s k))
    (e1 : ∀ s (l : Fin 128) (k : Fin 12288), k.val = 8448 + 128 * j + l.val → y1 (ix3 0 s l) = x0 (ix3 b s k))
    (e2 : ∀ s (l : Fin 256) (k : Fin 12288), k.val = 9216 + 256 * j + l.val → y2 (ix3 0 s l) = x0 (ix3 b s k))
    (e3 : ∀ s (l : Fin 256) (k : Fin 12288), k.val = 10752 + 256 * j + l.val → y3 (ix3 0 s l) = x0 (ix3 b s k))
    (e4 : ∀ s l, y4 (ix3 0 s l) = x1 (ix3 b s l))
    (e5 : ∀ (r l : Fin 128) (k : Fin 768), k.val = 128 * j + l.val → y5 (ix2 r l) = if h : r.val < 16 then x2 (ix2 ⟨r.val, h⟩ k) else (0 : EReal))
    (e6 : ∀ (l : Fin 128) (k : Fin 768), k.val = 128 * j + l.val → y6 (ix2 0 l) = x3 (ix1 k))
    (e7 : ∀ l, y7 (ix2 0 l) = x4 (ix1 l))
    (h1 : ∀ (s : Fin 2048) (r : Fin 128), r.val < 16 → x1 (ix3 b s r) ≠ ⊤ ∧ x1 (ix3 b s r) ≠ ⊥)
    (h2 : ∀ (r : Fin 16) (l : Fin 768), x2 (ix2 r l) ≠ ⊤ ∧ x2 (ix2 r l) ≠ ⊥)
    (n : Fin 32) (i : Fin 64) (e : Fin 128) :
    outBlock y0 y1 y2 y3 y4 y5 y6 y7 (ix3 0 (place n i) (col u e)) = value x0 x1 x2 x3 x4 b h n i e := by
  have hl : ∀ l : Fin 128, 128 * j + l.val < 768 := by intro l; omega
  have h5 : ∀ (r l : Fin 128), y5 (ix2 r l) ≠ ⊤ ∧ y5 (ix2 r l) ≠ ⊥ := by
    intro r l
    rw [e5 r l ⟨128 * j + l.val, hl l⟩ rfl]
    by_cases h : r.val < 16
    · rw [dif_pos h]; exact h2 _ _
    · rw [dif_neg h]; exact ⟨EReal.zero_ne_top, EReal.zero_ne_bot⟩
  have h0 : ∀ (r l : Fin 128), 16 ≤ r.val → y5 (ix2 r l) = 0 := by
    intro r l h
    rw [e5 r l ⟨128 * j + l.val, hl l⟩ rfl, dif_neg (by omega)]
  have h4 : ∀ (s : Fin 2048) (r : Fin 128), r.val < 16 → y4 (ix3 0 s r) ≠ ⊤ ∧ y4 (ix3 0 s r) ≠ ⊥ := by
    intro s r h
    rw [e4]
    exact h1 _ _ h
  rw [outBlock_at y0 y1 y2 y3 y4 y5 y6 y7 u n i e h4 h5 h0]
  have f0 : ∀ s (d : Fin 64), y0 (ix3 0 s (lane u d)) = x0 (ix3 b s ⟨7680 + (h.val * 64 + d.val), by omega⟩) := fun s d => e0 s _ _ (by show _ = 7680 + 128 * j + (64 * u.val + d.val); simp only []; omega)
  have f1 : ∀ s (d : Fin 64), y1 (ix3 0 s (lane u d)) = x0 (ix3 b s ⟨8448 + (h.val * 64 + d.val), by omega⟩) := fun s d => e1 s _ _ (by show _ = 8448 + 128 * j + (64 * u.val + d.val); simp only []; omega)
  have f2 : ∀ s (d : Fin 128), y2 (ix3 0 s (col u d)) = x0 (ix3 b s ⟨9216 + (h.val * 128 + d.val), by omega⟩) := fun s d => e2 s _ _ (by show _ = 9216 + 256 * j + (128 * u.val + d.val); simp only []; omega)
  have f3 : ∀ s (d : Fin 128), y3 (ix3 0 s (col u d)) = x0 (ix3 b s ⟨10752 + (h.val * 128 + d.val), by omega⟩) := fun s d => e3 s _ _ (by show _ = 10752 + 256 * j + (128 * u.val + d.val); simp only []; omega)
  have f5 : ∀ (r : Fin 16) (d : Fin 64), y5 (ix2 ⟨r.val, by omega⟩ (lane u d)) = x2 (ix2 r ⟨h.val * 64 + d.val, by omega⟩) := fun r d => (e5 _ _ ⟨h.val * 64 + d.val, by omega⟩ (by show h.val * 64 + d.val = 128 * j + (64 * u.val + d.val); omega)).trans (dif_pos r.isLt)
  have f6 : ∀ (d : Fin 64), y6 (ix2 0 (lane u d)) = x3 (ix1 ⟨h.val * 64 + d.val, by omega⟩) := fun d => e6 _ _ (by show h.val * 64 + d.val = 128 * j + (64 * u.val + d.val); omega)
  unfold value
  simp only [f0, f1, f2, f3, e4, f5, f6, e7]

variable (m : (ℓ : Loc nD τ sig) → Buf (Elt Ideal) ℓ) (c : Dev nD) (t : Fin cfg0.N)

/-! The blocks of a grid point, at their shapes. -/

def bk0 : Vec 𝕀 S1x2048x128 .bf16 := iblk m c 0 t
def bk1 : Vec 𝕀 S1x2048x128 .bf16 := iblk m c 1 t
def bk2 : Vec 𝕀 S1x2048x256 .bf16 := iblk m c 2 t
def bk3 : Vec 𝕀 S1x2048x256 .bf16 := iblk m c 3 t
def bk4 : Vec 𝕀 S1x2048x128 .f32 := iblk m c 4 t
def bk5 : Vec 𝕀 S128x128 .f32 := iblk m c 5 t
def bk6 : Vec 𝕀 S1x128 .f32 := iblk m c 6 t
def bk7 : Vec 𝕀 S1x128 .f32 := iblk m c 7 t

theorem outs_eq : outsAt0 m c t = outBlock (bk0 m c t) (bk1 m c t) (bk2 m c t) (bk3 m c t) (bk4 m c t) (bk5 m c t) (bk6 m c t) (bk7 m c t) := rfl

variable (h1 : ∀ (b : Fin 4) (s : Fin 2048) (r : Fin 128), r.val < 16 → ar1 m c (ix3 b s r) ≠ ⊤ ∧ ar1 m c (ix3 b s r) ≠ ⊥)
  (h2 : ∀ (r : Fin 16) (l : Fin 768), ar2 m c (ix2 r l) ≠ ⊤ ∧ ar2 m c (ix2 r l) ≠ ⊥)

include h1 h2 in
/-- A grid point's block, at a row and a head's column. -/
theorem block_at (u : Fin 2) (n : Fin 32) (i : Fin 64) (e : Fin 128) :
    outsAt0 m c t (ix3 0 (place n i) (col u e))
      = value (ar0 m c) (ar1 m c) (ar2 m c) (ar3 m c) (ar4 m c) ⟨t.val / 6, (idx t).2.2.2.2.2.2.2.2.2⟩ ⟨2 * (t.val % 6) + u.val, by omega⟩ n i e := by
  rw [outs_eq]
  exact value_of_blocks _ _ _ _ _ _ _ _ _ _ _ _ _ _ _ u (t.val % 6) rfl
    (fun s l k hk => blk0 m c t s l _ k rfl hk) (fun s l k hk => blk1 m c t s l _ k rfl hk)
    (fun s l k hk => blk2 m c t s l _ k rfl hk) (fun s l k hk => blk3 m c t s l _ k rfl hk)
    (fun s l => blk4 m c t s l _ l rfl rfl) (fun r l k hk => blk5 m c t r l k hk)
    (fun l k hk => blk6 m c t l k hk) (fun l => blk7 m c t l) (fun s r h => h1 _ s r h) h2 n i e

end Cert.KglaIdeal.Mix

end
-- ==== Proof.GlaRefTerms.lean ====
/- The reference's arrays before its scan over the chunks, as terms of its arguments, and the scan's step on them. -/
module

public import proofs.«01_k».proof.Proof.Gen.RglaIdeal.Run
public import Idealize.ShloMosaic.Lib.Pipeline.ValueKit

@[expose] public section

set_option maxRecDepth 16384

noncomputable section

namespace Cert.RglaIdeal.Whole

open Idealize.ShloMosaic Idealize.ShloMosaic.TcCoe Idealize.SL.Sem Idealize.ShloMosaic.StableHlo
open Cert.RglaIdeal Cert.RglaIdeal.Gen Cert.RglaIdeal.Value

/-- The low-rank gate's scores. -/
def scores (x1 : FVec Idealize.ShloMosaic.Ideal S4x2048x128 .f32) (x2 : FVec Idealize.ShloMosaic.Ideal S16x768 .f32) (x3 : FVec Idealize.ShloMosaic.Ideal S768 .f32) : FVec Idealize.ShloMosaic.Ideal S4x2048x768 .f32 :=
  addf (Host.dotGeneral dot_S4x2048x16_S16x768_S4x2048x768_2_0_01_1_n_n none (extractStridedSlice S4x2048x16 ![0, 0, 0] x1 slices_S4x2048x128_S4x2048x16_0_0_0) x2)
    (broadcastInDim S4x2048x768 ![0, 1, 2] bcast_S1x1x768_S4x2048x768_0_1_2 (broadcastInDim S1x1x768 ![2] bcast_S768_S1x1x768_2 x3))

/-- Zero in every position. -/
def zeros : FVec Idealize.ShloMosaic.Ideal S4x2048x768 .f32 := broadcastInDim S4x2048x768 ![] bcast_S_S4x2048x768 (constant S_ .f32 0x00000000#32)

/-- The softplus, as the host writes it out. -/
def softplus (u : FVec Idealize.ShloMosaic.Ideal S4x2048x768 .f32) : FVec Idealize.ShloMosaic.Ideal S4x2048x768 .f32 :=
  select (cmpf .une (subf u zeros) (subf u zeros)) (addf u zeros)
    (addf (maximumf u zeros) (Host.log1p (Host.exp (Host.negf (Host.absf (subf u zeros))))))

/-- The logarithms of the decays. -/
def logDecay (z : FVec Idealize.ShloMosaic.Ideal S4x2048x768 .f32) : FVec Idealize.ShloMosaic.Ideal S4x2048x768 .f32 :=
  Host.divf (Host.negf (softplus (Host.negf z))) (broadcastInDim S4x2048x768 ![] bcast_S_S4x2048x768 (constant S_ .f32 0x41800000#32))

/-- An array of rows, by chunk, batch, head and row. -/
def chunked (x : FVec Idealize.ShloMosaic.Ideal S4x2048x768 .f32) : FVec Idealize.ShloMosaic.Ideal S32x4x12x64x64 .f32 :=
  transpose S32x4x12x64x64 [1, 0, 3, 2, 4] (shapeCast S4x32x64x12x64 x shapeCasts_S4x2048x768_S4x32x64x12x64) transposes_S4x32x64x12x64_S32x4x12x64x64_1_0_3_2_4

/-- The queries. -/
def queries (x0 : FVec Idealize.ShloMosaic.Ideal S4x2048x12288 .bf16) : FVec Idealize.ShloMosaic.Ideal S32x4x12x64x64 .f32 :=
  chunked (mulf (extractStridedSlice S4x2048x768 ![0, 0, 7680] (extf .f32 x0 bitsLt_bf16_f32) slices_S4x2048x12288_S4x2048x768_0_0_7680)
    (broadcastInDim S4x2048x768 ![] bcast_S_S4x2048x768 (constant S_ .f32 0x3E000000#32)))

/-- The keys. -/
def keys (x0 : FVec Idealize.ShloMosaic.Ideal S4x2048x12288 .bf16) : FVec Idealize.ShloMosaic.Ideal S32x4x12x64x64 .f32 :=
  chunked (extractStridedSlice S4x2048x768 ![0, 0, 8448] (extf .f32 x0 bitsLt_bf16_f32) slices_S4x2048x12288_S4x2048x768_0_0_8448)

/-- The values. -/
def vals (x0 : FVec Idealize.ShloMosaic.Ideal S4x2048x12288 .bf16) : FVec Idealize.ShloMosaic.Ideal S32x4x12x64x128 .f32 :=
  transpose S32x4x12x64x128 [1, 0, 3, 2, 4] (shapeCast S4x32x64x12x128
    (extractStridedSlice S4x2048x1536 ![0, 0, 9216] (extf .f32 x0 bitsLt_bf16_f32) slices_S4x2048x12288_S4x2048x1536_0_0_9216)
    shapeCasts_S4x2048x1536_S4x32x64x12x128) transposes_S4x32x64x12x128_S32x4x12x64x128_1_0_3_2_4

/-- Sums of the rows up to each row within a chunk. -/
def sums (g : FVec Idealize.ShloMosaic.Ideal S32x4x12x64x64 .f32) : FVec Idealize.ShloMosaic.Ideal S32x4x12x64x64 .f32 :=
  Host.reduceWindowAdd ![1, 1, 1, 64, 1] ![1, 1, 1, 1, 1] ![0, 0, 0, 63, 0] ![0, 0, 0, 0, 0] g
    (broadcastInDim S_ ![] bcast_S_S_ (constant S_ .f32 0x00000000#32))
    reduceWindows_S32x4x12x64x64_S32x4x12x64x64_w1s1p0_0_w1s1p0_0_w1s1p0_0_w64s1p63_0_w1s1p0_0 h_S_

/-- The queries with their decay. -/
def qDecay (q B : FVec Idealize.ShloMosaic.Ideal S32x4x12x64x64 .f32) : FVec Idealize.ShloMosaic.Ideal S32x4x12x64x64 .f32 := mulf q (Host.exp B)

/-- The mask of the earlier rows. -/
def lower : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- What a row takes from its own chunk. -/
def intra (q k B : FVec Idealize.ShloMosaic.Ideal S32x4x12x64x64 .f32) (v : FVec Idealize.ShloMosaic.Ideal S32x4x12x64x128 .f32) : FVec Idealize.ShloMosaic.Ideal S32x4x12x64x128 .f32 :=
  Host.dotGeneral dot_S32x4x12x64x64_S32x4x12x64x128_S32x4x12x64x128_4_3_3_4_012_012 none
    (select (broadcastInDim S32x4x12x64x64 ![3, 4] bcast_S64x64_S32x4x12x64x64_3_4 lower)
      (Host.dotGeneral dot_S32x4x12x64x64_S32x4x12x64x64_S32x4x12x64x64_4_4_3_3_012_012 none (qDecay q B) (mulf k (Host.exp (Host.negf B))))
      (broadcastInDim S32x4x12x64x64 ![] bcast_S_S32x4x12x64x64 (constant S_ .f32 0x00000000#32))) v

/-- The sums over a whole chunk. -/
def total (B : FVec Idealize.ShloMosaic.Ideal S32x4x12x64x64 .f32) : FVec Idealize.ShloMosaic.Ideal S32x4x12x64 .f32 :=
  shapeCast S32x4x12x64 (extractStridedSlice S32x4x12x1x64 ![0, 0, 0, 63, 0] B slices_S32x4x12x64x64_S32x4x12x1x64_0_0_0_63_0) shapeCasts_S32x4x12x1x64_S32x4x12x64

/-- What a chunk adds to the state. -/
def adds (k B : FVec Idealize.ShloMosaic.Ideal S32x4x12x64x64 .f32) (v : FVec Idealize.ShloMosaic.Ideal S32x4x12x64x128 .f32) : FVec Idealize.ShloMosaic.Ideal S32x4x12x64x128 .f32 :=
  Host.dotGeneral dot_S32x4x12x64x64_S32x4x12x64x128_S32x4x12x64x128_3_3_4_4_012_012 none
    (mulf k (Host.exp (subf (broadcastInDim S32x4x12x64x64 ![0, 1, 2, 3, 4] bcast_S32x4x12x1x64_S32x4x12x64x64_0_1_2_3_4
      (broadcastInDim S32x4x12x1x64 ![0, 1, 2, 4] bcast_S32x4x12x64_S32x4x12x1x64_0_1_2_4 (total B))) B))) v

variable (m : (ℓ : Loc nD τ sig) → Buf (Elt Ideal) ℓ) (c : Dev nD)

/-- The argument that holds the rows. -/
abbrev a0 : FVec Idealize.ShloMosaic.Ideal S4x2048x12288 .bf16 := m ((c.tc : Thread nD τ).loc main_arg0)
/-- The argument that holds the gate's inputs. -/
abbrev a1 : FVec Idealize.ShloMosaic.Ideal S4x2048x128 .f32 := m ((c.tc : Thread nD τ).loc main_arg1)
/-- The gate's weights. -/
abbrev a2 : FVec Idealize.ShloMosaic.Ideal S16x768 .f32 := m ((c.tc : Thread nD τ).loc main_arg2)
/-- The gate's bias. -/
abbrev a3 : FVec Idealize.ShloMosaic.Ideal S768 .f32 := m ((c.tc : Thread nD τ).loc main_arg3)

/-- The sums at the launch's arguments. -/
def B : FVec Idealize.ShloMosaic.Ideal S32x4x12x64x64 .f32 := sums (chunked (logDecay (scores (a1 m c) (a2 m c) (a3 m c))))

theorem entry0 : entryContents preI m c (Proc.devRef .tc main_v43_0) = qDecay (queries (a0 m c)) (B m c) := by
  simp only [entryContents, afterL_cons, afterL_nil]
  after_reads_simp
  rfl

theorem entry1 : entryContents preI m c (Proc.devRef .tc main_v43_1) = total (B m c) := by
  simp only [entryContents, afterL_cons, afterL_nil]
  after_reads_simp
  rfl

theorem entry2 : entryContents preI m c (Proc.devRef .tc main_v43_2) = adds (keys (a0 m c)) (B m c) (vals (a0 m c)) := by
  simp only [entryContents, afterL_cons, afterL_nil]
  after_reads_simp
  rfl

theorem entry3 : entryContents preI m c (Proc.devRef .tc main_v43_3) = intra (queries (a0 m c)) (keys (a0 m c)) (B m c) (vals (a0 m c)) := by
  simp only [entryContents, afterL_cons, afterL_nil]
  after_reads_simp
  rfl

theorem entry5 : entryContents preI m c (Proc.devRef .tc main_v43_5) = (broadcastInDim S4x12x64x128 ![] bcast_S_S4x12x64x128 (constant S_ .f32 0x00000000#32) : FVec Idealize.ShloMosaic.Ideal S4x12x64x128 .f32) := by
  simp only [entryContents, afterL_cons, afterL_nil]
  after_reads_simp
  rfl

end Cert.RglaIdeal.Whole

end
-- ==== Proof.GlaRef.lean ====
/- Entries of the reference's arrays: each chunk's sums, its own attention, what it adds to the state, and the scan's step. -/
module

public import proofs.«01_k».proof.Proof.GlaRefTerms
public import Idealize.ShloMosaic.Lib.DynamicIndex
public import proofs.«01_k».proof.Proof.GlaSpec

@[expose] public section
set_option maxRecDepth 16384
noncomputable section
namespace Cert.RglaIdeal.Whole
open Idealize.ShloMosaic Idealize.ShloMosaic.TcCoe Idealize.SL.Sem Idealize.ShloMosaic.StableHlo
open Cert.Mix Cert.RglaIdeal Cert.RglaIdeal.Gen Cert.RglaIdeal.Value
local notation "𝕀" => Idealize.ShloMosaic.Ideal
variable (n : Fin 32) (b : Fin 4) (h : Fin 12) (i : Fin 64) (d : Fin 64) (e : Fin 128)

/-- The window's position along the rows is its number. -/
theorem window_row : ∀ k : Fin (⟨5, ![1, 1, 1, 64, 1]⟩ : Shape).numel,
    ((⟨5, ![1, 1, 1, 64, 1]⟩ : Shape).rowMajor.symm k 3).val = k.val := by decide +kernel

theorem window_size : (⟨5, ![1, 1, 1, 64, 1]⟩ : Shape).numel = 64 := by decide +kernel

/-- A left fold that adds is the sum. -/
theorem foldl_add {n : ℕ} (f : Fin n → EReal) (v : EReal) : (List.finRange n).foldl (fun r k => r + f k) v = v + ∑ k, f k := by
  induction n generalizing v with
  | zero => simp
  | succ n ih =>
    rw [List.finRange_succ, List.foldl_cons, List.foldl_map, ih (fun k => f k.succ), Fin.sum_univ_succ, add_assoc]

theorem shifted_sum (g : Fin 64 → EReal) (i : Fin 64) (f : Fin 64 → EReal)
    (hf : ∀ k : Fin 64, f k = if hk : 63 ≤ i.val + k.val then g ⟨i.val + k.val - 63, by omega⟩ else 0) :
    ∑ k, f k = ∑ s : Fin 64, if s ≤ i then g s else 0 := by
  rw [← Finset.sum_filter]
  have : ∑ k, f k = ∑ k ∈ Finset.univ.filter (fun k : Fin 64 => 63 ≤ i.val + k.val), f k := by
    rw [Finset.sum_filter]
    exact Finset.sum_congr rfl fun k _ => by
      by_cases hk : 63 ≤ i.val + k.val
      · rw [if_pos hk]
      · rw [if_neg hk, hf, dif_neg hk]
  rw [this]
  refine Finset.sum_bij' (fun k hk => ⟨i.val + k.val - 63, by omega⟩) (fun s hs => ⟨63 + s.val - i.val, by
      have := (Finset.mem_filter.mp hs).2; have : s.val ≤ i.val := this; omega⟩) ?_ ?_ ?_ ?_ ?_
  · intro k hk
    refine Finset.mem_filter.mpr ⟨Finset.mem_univ _, ?_⟩
    show i.val + k.val - 63 ≤ i.val
    omega
  · intro s hs
    have : s.val ≤ i.val := (Finset.mem_filter.mp hs).2
    refine Finset.mem_filter.mpr ⟨Finset.mem_univ _, ?_⟩
    show 63 ≤ i.val + (63 + s.val - i.val)
    omega
  · intro k hk
    have : 63 ≤ i.val + k.val := (Finset.mem_filter.mp hk).2
    ext; simp; omega
  · intro s hs
    have : s.val ≤ i.val := (Finset.mem_filter.mp hs).2
    ext; simp; omega
  · intro k hk
    rw [hf, dif_pos (Finset.mem_filter.mp hk).2]

theorem sums_at (g : FVec 𝕀 S32x4x12x64x64 .f32) : sums g (ix5 n b h i d) = ∑ s : Fin 64, if s ≤ i then g (ix5 n b h s d) else 0 := by
  unfold sums Host.reduceWindowAdd
  simp only [Ideal.hostReduceWindowAdd_def]
  unfold Ideal.hostReduceWindowAdd
  have hz : (broadcastInDim S_ ![] bcast_S_S_ (constant S_ FTy.f32 0#32) : FVec 𝕀 S_ .f32) (Shape.Idx.first h_S_) = (0 : EReal) := by
    pointwise
  rw [hz]
  unfold Host.reduceWindow
  refine (foldl_add _ _).trans ?_
  rw [zero_add]
  refine (Fintype.sum_equiv (finCongr window_size) _ (fun k : Fin 64 => if hk : 63 ≤ i.val + k.val then g (ix5 n b h ⟨i.val + k.val - 63, by omega⟩ d) else 0) ?_).trans
    (shifted_sum (fun s => g (ix5 n b h s d)) i _ fun k => rfl)
  intro k
  have hk3 := window_row k
  have hk0 : ((⟨5, ![1, 1, 1, 64, 1]⟩ : Shape).rowMajor.symm k 0).val = 0 := by
    have := ((⟨5, ![1, 1, 1, 64, 1]⟩ : Shape).rowMajor.symm k 0).isLt; exact Nat.lt_one_iff.mp this
  have hk1 : ((⟨5, ![1, 1, 1, 64, 1]⟩ : Shape).rowMajor.symm k 1).val = 0 := by
    have := ((⟨5, ![1, 1, 1, 64, 1]⟩ : Shape).rowMajor.symm k 1).isLt; exact Nat.lt_one_iff.mp this
  have hk2 : ((⟨5, ![1, 1, 1, 64, 1]⟩ : Shape).rowMajor.symm k 2).val = 0 := by
    have := ((⟨5, ![1, 1, 1, 64, 1]⟩ : Shape).rowMajor.symm k 2).isLt; exact Nat.lt_one_iff.mp this
  have hk4 : ((⟨5, ![1, 1, 1, 64, 1]⟩ : Shape).rowMajor.symm k 4).val = 0 := by
    have := ((⟨5, ![1, 1, 1, 64, 1]⟩ : Shape).rowMajor.symm k 4).isLt; exact Nat.lt_one_iff.mp this
  have hlt : k.val < 64 := by exact lt_of_lt_of_eq k.isLt window_size
  dsimp only
  by_cases hk : 63 ≤ i.val + k.val
  · rw [dif_pos (show 63 ≤ i.val + (finCongr window_size k).val from hk), dif_pos]
    · refine congrArg g ?_
      funext a
      apply Fin.ext
      fin_cases a
      · show n.val * 1 + ((⟨5, ![1, 1, 1, 64, 1]⟩ : Shape).rowMajor.symm k 0).val - 0 = n.val
        omega
      · show b.val * 1 + ((⟨5, ![1, 1, 1, 64, 1]⟩ : Shape).rowMajor.symm k 1).val - 0 = b.val
        omega
      · show h.val * 1 + ((⟨5, ![1, 1, 1, 64, 1]⟩ : Shape).rowMajor.symm k 2).val - 0 = h.val
        omega
      · show i.val * 1 + ((⟨5, ![1, 1, 1, 64, 1]⟩ : Shape).rowMajor.symm k 3).val - 63 = i.val + k.val - 63
        omega
      · show d.val * 1 + ((⟨5, ![1, 1, 1, 64, 1]⟩ : Shape).rowMajor.symm k 4).val - 0 = d.val
        omega
    · intro a
      fin_cases a
      · show 0 ≤ n.val * 1 + ((⟨5, ![1, 1, 1, 64, 1]⟩ : Shape).rowMajor.symm k 0).val ∧ n.val * 1 + ((⟨5, ![1, 1, 1, 64, 1]⟩ : Shape).rowMajor.symm k 0).val - 0 < 32
        omega
      · show 0 ≤ b.val * 1 + ((⟨5, ![1, 1, 1, 64, 1]⟩ : Shape).rowMajor.symm k 1).val ∧ b.val * 1 + ((⟨5, ![1, 1, 1, 64, 1]⟩ : Shape).rowMajor.symm k 1).val - 0 < 4
        omega
      · show 0 ≤ h.val * 1 + ((⟨5, ![1, 1, 1, 64, 1]⟩ : Shape).rowMajor.symm k 2).val ∧ h.val * 1 + ((⟨5, ![1, 1, 1, 64, 1]⟩ : Shape).rowMajor.symm k 2).val - 0 < 12
        omega
      · show 63 ≤ i.val * 1 + ((⟨5, ![1, 1, 1, 64, 1]⟩ : Shape).rowMajor.symm k 3).val ∧ i.val * 1 + ((⟨5, ![1, 1, 1, 64, 1]⟩ : Shape).rowMajor.symm k 3).val - 63 < 64
        omega
      · show 0 ≤ d.val * 1 + ((⟨5, ![1, 1, 1, 64, 1]⟩ : Shape).rowMajor.symm k 4).val ∧ d.val * 1 + ((⟨5, ![1, 1, 1, 64, 1]⟩ : Shape).rowMajor.symm k 4).val - 0 < 64
        omega
  · rw [dif_neg (show ¬ 63 ≤ i.val + (finCongr window_size k).val from hk), dif_neg]
    intro hin
    have h3 := (hin 3).1
    have : 63 ≤ i.val * 1 + ((⟨5, ![1, 1, 1, 64, 1]⟩ : Shape).rowMajor.symm k 3).val := h3
    omega

/-- The starts of one chunk's slice. -/
abbrev starts (r : ℕ) (n : Fin 32) : Fin (r + 1) → ℤ := fun k => if k = 0 then n.val else 0

theorem word_int (n : Fin 32) : (BitVec.ofNat 32 n.val).toInt = n.val := by
  revert n; decide +kernel

theorem starts4 : (fun k => (((![(fun _ => BitVec.ofNat 32 n.val), constantI S_ 32 0#32, constantI S_ 32 0#32, constantI S_ 32 0#32] : Fin 4 → (⟨S_, .i32⟩ : BufTy).Contents (Elt 𝕀))) k (Shape.Idx.first h_S_)).toInt) = starts 3 n := by
  funext k; fin_cases k
  · exact word_int n
  all_goals rfl

theorem starts5 : (fun k => (((![(fun _ => BitVec.ofNat 32 n.val), constantI S_ 32 0#32, constantI S_ 32 0#32, constantI S_ 32 0#32, constantI S_ 32 0#32] : Fin 5 → (⟨S_, .i32⟩ : BufTy).Contents (Elt 𝕀))) k (Shape.Idx.first h_S_)).toInt) = starts 4 n := by
  funext k; fin_cases k
  · exact word_int n
  all_goals rfl

theorem slices4 : S32x4x12x64.Slices ![n.val, 0, 0, 0] S1x4x12x64 := by revert n; decide +kernel
theorem slices5 : S32x4x12x64x64.Slices ![n.val, 0, 0, 0, 0] S1x4x12x64x64 := by revert n; decide +kernel
theorem slices5' : S32x4x12x64x128.Slices ![n.val, 0, 0, 0, 0] S1x4x12x64x128 := by revert n; decide +kernel

theorem slice4 (x : FVec 𝕀 S32x4x12x64 .f32) :
    Host.dynamicSlice S1x4x12x64 x (starts 3 n) sliceFits_S32x4x12x64_S1x4x12x64 = extractStridedSlice S1x4x12x64 ![n.val, 0, 0, 0] x (slices4 n) :=
  Host.dynamicSlice_eq_extractStridedSlice _ x _ _ _ (slices4 n) (fun a => by fin_cases a <;> rfl)

theorem slice5 (x : FVec 𝕀 S32x4x12x64x64 .f32) :
    Host.dynamicSlice S1x4x12x64x64 x (starts 4 n) sliceFits_S32x4x12x64x64_S1x4x12x64x64 = extractStridedSlice S1x4x12x64x64 ![n.val, 0, 0, 0, 0] x (slices5 n) :=
  Host.dynamicSlice_eq_extractStridedSlice _ x _ _ _ (slices5 n) (fun a => by fin_cases a <;> rfl)

theorem slice5' (x : FVec 𝕀 S32x4x12x64x128 .f32) :
    Host.dynamicSlice S1x4x12x64x128 x (starts 4 n) sliceFits_S32x4x12x64x128_S1x4x12x64x128 = extractStridedSlice S1x4x12x64x128 ![n.val, 0, 0, 0, 0] x (slices5' n) :=
  Host.dynamicSlice_eq_extractStridedSlice _ x _ _ _ (slices5' n) (fun a => by fin_cases a <;> rfl)

theorem update5 (x : FVec 𝕀 S32x4x12x64x128 .f32) (u : FVec 𝕀 S1x4x12x64x128 .f32) (n' : Fin 32) :
    Host.dynamicUpdateSlice x u (starts 4 n) updateFits_S32x4x12x64x128_S1x4x12x64x128 (ix5 n' b h i e)
      = if n' = n then u (ix5 0 b h i e) else x (ix5 n' b h i e) := by
  have hn := n.isLt
  have c0 : Host.clampedStart S32x4x12x64x128 S1x4x12x64x128 updateFits_S32x4x12x64x128_S1x4x12x64x128.1 (starts 4 n) 0 = n.val :=
    Host.clampedStart_of_le _ _ _ n.val rfl (by show n.val + 1 ≤ 32; omega)
  have c1 : Host.clampedStart S32x4x12x64x128 S1x4x12x64x128 updateFits_S32x4x12x64x128_S1x4x12x64x128.1 (starts 4 n) 1 = 0 :=
    Host.clampedStart_of_le _ _ _ 0 rfl (by decide)
  have c2 : Host.clampedStart S32x4x12x64x128 S1x4x12x64x128 updateFits_S32x4x12x64x128_S1x4x12x64x128.1 (starts 4 n) 2 = 0 :=
    Host.clampedStart_of_le _ _ _ 0 rfl (by decide)
  have c3 : Host.clampedStart S32x4x12x64x128 S1x4x12x64x128 updateFits_S32x4x12x64x128_S1x4x12x64x128.1 (starts 4 n) 3 = 0 :=
    Host.clampedStart_of_le _ _ _ 0 rfl (by decide)
  have c4 : Host.clampedStart S32x4x12x64x128 S1x4x12x64x128 updateFits_S32x4x12x64x128_S1x4x12x64x128.1 (starts 4 n) 4 = 0 :=
    Host.clampedStart_of_le _ _ _ 0 rfl (by decide)
  rw [Host.dynamicUpdateSlice_apply]
  by_cases hq : n' = n
  · subst hq
    rw [if_pos rfl, dif_pos]
    · refine congrArg u ?_
      rw [Shape.Idx.norm_def]
      funext a; apply Fin.ext
      fin_cases a
      · show n'.val - Host.clampedStart _ _ _ _ 0 = 0
        rw [c0]; omega
      · show b.val - Host.clampedStart _ _ _ _ 1 = b.val
        rw [c1]; omega
      · show h.val - Host.clampedStart _ _ _ _ 2 = h.val
        rw [c2]; omega
      · show i.val - Host.clampedStart _ _ _ _ 3 = i.val
        rw [c3]; omega
      · show e.val - Host.clampedStart _ _ _ _ 4 = e.val
        rw [c4]; omega
    · intro a
      fin_cases a
      · show Host.clampedStart _ _ _ _ 0 ≤ n'.val ∧ n'.val < Host.clampedStart _ _ _ _ 0 + 1
        rw [c0]; omega
      · show Host.clampedStart _ _ _ _ 1 ≤ b.val ∧ b.val < Host.clampedStart _ _ _ _ 1 + 4
        rw [c1]; omega
      · show Host.clampedStart _ _ _ _ 2 ≤ h.val ∧ h.val < Host.clampedStart _ _ _ _ 2 + 12
        rw [c2]; omega
      · show Host.clampedStart _ _ _ _ 3 ≤ i.val ∧ i.val < Host.clampedStart _ _ _ _ 3 + 64
        rw [c3]; omega
      · show Host.clampedStart _ _ _ _ 4 ≤ e.val ∧ e.val < Host.clampedStart _ _ _ _ 4 + 128
        rw [c4]; omega
  · rw [if_neg hq, dif_neg]
    intro hin
    have h0 := hin 0
    have : Host.clampedStart S32x4x12x64x128 S1x4x12x64x128 updateFits_S32x4x12x64x128_S1x4x12x64x128.1 (starts 4 n) 0 ≤ n'.val ∧ n'.val < Host.clampedStart S32x4x12x64x128 S1x4x12x64x128 updateFits_S32x4x12x64x128_S1x4x12x64x128.1 (starts 4 n) 0 + 1 := h0
    rw [c0] at this
    exact hq (Fin.ext (by omega))

/-- The state after one chunk. -/
def stepState (D : FVec 𝕀 S32x4x12x64 .f32) (A : FVec 𝕀 S32x4x12x64x128 .f32) (s4 : Fin 4 → ℤ) (s5 : Fin 5 → ℤ) (st : FVec 𝕀 S4x12x64x128 .f32) : FVec 𝕀 S4x12x64x128 .f32 :=
  (addf (mulf (broadcastInDim S4x12x64x128 ![0, 1, 2, 3] bcast_S4x12x64x1_S4x12x64x128_0_1_2_3 (broadcastInDim S4x12x64x1 ![0, 1, 2] bcast_S4x12x64_S4x12x64x1_0_1_2 (Host.exp (shapeCast S4x12x64 (Host.dynamicSlice S1x4x12x64 D s4 sliceFits_S32x4x12x64_S1x4x12x64) shapeCasts_S1x4x12x64_S4x12x64)))) st) (shapeCast S4x12x64x128 (Host.dynamicSlice S1x4x12x64x128 A s5 sliceFits_S32x4x12x64x128_S1x4x12x64x128) shapeCasts_S1x4x12x64x128_S4x12x64x128))

/-- The outputs after one chunk. -/
def stepOut (Q : FVec 𝕀 S32x4x12x64x64 .f32) (O : FVec 𝕀 S32x4x12x64x128 .f32) (s5 : Fin 5 → ℤ) (st : FVec 𝕀 S4x12x64x128 .f32) (out : FVec 𝕀 S32x4x12x64x128 .f32) : FVec 𝕀 S32x4x12x64x128 .f32 :=
  (Host.dynamicUpdateSlice out (broadcastInDim S1x4x12x64x128 ![1, 2, 3, 4] bcast_S4x12x64x128_S1x4x12x64x128_1_2_3_4 (addf (shapeCast S4x12x64x128 (Host.dynamicSlice S1x4x12x64x128 O s5 sliceFits_S32x4x12x64x128_S1x4x12x64x128) shapeCasts_S1x4x12x64x128_S4x12x64x128) (Host.dotGeneral dot_S4x12x64x64_S4x12x64x128_S4x12x64x128_3_2_2_3_01_01 none (shapeCast S4x12x64x64 (Host.dynamicSlice S1x4x12x64x64 Q s5 sliceFits_S32x4x12x64x64_S1x4x12x64x64) shapeCasts_S1x4x12x64x64_S4x12x64x64) st))) s5 updateFits_S32x4x12x64x128_S1x4x12x64x128)

theorem stepState_at (D A st) : stepState D A (starts 3 n) (starts 4 n) st (ix4 b h d e) = Ideal.exp (D (ix4 n b h d)) * st (ix4 b h d e) + A (ix5 n b h d e) := by
  unfold stepState
  rw [slice4, slice5']
  pointwise

theorem stepOut_at (Q O st out) (n' : Fin 32) : stepOut Q O (starts 4 n) st out (ix5 n' b h i e)
    = if n' = n then O (ix5 n b h i e) + ∑ d : Fin 64, Q (ix5 n b h i d) * st (ix4 b h d e) else out (ix5 n' b h i e) := by
  unfold stepOut
  rw [slice5, slice5', update5]
  congr 1
  pointwise

theorem step5 (V0 : Valuation τ sig (Elt 𝕀)) (hc : V0 (Proc.devRef .tc main_v43_4) = fun _ => BitVec.ofNat 32 n.val) :
    step_main_v43_5 V0 = stepState (V0 (Proc.devRef .tc main_v43_1)) (V0 (Proc.devRef .tc main_v43_2)) (starts 3 n) (starts 4 n) (V0 (Proc.devRef .tc main_v43_5)) := by
  unfold step_main_v43_5
  rw [hc]
  exact congrArg₂ (fun s4 s5 => stepState (V0 (Proc.devRef .tc main_v43_1)) (V0 (Proc.devRef .tc main_v43_2)) s4 s5 (V0 (Proc.devRef .tc main_v43_5))) (starts4 n) (starts5 n)

theorem step6 (V0 : Valuation τ sig (Elt 𝕀)) (hc : V0 (Proc.devRef .tc main_v43_4) = fun _ => BitVec.ofNat 32 n.val) :
    step_main_v43_6 V0 = stepOut (V0 (Proc.devRef .tc main_v43_0)) (V0 (Proc.devRef .tc main_v43_3)) (starts 4 n) (V0 (Proc.devRef .tc main_v43_5)) (V0 (Proc.devRef .tc main_v43_6)) := by
  unfold step_main_v43_6
  rw [hc]
  exact congrArg (fun s5 => stepOut (V0 (Proc.devRef .tc main_v43_0)) (V0 (Proc.devRef .tc main_v43_3)) s5 (V0 (Proc.devRef .tc main_v43_5)) (V0 (Proc.devRef .tc main_v43_6))) (starts5 n)

variable (E : Valuation τ sig (Elt 𝕀))

theorem iter_keep0 : ∀ k, (STEP^[k] E) (Proc.devRef .tc main_v43_0) = E (Proc.devRef .tc main_v43_0)
  | 0 => rfl
  | k + 1 => by rw [Function.iterate_succ_apply', STEP_main_v43_0, iter_keep0 k]
theorem iter_keep1 : ∀ k, (STEP^[k] E) (Proc.devRef .tc main_v43_1) = E (Proc.devRef .tc main_v43_1)
  | 0 => rfl
  | k + 1 => by rw [Function.iterate_succ_apply', STEP_main_v43_1, iter_keep1 k]
theorem iter_keep2 : ∀ k, (STEP^[k] E) (Proc.devRef .tc main_v43_2) = E (Proc.devRef .tc main_v43_2)
  | 0 => rfl
  | k + 1 => by rw [Function.iterate_succ_apply', STEP_main_v43_2, iter_keep2 k]
theorem iter_keep3 : ∀ k, (STEP^[k] E) (Proc.devRef .tc main_v43_3) = E (Proc.devRef .tc main_v43_3)
  | 0 => rfl
  | k + 1 => by rw [Function.iterate_succ_apply', STEP_main_v43_3, iter_keep3 k]

theorem iter_count (h0 : E (Proc.devRef .tc main_v43_4) = fun _ => (0#32 : BitVec 32)) :
    ∀ k, (STEP^[k] E) (Proc.devRef .tc main_v43_4) = fun _ => BitVec.ofNat 32 k
  | 0 => h0
  | k + 1 => by
    rw [Function.iterate_succ_apply', STEP_main_v43_4]
    unfold step_main_v43_4
    rw [iter_count h0 k]
    funext j
    show BitVec.ofNat 32 k + 1#32 = BitVec.ofNat 32 (k + 1)
    rw [BitVec.ofNat_add]

theorem iter_state (h0 : E (Proc.devRef .tc main_v43_4) = fun _ => (0#32 : BitVec 32))
    (h5 : E (Proc.devRef .tc main_v43_5) = (broadcastInDim S4x12x64x128 ![] bcast_S_S4x12x64x128 (constant S_ .f32 0x00000000#32) : FVec 𝕀 S4x12x64x128 .f32)) :
    ∀ k, k ≤ 32 → (STEP^[k] E) (Proc.devRef .tc main_v43_5) (ix4 b h d e)
      = stateAt (fun n => (E (Proc.devRef .tc main_v43_1) : FVec 𝕀 S32x4x12x64 .f32) (ix4 n b h d)) (fun n => (E (Proc.devRef .tc main_v43_2) : FVec 𝕀 S32x4x12x64x128 .f32) (ix5 n b h d e)) k
  | 0, _ => by
    rw [Function.iterate_zero, id_eq, h5]
    pointwise [stateAt]
  | k + 1, hk => by
    rw [Function.iterate_succ_apply', STEP_main_v43_5, step5 ⟨k, hk⟩ _ (iter_count E h0 k), iter_keep1, iter_keep2]
    refine (stepState_at ⟨k, hk⟩ b h d e _ _ _).trans ?_
    rw [iter_state h0 h5 k (by omega), stateAt, dif_pos (show k < 32 from hk)]

theorem iter_out (Q : FVec 𝕀 S32x4x12x64x64 .f32) (D : FVec 𝕀 S32x4x12x64 .f32) (A O : FVec 𝕀 S32x4x12x64x128 .f32)
    (hQ : E (Proc.devRef .tc main_v43_0) = Q) (hD : E (Proc.devRef .tc main_v43_1) = D)
    (hA : E (Proc.devRef .tc main_v43_2) = A) (hO : E (Proc.devRef .tc main_v43_3) = O)
    (h0 : E (Proc.devRef .tc main_v43_4) = fun _ => (0#32 : BitVec 32))
    (h5 : E (Proc.devRef .tc main_v43_5) = (broadcastInDim S4x12x64x128 ![] bcast_S_S4x12x64x128 (constant S_ .f32 0x00000000#32) : FVec 𝕀 S4x12x64x128 .f32)) :
    ∀ k, k ≤ 32 → n.val < k → ((STEP^[k] E) (Proc.devRef .tc main_v43_6) : FVec 𝕀 S32x4x12x64x128 .f32) (ix5 n b h i e)
      = O (ix5 n b h i e) + ∑ d : Fin 64, Q (ix5 n b h i d) * stateAt (fun n => D (ix4 n b h d)) (fun n => A (ix5 n b h d e)) n.val
  | 0, _, hn => absurd hn (Nat.not_lt_zero _)
  | k + 1, hk, hn => by
    rw [Function.iterate_succ_apply', STEP_main_v43_6, step6 ⟨k, hk⟩ _ (iter_count E h0 k), iter_keep0, iter_keep3, hQ, hO]
    refine (stepOut_at ⟨k, hk⟩ b h i e _ _ _ _ n).trans ?_
    by_cases hq : n = ⟨k, hk⟩
    · subst hq
      rw [if_pos rfl]
      refine congrArg _ (Finset.sum_congr rfl fun d _ => congrArg _ ?_)
      rw [iter_state b h d e E h0 h5 k (by omega), hD, hA]
    · rw [if_neg hq]
      exact iter_out Q D A O hQ hD hA hO h0 h5 k (by omega) (by have : n.val ≠ k := fun hh => hq (Fin.ext hh); omega)

/-! ## The entries at the arguments -/

theorem lower_word (i s : Fin 64) :
    Scalar.select (IntOp.cmpi CmpIPredicate.sge (IntOp.addi (BitVec.ofNat 32 i.val) 0#32) (BitVec.ofNat 32 s.val)) (1#1 : BitVec 1) 0#1
      = if s ≤ i then 1#1 else 0#1 := by
  revert i s; decide +kernel

/-- The gate's score at a row and a column. -/
def score (x1 : FVec 𝕀 S4x2048x128 .f32) (x2 : FVec 𝕀 S16x768 .f32) (x3 : FVec 𝕀 S768 .f32) (t : Fin 2048) (l : Fin 768) : EReal :=
  (∑ r : Fin 16, x1 (ix3 b t ⟨r.val, by omega⟩) * x2 (ix2 r l)) + x3 (ix1 l)

/-- A chunk's row among all rows. -/
abbrev tok (n : Fin 32) (i : Fin 64) : Fin 2048 := ⟨n.val * 64 + i.val, by omega⟩

theorem decay_at (x1 x2 x3) (t : Fin 2048) (l : Fin 768) : logDecay (scores x1 x2 x3) (ix3 b t l) = refDecay (score b x1 x2 x3 t l) := by
  pointwise [logDecay, scores, softplus, zeros, refDecay, score]

theorem queries_at (x0) : queries x0 (ix5 n b h i d) = x0 (ix3 b (tok n i) ⟨7680 + (h.val * 64 + d.val), by omega⟩) * Ideal.ofBits FTy.f32 1040187392#32 := by
  pointwise [queries, chunked]

theorem keys_at (x0) : keys x0 (ix5 n b h i d) = x0 (ix3 b (tok n i) ⟨8448 + (h.val * 64 + d.val), by omega⟩) := by
  pointwise [keys, chunked]

theorem vals_at (x0) : vals x0 (ix5 n b h i e) = x0 (ix3 b (tok n i) ⟨9216 + (h.val * 128 + e.val), by omega⟩) := by
  pointwise [vals]

theorem chunked_at (x) : chunked x (ix5 n b h i d) = x (ix3 b (tok n i) ⟨h.val * 64 + d.val, by omega⟩) := by
  pointwise [chunked]

theorem intra_at (q k B v) : intra q k B v (ix5 n b h i e) = ∑ s : Fin 64, (if s ≤ i then (∑ d : Fin 64,
      q (ix5 n b h i d) * Ideal.exp (B (ix5 n b h i d)) * (k (ix5 n b h s d) * Ideal.exp (-B (ix5 n b h s d)))) * v (ix5 n b h s e) else 0) := by
  pointwise [intra, qDecay, lower]
  refine Finset.sum_congr rfl fun s _ => ?_
  rw [lower_word]
  by_cases hs : s ≤ i
  · rw [if_pos hs, if_pos hs]; rfl
  · rw [if_neg hs, if_neg hs]; rfl

theorem adds_at (k B v) : adds k B v (ix5 n b h d e)
    = ∑ s : Fin 64, k (ix5 n b h s d) * Ideal.exp (B (ix5 n b h 63 d) - B (ix5 n b h s d)) * v (ix5 n b h s e) := by
  pointwise [adds, total]

theorem total_at (B) : total B (ix4 n b h d) = B (ix5 n b h 63 d) := by
  pointwise [total]

theorem qDecay_at (q B) : qDecay q B (ix5 n b h i d) = q (ix5 n b h i d) * Ideal.exp (B (ix5 n b h i d)) := by
  pointwise [qDecay]

theorem out_at (V0 : Valuation τ sig (Elt 𝕀)) (V : FVec 𝕀 S32x4x12x64x128 .f32) (x0 : FVec 𝕀 S4x2048x12288 .bf16) (x4 : FVec 𝕀 S128 .f32)
    (hV : V0 (Proc.devRef .tc main_v43_6) = V) (h0 : V0 (Proc.devRef .tc main_arg0) = x0) (h4 : V0 (Proc.devRef .tc main_arg4) = x4) :
    (out_main_v64 V0 : FVec 𝕀 S4x2048x1536 .bf16) (ix3 b (tok n i) ⟨h.val * 128 + e.val, by omega⟩)
      = x0 (ix3 b (tok n i) ⟨10752 + (h.val * 128 + e.val), by omega⟩)
          * Ideal.div 1 (1 + Ideal.exp (-x0 (ix3 b (tok n i) ⟨10752 + (h.val * 128 + e.val), by omega⟩)))
        * (V (ix5 n b h i e) * Ideal.rsqrt (Ideal.div (∑ x, V (ix5 n b h i x) * V (ix5 n b h i x)) (Ideal.ofBits FTy.f32 1124073472#32) + Ideal.ofBits FTy.f32 897988541#32)
          * x4 (ix1 e)) := by
  pointwise [out_main_v64]
  have e1 : (⟨(n.val * 64 + i.val) / 64, by omega⟩ : Fin 32) = n := Fin.ext (by show (n.val * 64 + i.val) / 64 = n.val; omega)
  have e2 : (⟨(n.val * 64 + i.val) % 64, by omega⟩ : Fin 64) = i := Fin.ext (by show (n.val * 64 + i.val) % 64 = i.val; omega)
  rw [hV, h0, h4, e1, e2]

variable (m : (ℓ : Loc nD τ sig) → Buf (Elt Ideal) ℓ) (c : Dev nD)

/-- The norm's weights. -/
abbrev a4 : FVec 𝕀 S128 .f32 := m ((c.tc : Thread nD τ).loc main_arg4)

/-- A head's queries, keys, decays and values in each chunk. -/
abbrev hq (x0 : FVec 𝕀 S4x2048x12288 .bf16) (n : Fin 32) (i d : Fin 64) : EReal := x0 (ix3 b (tok n i) ⟨7680 + (h.val * 64 + d.val), by omega⟩) * Ideal.ofBits FTy.f32 1040187392#32
abbrev hk (x0 : FVec 𝕀 S4x2048x12288 .bf16) (n : Fin 32) (i d : Fin 64) : EReal := x0 (ix3 b (tok n i) ⟨8448 + (h.val * 64 + d.val), by omega⟩)
abbrev hg (x1 : FVec 𝕀 S4x2048x128 .f32) (x2 : FVec 𝕀 S16x768 .f32) (x3 : FVec 𝕀 S768 .f32) (n : Fin 32) (i d : Fin 64) : EReal := refDecay (score b x1 x2 x3 (tok n i) ⟨h.val * 64 + d.val, by omega⟩)
abbrev hv (x0 : FVec 𝕀 S4x2048x12288 .bf16) (n : Fin 32) (i : Fin 64) (e : Fin 128) : EReal := x0 (ix3 b (tok n i) ⟨9216 + (h.val * 128 + e.val), by omega⟩)

theorem B_at : B m c (ix5 n b h i d) = upTo (hg b h (a1 m c) (a2 m c) (a3 m c) n) i d := by
  unfold B
  rw [sums_at]
  refine Finset.sum_congr rfl fun s _ => ?_
  rw [chunked_at, decay_at]

/-- The reference's result at a row and a column. -/
theorem ref_at : (out_main_v64 (STEP^[32] (entryContents preI m c)) : FVec 𝕀 S4x2048x1536 .bf16) (ix3 b (tok n i) ⟨h.val * 128 + e.val, by omega⟩)
    = finish (a0 m c (ix3 b (tok n i) ⟨10752 + (h.val * 128 + e.val), by omega⟩))
        (fun x => row (hq b h (a0 m c)) (hk b h (a0 m c)) (hg b h (a1 m c) (a2 m c) (a3 m c)) (hv b h (a0 m c)) n i x)
        (fun x => a4 m c (ix1 x)) e := by
  rw [out_at n b h i e _ _ (a0 m c) (a4 m c) rfl (iter_main_arg0 m c 32) (iter_main_arg4 m c 32)]
  have hrow : ∀ x : Fin 128, ((STEP^[32] (entryContents preI m c)) (Proc.devRef .tc main_v43_6) : FVec 𝕀 S32x4x12x64x128 .f32) (ix5 n b h i x)
      = row (hq b h (a0 m c)) (hk b h (a0 m c)) (hg b h (a1 m c) (a2 m c) (a3 m c)) (hv b h (a0 m c)) n i x := by
    intro x
    rw [iter_out n b h i x _ _ _ _ _ (entry0 m c) (entry1 m c) (entry2 m c) (entry3 m c) (ctr_entry m c) (entry5 m c) 32 le_rfl n.isLt]
    simp only [intra_at, adds_at, total_at, qDecay_at, B_at, queries_at, keys_at, vals_at]
    rfl
  simp only [hrow]
  rfl

end Cert.RglaIdeal.Whole

end
-- ==== Proof.GlaClaim.lean ====
/- The token mixer computes the reference's recurrence over the extended reals, where the gate's weights and inputs are finite. -/
module

public import proofs.«01_k».proof.Defs
public import proofs.«01_k».proof.Proof.Gen.Pre_finite
public import proofs.«01_k».proof.Proof.GlaValue
public import proofs.«01_k».proof.Proof.GlaRef
public import Idealize.ShloMosaic.Lib.ReduceAll
public import Idealize.ShloMosaic.Lib.Pipeline.ValueKit

@[expose] public section

set_option maxRecDepth 16384

noncomputable section

namespace Cert.KglaIdeal.Whole

open Idealize.ShloMosaic Idealize.ShloMosaic.TcCoe Idealize.SL.Sem Idealize.ShloMosaic.StableHlo
open Cert.KglaIdeal Cert.KglaIdeal.Gen Cert.KglaIdeal.Mix Cert.Mix

local notation "𝕀" => Idealize.ShloMosaic.Ideal

instance : Subsingleton Cert.Pre_finite.S_.Idx := ⟨fun a b => funext fun x => x.elim0⟩

/-- Only a finite number is zero when subtracted from itself. -/
theorem finite_of_sub (x : EReal) (h : BitVec.ofBool (decide (x - x = 0)) = 1#1) : x ≠ ⊤ ∧ x ≠ ⊥ := by
  have h' : x - x = 0 := by
    by_contra hn
    rw [decide_eq_false hn] at h
    exact absurd h (by decide)
  constructor
  · rintro rfl
    simp at h'
  · rintro rfl
    simp at h'

/-- What the precondition says of the gate's inputs and of its weights. -/
theorem finite_of_pre (x0 : FVec 𝕀 S4x2048x12288 .bf16) (x1 : FVec 𝕀 S4x2048x128 .f32) (x2 : FVec 𝕀 S16x768 .f32) (x3 : FVec 𝕀 S768 .f32) (x4 : FVec 𝕀 S128 .f32)
    (h : Cert.Pre_finite.fn (F := 𝕀) x0 x1 x2 x3 x4 = fun _ => 1#1) :
    (∀ (b : Fin 4) (s : Fin 2048) (r : Fin 128), r.val < 16 → x1 (ix3 b s r) ≠ ⊤ ∧ x1 (ix3 b s r) ≠ ⊥)
      ∧ ∀ (r : Fin 16) (l : Fin 768), x2 (ix2 r l) ≠ ⊤ ∧ x2 (ix2 r l) ≠ ⊥ := by
  have h' := congrFun h ix0
  unfold Cert.Pre_finite.fn at h'
  obtain ⟨ha, hb⟩ := IntOp.andi_eq_one.mp h'
  refine ⟨fun b s r hr => ?_, fun r l => ?_⟩
  · have := Host.reduce_andi_all _ _ _ _ _ hb (ix3 b s ⟨r.val, hr⟩)
    apply finite_of_sub
    refine Eq.trans ?_ this
    pointwise
  · have := Host.reduce_andi_all _ _ _ _ _ ha (ix2 r l)
    apply finite_of_sub
    refine Eq.trans ?_ this
    pointwise

/-- Every place of a block is a chunk's row at a head's column. -/
theorem split (y : S1x2048x256.Idx) : ∃ (n : Fin 32) (i : Fin 64) (u : Fin 2) (e : Fin 128), y = ix3 0 (place n i) (col u e) := by
  have h1 : (y 1).val < 2048 := (y 1).isLt
  have h2 : (y 2).val < 256 := (y 2).isLt
  refine ⟨⟨(y 1).val / 64, by omega⟩, ⟨(y 1).val % 64, by omega⟩, ⟨(y 2).val / 128, by omega⟩, ⟨(y 2).val % 128, by omega⟩, ?_⟩
  refine funext fun a => Fin.ext ?_
  fin_cases a
  · have : (y 0).val < 1 := (y 0).isLt
    show (y 0).val = 0
    omega
  · show (y 1).val = (y 1).val / 64 * 64 + (y 1).val % 64
    omega
  · show (y 2).val = 128 * ((y 2).val / 128) + (y 2).val % 128
    omega

variable (m : (ℓ : Loc nD τ sig) → Buf (Elt Ideal) ℓ) (c : Dev nD)
  (h1 : ∀ (b : Fin 4) (s : Fin 2048) (r : Fin 128), r.val < 16 → ar1 m c (ix3 b s r) ≠ ⊤ ∧ ar1 m c (ix3 b s r) ≠ ⊥)
  (h2 : ∀ (r : Fin 16) (l : Fin 768), ar2 m c (ix2 r l) ≠ ⊤ ∧ ar2 m c (ix2 r l) ≠ ⊥)

include h1 h2 in
/-- The result array is any array with the recurrence's entries. -/
theorem final (RES : FVec 𝕀 S4x2048x1536 .bf16)
    (hR : ∀ (b : Fin 4) (h : Fin 12) (n : Fin 32) (i : Fin 64) (e : Fin 128), RES (ix3 b (place n i) ⟨h.val * 128 + e.val, by omega⟩)
      = value (ar0 m c) (ar1 m c) (ar2 m c) (ar3 m c) (ar4 m c) b h n i e) :
    (dats m 0 c).arrAt 8 cfg0.N = RES := by
  refine (dats m 0 c).arrAt_eq_of_covers 8 _ (by decide +kernel) fun t _ y => ?_
  blk_simp
  rw [after0_8]
  frame_out
  obtain ⟨n, i, u, e, rfl⟩ := split y
  have he : ((View.whole main_v5).slice (win0_8.rect t)).emb (ix3 0 (place n i) (col u e))
      = ix3 (⟨t.val / 6, (idx t).2.2.2.2.2.2.2.2.2⟩ : Fin 4) (place n i) (⟨(2 * (t.val % 6) + u.val) * 128 + e.val, by omega⟩ : Fin 1536) := by
    blk_ext [idx t]
  rw [he]
  refine (block_at m c t h1 h2 u n i e).trans ?_
  exact (hR _ ⟨2 * (t.val % 6) + u.val, by omega⟩ n i e).symm

/-- The token mixer of the kernel and that of the reference end with the same array. -/
theorem algebraic : Cert.algebraic_KglaIdeal_RglaIdeal_pre_finite := by
  intro m ρ m' ρ' hp hag
  have hR : ∀ (c : Dev nD) (b : Fin 4) (h : Fin 12) (n : Fin 32) (i : Fin 64) (e : Fin 128),
      (Cert.RglaIdeal.Value.out_main_v64 (Cert.RglaIdeal.Value.STEP^[32] (entryContents Cert.RglaIdeal.Value.preI m' c)) : FVec 𝕀 S4x2048x1536 .bf16)
          (ix3 b (place n i) ⟨h.val * 128 + e.val, by omega⟩)
        = value (ar0 m c) (ar1 m c) (ar2 m c) (ar3 m c) (ar4 m c) b h n i e := by
    intro c b h n i e
    obtain ⟨g0, g1, g2, g3, g4⟩ := hag c
    refine (Cert.RglaIdeal.Whole.ref_at n b h i e m' c).trans ?_
    have e0 : Cert.RglaIdeal.Whole.a0 m' c = ar0 m c := g0
    have e1 : Cert.RglaIdeal.Whole.a1 m' c = ar1 m c := g1
    have e2 : Cert.RglaIdeal.Whole.a2 m' c = ar2 m c := g2
    have e3 : Cert.RglaIdeal.Whole.a3 m' c = ar3 m c := g3
    have e4 : Cert.RglaIdeal.Whole.a4 m' c = ar4 m c := g4
    rw [e0, e1, e2, e3, e4]
    unfold value Cert.RglaIdeal.Whole.hg
    simp only [refDecay_eq]
    rfl
  refine ⟨fun c => (Cert.RglaIdeal.Value.out_main_v64 (Cert.RglaIdeal.Value.STEP^[32] (entryContents Cert.RglaIdeal.Value.preI m' c)) : FVec 𝕀 S4x2048x1536 .bf16), ?_, ?_⟩
  · refine (θ_run Cert.KglaIdeal.defs _ _).mono (fun _ h c => ⟨(h c).1.trans ?_, (h c).2⟩) (run_blocks (F := Ideal) m ρ)
    obtain ⟨h1, h2⟩ := finite_of_pre _ _ _ _ _ (hp c)
    exact final m c h1 h2 _ (hR c)
  · exact Cert.RglaIdeal.Value.run (F := Ideal) m' ρ'

end Cert.KglaIdeal.Whole

end
-- ==== Proof.FfnFrameIdeal.lean ====
/- The feed-forward's first projection: its launch. A scratch buffer keeps, for each of the 43 column tiles, the last 8 rows
   of that tile's gate projection, which the next row tile of the same sequence reads. What the buffer holds between grid
   points is carried in the launch's invariant: the strips stored at the last 43 points. -/
module

public import proofs.«01_k».proof.Proof.Gen.KffnIdeal.Frame
public import proofs.«01_k».proof.Proof.Gen.KffnIdeal.Skeleton
public import Idealize.ShloMosaic.Lib.VecWindow
public import Idealize.ShloMosaic.Lib.Claim
public import Idealize.ShloMosaic.Lib.Pipeline.Value

@[expose] public section

set_option maxRecDepth 16384

noncomputable section

namespace Cert.KffnIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KffnIdeal Cert.KffnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

/-- The scratch rows of the point's column tile. -/
abbrev strip (i : grid0.Coords) : Rect S43x8x256 := Rect.unit (s := S43x8x256) (k0_off2 i) S1x8x256.size (k0_off2_inb i)

/-- The rows before the tile as the point uses them: zeros at the start of a sequence, else what the scratch holds. -/
def held (i : grid0.Coords) (X : Vec F S43x8x256 .f32) : Vec F S1x8x256 .f32 :=
  if k0_cond1 i = 1#1 then k0_pay4 (F := F) else View.ld X (strip i)

/-- The output block of a point, from its operand blocks and the rows before the tile. -/
def outBlock (x0 : Vec F S1024x4096 .bf16) (x1 : Vec F S4096x256 .bf16) (x2 : Vec F S4096x256 .bf16) (x3 : Vec F S3x256 .f32)
    (p : Vec F S1x8x256 .f32) : Vec F S1024x256 .bf16 :=
  k0_pay1 (k0_pay2 x0 x1) (k0_pay3 x0 x2) (k0_pay5 p) (iota .tc S1024x256 32 [0] iota_S1024x256_d0_w32) k0_pay7 (k0_pay8 x0 x1)
    (k0_pay9 p) x3

/-- A load through the rectangle of the newest store reads what was stored. -/
theorem reload {sig : RefSig} {κ : Kind} {sp : Space} {s : Shape} {e : EltTy} (v : View sig κ sp s e) (f : v.ty.Contents (Elt F))
    (r : Rect s) (w : r.shape.Idx → Elt F e) (L : List (View.Piece (Elt F) s e)) :
    v.readAt (Elt F) r.toLoadRect (v.writes (Elt F) f (⟨r, w⟩ :: L)) = w := by
  funext x
  exact View.read_writes_cons_emb v f r w L x

/-- Off the rectangle of the newest store the contents are those before it. -/
theorem kept_off {sig : RefSig} {κ : Kind} {sp : Space} {s : Shape} {e : EltTy} (v : View sig κ sp s e) (f : v.ty.Contents (Elt F))
    (r : Rect s) (w : r.shape.Idx → Elt F e) (L : List (View.Piece (Elt F) s e)) (y : s.Idx) (hy : y ∉ r.set) :
    v.read (Elt F) (v.writes (Elt F) f (⟨r, w⟩ :: L)) y = v.read (Elt F) (v.writes (Elt F) f L) y := by
  have hy' : y ∉ Finset.univ.map r.emb := by rwa [Rect.map_emb_univ]
  rw [View.writes_cons]
  exact View.read_slice_write_of_not_mem r _ _ _ hy'

set_option maxHeartbeats 2000000 in
/-- One point of the grid: from operand blocks `x0 … x3` and scratch contents `X` the body leaves its output block, and the
    scratch with the point's own strip replaced by the last 8 rows of its gate projection. -/
theorem point_run (c : Dev nD) (E : Set ℕ) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1024x256 .bf16) (harg6 : arg6.IsWhole) (arg7 : Memref sig .tc .vmem S43x8x256 .f32) (harg7 : arg7.IsWhole)
    (x0 : Vec F S1024x4096 .bf16) (x1 : Vec F S4096x256 .bf16) (x2 : Vec F S4096x256 .bf16) (x3 : Vec F S3x256 .f32) (X : Vec F S43x8x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock x0 x1 x2 x3 (held i X))
            ∗ (∃ Y, ⌜View.ld Y (strip i) = k0_pay6 x0 x1 ∧ ∀ y, y ∉ (strip i).set → Y y = X y⌝ ∗ owns (c : Thread nD τ) arg7 fullShare Y)) -∗ K ⟨⟩))
      ⊢ wp frame (wpE (defs₀ (F := F)) Variants.none c none) E (cc0_ffn_up i arg2 harg2 arg3 harg3 arg4 harg4 arg5 harg5 arg6 harg6 arg7 harg7) K := by
  by_cases hc : k0_cond1 i = 1#1
  · simp only [cc0_ffn_up_eq_skeleton]; unfold cc0_ffn_up_skel
    simp only [k0_part1_eq_skeleton]; unfold k0_part1_skel
    simp only [dif_pos hc]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    subst hf0 hf1 hf2 hf3 hf5
    have e0 : arg2.view.readAt (Elt F) (Rect.unit (s := S1024x4096) ![0, 0] ![1024, 4096] inb_S1024x4096_S1024x4096_0_0).toLoadRect f0 = arg2.view.read (Elt F) f0 := View.readAt_full _ _ _
    have e1 : arg3.view.readAt (Elt F) (Rect.unit (s := S4096x256) ![0, 0] ![4096, 256] inb_S4096x256_S4096x256_0_0).toLoadRect f1 = arg3.view.read (Elt F) f1 := View.readAt_full _ _ _
    have e2 : arg4.view.readAt (Elt F) (Rect.unit (s := S4096x256) ![0, 0] ![4096, 256] inb_S4096x256_S4096x256_0_0).toLoadRect f2 = arg4.view.read (Elt F) f2 := View.readAt_full _ _ _
    have e3 : arg5.view.readAt (Elt F) (Rect.unit (s := S3x256) ![0, 0] ![3, 256] inb_S3x256_S3x256_0_0).toLoadRect f3 = arg5.view.read (Elt F) f3 := View.readAt_full _ _ _
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      have hv : point_run.sl.v21 (F := F) c i arg7 hc = k0_pay4 (F := F) := reload _ _ _ _ _
      rw [View.read_writes_full]
      unfold outBlock held
      rw [if_pos hc]
      simp only [e0, e1, e2, e3, hv]
    iexists _; isplitr
    swap
    · iexists _; isplitr
      swap; · iexact H5
      ipureintro; rfl
    ipureintro
    refine ⟨?_, fun y hy => ?_⟩
    · refine (reload arg7.view f5 (strip i) _ _).trans ?_
      simp only [e0, e1]
    · refine (kept_off arg7.view f5 (strip i) _ _ y hy).trans ?_
      exact kept_off arg7.view f5 (strip i) _ _ y hy
  · simp only [cc0_ffn_up_eq_skeleton]; unfold cc0_ffn_up_skel
    simp only [k0_part1_eq_skeleton]; unfold k0_part1_skel
    simp only [dif_neg hc]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    subst hf0 hf1 hf2 hf3 hf5
    have e0 : arg2.view.readAt (Elt F) (Rect.unit (s := S1024x4096) ![0, 0] ![1024, 4096] inb_S1024x4096_S1024x4096_0_0).toLoadRect f0 = arg2.view.read (Elt F) f0 := View.readAt_full _ _ _
    have e1 : arg3.view.readAt (Elt F) (Rect.unit (s := S4096x256) ![0, 0] ![4096, 256] inb_S4096x256_S4096x256_0_0).toLoadRect f1 = arg3.view.read (Elt F) f1 := View.readAt_full _ _ _
    have e2 : arg4.view.readAt (Elt F) (Rect.unit (s := S4096x256) ![0, 0] ![4096, 256] inb_S4096x256_S4096x256_0_0).toLoadRect f2 = arg4.view.read (Elt F) f2 := View.readAt_full _ _ _
    have e3 : arg5.view.readAt (Elt F) (Rect.unit (s := S3x256) ![0, 0] ![3, 256] inb_S3x256_S3x256_0_0).toLoadRect f3 = arg5.view.read (Elt F) f3 := View.readAt_full _ _ _
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      rw [View.read_writes_full]
      unfold outBlock held
      rw [if_neg hc]
      simp only [e0, e1, e2, e3]
      rfl
    iexists _; isplitr
    swap
    · iexists _; isplitr
      swap; · iexact H5
      ipureintro; rfl
    ipureintro
    refine ⟨?_, fun y hy => ?_⟩
    · refine (reload arg7.view f5 (strip i) _ _).trans ?_
      simp only [e0, e1]
    · exact kept_off arg7.view f5 (strip i) _ _ y hy

/-! ## The scratch between points -/

/-- The points of the two row tiles of a sequence alternate in runs of 43: the first run starts the sequence. -/
theorem starts : ∀ t : Fin cfg0.N, k0_cond1 (grid0.coords t) = 1#1 ↔ t.val / 43 % 2 = 0 :=
  (by decide +kernel : ∀ t : Fin grid0.N, k0_cond1 (grid0.coords t) = 1#1 ↔ t.val / 43 % 2 = 0)

/-- A point's strip is that of its column tile. -/
theorem strip_off : ∀ t : Fin cfg0.N, k0_off2 (grid0.coords t) = ![t.val % 43, 0, 0] :=
  (by decide +kernel : ∀ t : Fin grid0.N, k0_off2 (grid0.coords t) = ![t.val % 43, 0, 0])

/-- The rows before point `t`'s tile: zeros at the start of a sequence, else the last 8 rows of the gate projection of the
    point 43 before it, which has the same column tile. -/
def before (c : Dev nD) (t : Fin cfg0.N) : Vec F S1x8x256 .f32 :=
  if t.val / 43 % 2 = 0 then k0_pay4 (F := F)
  else k0_pay6 (iblk m c 0 ⟨t.val - 43, lt_of_le_of_lt (Nat.sub_le _ _) t.isLt⟩) (iblk m c 1 ⟨t.val - 43, lt_of_le_of_lt (Nat.sub_le _ _) t.isLt⟩)

/-- What the scratch holds before point `n`: the strips of the last 43 points. -/
def Good (c : Dev nD) (n : ℕ) (X : Vec F S43x8x256 .f32) : Prop :=
  ∀ s : Fin cfg0.N, s.val < n → n ≤ s.val + 43 → View.ld X (strip (grid0.coords s)) = k0_pay6 (iblk m c 0 s) (iblk m c 1 s)

/-- A load through a unit rectangle depends on its offsets alone. -/
theorem ld_off (X : Vec F S43x8x256 .f32) {off off' : Fin 3 → ℕ} (h : ∀ a, off a + S1x8x256.size a ≤ S43x8x256.size a)
    (h' : ∀ a, off' a + S1x8x256.size a ≤ S43x8x256.size a) (e : off = off') :
    View.ld X (Rect.unit (s := S43x8x256) off S1x8x256.size h) = View.ld X (Rect.unit (s := S43x8x256) off' S1x8x256.size h') := by
  subst e; rfl

theorem held_eq (c : Dev nD) (t : Fin cfg0.N) (X : Vec F S43x8x256 .f32) (h : Good m c t.val X) :
    held (grid0.coords t) X = before m c t := by
  unfold held before
  by_cases hp : t.val / 43 % 2 = 0
  · rw [if_pos ((starts t).mpr hp), if_pos hp]
  · rw [if_neg (fun hh => hp ((starts t).mp hh)), if_neg hp]
    have hge : 43 ≤ t.val := by
      by_contra hlt
      exact hp (by rw [Nat.div_eq_of_lt (by omega)])
    obtain ⟨s, hs⟩ : ∃ s : Fin cfg0.N, s.val = t.val - 43 := ⟨⟨t.val - 43, lt_of_le_of_lt (Nat.sub_le _ _) t.isLt⟩, rfl⟩
    have hs' : (⟨t.val - 43, lt_of_le_of_lt (Nat.sub_le _ _) t.isLt⟩ : Fin cfg0.N) = s := Fin.ext hs.symm
    rw [hs', ← h s (by omega) (by omega)]
    refine ld_off X (k0_off2_inb (grid0.coords t)) (k0_off2_inb (grid0.coords s)) ?_
    rw [strip_off t, strip_off s]
    have : t.val % 43 = s.val % 43 := by omega
    rw [this]

theorem good_step (c : Dev nD) (t : Fin cfg0.N) (X Y : Vec F S43x8x256 .f32) (h : Good m c t.val X)
    (hs : View.ld Y (strip (grid0.coords t)) = k0_pay6 (iblk m c 0 t) (iblk m c 1 t))
    (hk : ∀ y, y ∉ (strip (grid0.coords t)).set → Y y = X y) : Good m c (t.val + 1) Y := by
  intro s h1 h2
  by_cases e : s = t
  · subst e; exact hs
  · have hne : s.val ≠ t.val := fun hh => e (Fin.ext hh)
    refine Eq.trans ?_ (h s (by omega) (by omega))
    funext x
    refine hk _ fun hm => ?_
    have h0 := (Rect.mem_set_unit.mp hm) (0 : Fin 3)
    rw [strip_off t] at h0
    have hv : (((strip (grid0.coords s)).idx x) 0).val = s.val % 43 + 1 * (x 0).val := by
      show k0_off2 (grid0.coords s) 0 + 1 * (x 0).val = _
      rw [strip_off s]; rfl
    have hx : (x 0).val < 1 := (x 0).isLt
    have ha : t.val % 43 ≤ (((strip (grid0.coords s)).idx x) 0).val ∧ (((strip (grid0.coords s)).idx x) 0).val < t.val % 43 + 1 := h0
    omega

/-! ## The launch's proof data -/

/-- The scratch operand as a whole buffer of the kernel's own. -/
abbrev scM0_0 : Memref sig .tc .vmem S43x8x256 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The invariant before point `n`: the scratch holds the strips of the last 43 points. -/
def inv (c : Dev nD) (n : ℕ) : sProp 𝕄 :=
  iprop((∃ X, ⌜Good m c n X⌝ ∗ owns (c : Thread nD τ) scM0_0 fullShare X) ∗ (∃ r, prngReg c r))

/-- The output block at point `t`. -/
def outAt (c : Dev nD) (t : Fin cfg0.N) : Vec F S1024x256 .bf16 :=
  outBlock (iblk m c 0 t) (iblk m c 1 t) (iblk m c 2 t) (iblk m c 3 t) (before m c t)

/-- The proof data: the arrays as the region finds them; each input's buffer at its block after the body, the output's at
    `outAt`; the invariant that of the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 800000 in
/-- The body at any point: the scratch holds the strips of the last 43 points, so the rows before the tile are `before`;
    afterwards it holds the strips of the 43 points ending with this one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = inv m c (t.val + 1) from rfl,
    show (dats m 0 c).owesAt () t.succ = (dats m 0 c).owesAt () t.castSucc from rfl,
    show (dats m 0 c).Φ t.castSucc = inv m c t.val from rfl,
    after0_0, after0_1, after0_2, after0_3, after0_4]
  unfold inv outAt
  iintro ⟨⟨⟨%X, %hX, HS⟩, Hg⟩, Ho, ⟨%d0, H0⟩, ⟨%d1, H1⟩, ⟨%d2, H2⟩, ⟨%d3, H3⟩, ⟨%d4, H4⟩⟩
  iapply (point_run c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) scM0_0 (Memref.isWhole_whole _) (iblk m c 0 t) (iblk m c 1 t) (iblk m c 2 t) (iblk m c 3 t) X _)
  isplitl [H0]; · iexact H0
  isplitl [H1]; · iexact H1
  isplitl [H2]; · iexact H2
  isplitl [H3]; · iexact H3
  isplitl [H4]; · iexists _; iexact H4
  isplitl [HS]; · iexact HS
  rw [held_eq m c t X hX]
  iintro ⟨H0, H1, H2, H3, H4, ⟨%Y, %hY, HS⟩⟩
  isplitl [HS Hg]
  · isplitl [HS]
    · iexists Y; isplitr
      · ipureintro; exact good_step m c t X Y hX hY.1 hY.2
      iexact HS
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch, run: every array of the pipeline at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show Pipeline.ΦA spec0 c ⊢ inv m c 0
      rw [PhiA0_eq]
      unfold inv
      iintro ⟨⟨%X, HS⟩, Hg⟩
      isplitl [HS]
      · iexists X; isplitr
        · ipureintro; intro s h1 _; exact absurd h1 (Nat.not_lt_zero _)
        iexact HS
      iexact Hg)
    (hout := fun c => by
      show inv m c _ ⊢ Pipeline.ΦA spec0 c
      rw [PhiA0_eq]
      unfold inv
      iintro ⟨⟨%X, %hX, HS⟩, Hg⟩
      isplitl [HS]
      · iexists X; iexact HS
      iexact Hg)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: the argument arrays end unchanged and every semaphore counter of the machine at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- The run with the result array named, the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩)
    (run_main m ρ)

end Cert.KffnIdeal.Frame

end
-- ==== Proof.FfnUp.lean ====
/-
  The feed-forward's first half: the gate projection, a causal convolution of three taps along the sequence, the
  silu, times the up projection. The kernel works in tiles of 1024 rows and 256 columns; the two rows before a tile come from
  the strip which the tile above left, or are zero where a sequence begins. The reference pads each sequence with two
  zero rows and adds the taps in another order.
-/
module

public import proofs.«01_k».proof.Proof.FfnFrameIdeal
public import proofs.«01_k».proof.Proof.Gen.RffnIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KffnIdeal.Whole

open Cert.KffnIdeal Cert.KffnIdeal.Gen Cert.KffnIdeal.Frame

local notation "𝕀" => Idealize.ShloMosaic.Ideal

/-- `u · sigmoid u`. -/
def act (u : EReal) : EReal := u * Ideal.logistic u

/-- Row `n` of the first array times column `q` of the second; `n` is taken modulo the number of rows. -/
def dotAt (a0 : FVec 𝕀 S8192x4096 .bf16) (a1 : FVec 𝕀 S4096x11008 .f32) (n : ℕ) (q : Fin 11008) : EReal :=
  ∑ k : Fin 4096, a0 (ix2 (⟨n % 8192, by omega⟩ : Fin 8192) k) * a1 (ix2 k q)

/-- The convolution of the gate projection at row `n`: the row itself, the one before and the one before that, with
    zeros before the start of the sequence of 2048 rows. -/
def conv (a0 : FVec 𝕀 S8192x4096 .bf16) (a1 : FVec 𝕀 S4096x11008 .f32) (a3 : FVec 𝕀 S3x11008 .f32) (n : ℕ) (q : Fin 11008) : EReal :=
  a3 (ix2 2 q) * dotAt a0 a1 n q + a3 (ix2 1 q) * (if 1 ≤ n % 2048 then dotAt a0 a1 (n - 1) q else 0)
    + a3 (ix2 0 q) * (if 2 ≤ n % 2048 then dotAt a0 a1 (n - 2) q else 0)

/-- The gate projection of a tile, entry by entry. -/
theorem pay2_at (x0 : FVec 𝕀 S1024x4096 .bf16) (x1 : FVec 𝕀 S4096x256 .bf16) (r : Fin 1024) (l : Fin 256) :
    k0_pay2 (F := Ideal) x0 x1 (ix2 r l) = ∑ k : Fin 4096, x0 (ix2 r k) * x1 (ix2 k l) := by
  pointwise [k0_pay2]

/-- The up projection of a tile, entry by entry. -/
theorem pay3_at (x0 : FVec 𝕀 S1024x4096 .bf16) (x1 : FVec 𝕀 S4096x256 .bf16) (r : Fin 1024) (l : Fin 256) :
    k0_pay3 (F := Ideal) x0 x1 (ix2 r l) = ∑ k : Fin 4096, x0 (ix2 r k) * x1 (ix2 k l) := by
  pointwise [k0_pay3]

/-- The strip a point keeps is the last 8 rows of its gate projection. -/
theorem pay6_at (x0 : FVec 𝕀 S1024x4096 .bf16) (x1 : FVec 𝕀 S4096x256 .bf16) (r : Fin 8) (l : Fin 256) :
    k0_pay6 (F := Ideal) x0 x1 (ix3 0 r l) = k0_pay2 (F := Ideal) x0 x1 (ix2 (⟨1016 + r.val, by omega⟩ : Fin 1024) l) := by
  pointwise [k0_pay6]

/-- The output tile, entry by entry, with the rows before the tile read from `p`. -/
theorem out_at (x0 : FVec 𝕀 S1024x4096 .bf16) (x1 x2 : FVec 𝕀 S4096x256 .bf16) (x3 : FVec 𝕀 S3x256 .f32)
    (p : FVec 𝕀 S1x8x256 .f32) (g up : FVec 𝕀 S1024x256 .f32) (hg : k0_pay2 (F := Ideal) x0 x1 = g) (hup : k0_pay3 (F := Ideal) x0 x2 = up)
    (r : Fin 1024) (l : Fin 256) :
    outBlock (F := Ideal) x0 x1 x2 x3 p (ix2 r l)
      = act (x3 (ix2 2 l) * g (ix2 r l)
          + x3 (ix2 1 l) * (if r.val = 0 then p (ix3 0 7 l) else g (ix2 (⟨(r.val + 1024 - 1) % 1024, by omega⟩ : Fin 1024) l))
          + x3 (ix2 0 l) * (if r.val = 0 then p (ix3 0 6 l) else if r.val = 1 then p (ix3 0 7 l)
              else g (ix2 (⟨(r.val + 1024 - 2) % 1024, by omega⟩ : Fin 1024) l)))
        * up (ix2 r l) := by
  have e0 : IntOp.cmpi CmpIPredicate.eq (BitVec.ofNat 32 r.val) 0#32 = if r.val = 0 then 1#1 else 0#1 := by
    revert r; decide +kernel
  have e1 : IntOp.cmpi CmpIPredicate.eq (BitVec.ofNat 32 r.val) 1#32 = if r.val = 1 then 1#1 else 0#1 := by
    revert r; decide +kernel
  unfold outBlock act
  unfold k0_pay8
  rw [hg, hup]
  pointwise [k0_pay1, k0_pay5, k0_pay7, k0_pay9]
  rw [e0, e1]
  rcases Nat.lt_trichotomy r.val 1 with h | h | h
  · have h : r.val = 0 := by omega
    simp [h, Scalar.select]
  · simp [h, Scalar.select]
  · have h0 : r.val ≠ 0 := by omega
    have h1 : r.val ≠ 1 := by omega
    simp [h0, h1, Scalar.select]

/-- The reference's projection of the rows, by sequence and position. -/
def PROD (a0 : FVec 𝕀 S8192x4096 .bf16) (a1 : FVec 𝕀 S4096x11008 .f32) : FVec 𝕀 Cert.RffnIdeal.S4x2048x11008 .f32 :=
  Host.dotGeneral Cert.RffnIdeal.dot_S4x2048x4096_S4096x11008_S4x2048x11008_2_0_01_1_n_n none (shapeCast _ (extf .f32 a0 Cert.RffnIdeal.Gen.bitsLt_bf16_f32) Cert.RffnIdeal.Gen.shapeCasts_S8192x4096_S4x2048x4096) a1

/-- The reference's causal convolution of three taps. -/
def CONV (g : FVec 𝕀 Cert.RffnIdeal.S4x2048x11008 .f32) (a3 : FVec 𝕀 S3x11008 .f32) : FVec 𝕀 Cert.RffnIdeal.S4x2048x11008 .f32 :=
  addf (addf (mulf (broadcastInDim Cert.RffnIdeal.S4x2048x11008 ![0, 1, 2] Cert.RffnIdeal.Gen.bcast_S1x1x11008_S4x2048x11008_0_1_2 (broadcastInDim Cert.RffnIdeal.S1x1x11008 ![2] Cert.RffnIdeal.Gen.bcast_S11008_S1x1x11008_2 (shapeCast _ (extractStridedSlice Cert.RffnIdeal.S1x11008 ![2, 0] a3 Cert.RffnIdeal.Gen.slices_S3x11008_S1x11008_2_0) Cert.RffnIdeal.Gen.shapeCasts_S1x11008_S11008))) g) (mulf (broadcastInDim Cert.RffnIdeal.S4x2048x11008 ![0, 1, 2] Cert.RffnIdeal.Gen.bcast_S1x1x11008_S4x2048x11008_0_1_2 (broadcastInDim Cert.RffnIdeal.S1x1x11008 ![2] Cert.RffnIdeal.Gen.bcast_S11008_S1x1x11008_2 (shapeCast _ (extractStridedSlice Cert.RffnIdeal.S1x11008 ![0, 0] a3 Cert.RffnIdeal.Gen.slices_S3x11008_S1x11008_0_0) Cert.RffnIdeal.Gen.shapeCasts_S1x11008_S11008))) (extractStridedSlice Cert.RffnIdeal.S4x2048x11008 ![0, 0, 0] (pad Cert.RffnIdeal.S4x2050x11008 ![0, 2, 0] ![0, 0, 0] ![0, 0, 0] g (sitofp .f32 (constantI Cert.RffnIdeal.S_ 32 0#32)) Cert.RffnIdeal.Gen.pads_S4x2048x11008_S4x2050x11008_000_200_000 Cert.RffnIdeal.Gen.h_S_) Cert.RffnIdeal.Gen.slices_S4x2050x11008_S4x2048x11008_0_0_0))) (mulf (broadcastInDim Cert.RffnIdeal.S4x2048x11008 ![0, 1, 2] Cert.RffnIdeal.Gen.bcast_S1x1x11008_S4x2048x11008_0_1_2 (broadcastInDim Cert.RffnIdeal.S1x1x11008 ![2] Cert.RffnIdeal.Gen.bcast_S11008_S1x1x11008_2 (shapeCast _ (extractStridedSlice Cert.RffnIdeal.S1x11008 ![1, 0] a3 Cert.RffnIdeal.Gen.slices_S3x11008_S1x11008_1_0) Cert.RffnIdeal.Gen.shapeCasts_S1x11008_S11008))) (extractStridedSlice Cert.RffnIdeal.S4x2048x11008 ![0, 1, 0] (pad Cert.RffnIdeal.S4x2050x11008 ![0, 2, 0] ![0, 0, 0] ![0, 0, 0] g (sitofp .f32 (constantI Cert.RffnIdeal.S_ 32 0#32)) Cert.RffnIdeal.Gen.pads_S4x2048x11008_S4x2050x11008_000_200_000 Cert.RffnIdeal.Gen.h_S_) Cert.RffnIdeal.Gen.slices_S4x2050x11008_S4x2048x11008_0_1_0))

/-- The reference's result as a function of its arguments. -/
def REF (a0 : FVec 𝕀 S8192x4096 .bf16) (a1 : FVec 𝕀 S4096x11008 .f32) (a2 : FVec 𝕀 S4096x11008 .f32) (a3 : FVec 𝕀 S3x11008 .f32) :
    FVec 𝕀 Cert.RffnIdeal.S8192x11008 .bf16 :=
  shapeCast _ (truncf .bf16 (mulf (mulf (CONV (PROD a0 a1) a3) (Host.divf (broadcastInDim Cert.RffnIdeal.S4x2048x11008 ![] Cert.RffnIdeal.Gen.bcast_S_S4x2048x11008 (constant Cert.RffnIdeal.S_ .f32 0x3F800000#32)) (addf (broadcastInDim Cert.RffnIdeal.S4x2048x11008 ![] Cert.RffnIdeal.Gen.bcast_S_S4x2048x11008 (constant Cert.RffnIdeal.S_ .f32 0x3F800000#32)) (Host.exp (Host.negf (CONV (PROD a0 a1) a3)))))) (PROD a0 a2)) Cert.RffnIdeal.Gen.bitsLt_bf16_f32) Cert.RffnIdeal.Gen.shapeCasts_S4x2048x11008_S8192x11008

/-- The reference's projection, entry by entry. -/
theorem prod_at (a0 : FVec 𝕀 S8192x4096 .bf16) (a1 : FVec 𝕀 S4096x11008 .f32) (b : Fin 4) (s : Fin 2048) (q : Fin 11008) :
    PROD a0 a1 (ix3 b s q) = dotAt a0 a1 (2048 * b.val + s.val) q := by
  unfold dotAt
  pointwise [PROD]
  refine Finset.sum_congr rfl fun k _ => ?_
  have e : (⟨b.val * 2048 + s.val, by omega⟩ : Fin 8192) = ⟨(2048 * b.val + s.val) % 8192, by omega⟩ := Fin.ext (by simp only; omega)
  rw [e]

/-- The reference's convolution, entry by entry. -/
theorem conv_at (g : FVec 𝕀 Cert.RffnIdeal.S4x2048x11008 .f32) (a3 : FVec 𝕀 S3x11008 .f32) (b : Fin 4) (s : Fin 2048) (q : Fin 11008) :
    CONV g a3 (ix3 b s q) = a3 (ix2 2 q) * g (ix3 b s q)
      + a3 (ix2 1 q) * (if 1 ≤ s.val then g (ix3 b (⟨s.val - 1, by omega⟩ : Fin 2048) q) else 0)
      + a3 (ix2 0 q) * (if 2 ≤ s.val then g (ix3 b (⟨s.val - 2, by omega⟩ : Fin 2048) q) else 0) := by
  have z : FloatOps.sitofp (F := Ideal) FTy.f32 0#32 = (0 : EReal) := by simp [FloatOps.sitofp]
  pointwise [CONV]
  rw [z, add_right_comm]
  congr 2
  · congr 1
    by_cases h : 1 ≤ s.val
    · have e : (⟨1 + s.val - 2, by omega⟩ : Fin 2048) = ⟨s.val - 1, by omega⟩ := Fin.ext (by simp only; omega)
      rw [dif_pos (by omega), if_pos h, e]
    · rw [dif_neg (by omega), if_neg h]
  · by_cases h : 2 ≤ s.val
    · rw [dif_pos (by omega), if_pos h]
    · rw [dif_neg (by omega), if_neg h]

/-- The reference's result from its convolution and its up projection. -/
theorem ref_at (a0 : FVec 𝕀 S8192x4096 .bf16) (a1 : FVec 𝕀 S4096x11008 .f32) (a2 : FVec 𝕀 S4096x11008 .f32) (a3 : FVec 𝕀 S3x11008 .f32) (r : Fin 8192) (q : Fin 11008) :
    REF a0 a1 a2 a3 (ix2 r q) = act (CONV (PROD a0 a1) a3 (ix3 (⟨r.val / 2048, by omega⟩ : Fin 4) (⟨r.val % 2048, by omega⟩ : Fin 2048) q))
       * PROD a0 a2 (ix3 (⟨r.val / 2048, by omega⟩ : Fin 4) (⟨r.val % 2048, by omega⟩ : Fin 2048) q) := by
  unfold REF act
  generalize CONV (PROD a0 a1) a3 = u
  generalize PROD a0 a2 = v
  pointwise [Ideal.logistic]

/-- The reference's result, entry by entry. -/
theorem ref_val (a0 : FVec 𝕀 S8192x4096 .bf16) (a1 : FVec 𝕀 S4096x11008 .f32) (a2 : FVec 𝕀 S4096x11008 .f32) (a3 : FVec 𝕀 S3x11008 .f32) (r : Fin 8192) (q : Fin 11008) :
    REF a0 a1 a2 a3 (ix2 r q) = act (conv a0 a1 a3 r.val q) * dotAt a0 a2 r.val q := by
  have e : 2048 * (r.val / 2048) + r.val % 2048 = r.val := by omega
  rw [ref_at, conv_at, prod_at, prod_at, prod_at, prod_at]
  unfold conv
  simp only [e]
  congr 2
  congr 1
  · congr 2
    by_cases h : 1 ≤ r.val % 2048
    · rw [if_pos h, if_pos h, show 2048 * (r.val / 2048) + (r.val % 2048 - 1) = r.val - 1 by omega]
    · rw [if_neg h, if_neg h]
  · congr 1
    by_cases h : 2 ≤ r.val % 2048
    · rw [if_pos h, if_pos h, show 2048 * (r.val / 2048) + (r.val % 2048 - 2) = r.val - 2 by omega]
    · rw [if_neg h, if_neg h]

/-- Which block of its array each window reads or writes at grid point `t`. -/
theorem idx : ∀ t : Fin cfg0.N, win0_0.index t = ![t.val / 43, 0]
    ∧ win0_1.index t = ![0, t.val % 43]
    ∧ win0_2.index t = ![0, t.val % 43]
    ∧ win0_3.index t = ![0, t.val % 43]
    ∧ win0_4.index t = ![t.val / 43, t.val % 43] :=
  (by decide +kernel : ∀ t : Fin grid0.N, _)

variable (m : (ℓ : Loc nD τ sig) → Buf (Elt Ideal) ℓ)

/-- The rows the kernel is given. -/
def A0 (c : Dev nD) : FVec 𝕀 S8192x4096 .bf16 := m ((c : Thread nD τ).loc main_arg0)
/-- The gate weights the kernel is given. -/
def A1 (c : Dev nD) : FVec 𝕀 S4096x11008 .f32 := m ((c : Thread nD τ).loc main_arg1)
/-- The up weights the kernel is given. -/
def A2 (c : Dev nD) : FVec 𝕀 S4096x11008 .f32 := m ((c : Thread nD τ).loc main_arg2)
/-- The taps the kernel is given. -/
def A3 (c : Dev nD) : FVec 𝕀 S3x11008 .f32 := m ((c : Thread nD τ).loc main_arg3)
/-- The block of rows at point `t`. -/
def bk0 (c : Dev nD) (t : Fin cfg0.N) : FVec 𝕀 S1024x4096 .bf16 := iblk m c 0 t
/-- The block of gate weights at point `t`. -/
def bk1 (c : Dev nD) (t : Fin cfg0.N) : FVec 𝕀 S4096x256 .bf16 := iblk m c 1 t
/-- The block of up weights at point `t`. -/
def bk2 (c : Dev nD) (t : Fin cfg0.N) : FVec 𝕀 S4096x256 .bf16 := iblk m c 2 t
/-- The block of taps at point `t`. -/
def bk3 (c : Dev nD) (t : Fin cfg0.N) : FVec 𝕀 S3x256 .f32 := iblk m c 3 t

/-- There are 8 row tiles of 43 column tiles. -/
theorem lt_t (t : Fin cfg0.N) : t.val < 344 := t.isLt

/-- The rows a point is given are those of its row tile. -/
theorem bk0_at (c : Dev nD) (t : Fin cfg0.N) (r : Fin 1024) (k : Fin 4096) :
    bk0 m c t (ix2 r k) = A0 m c (ix2 (⟨(1024 * (t.val / 43) + r.val) % 8192, by omega⟩ : Fin 8192) k) := by
  have ht := lt_t t
  unfold bk0 A0
  blk_ext [iblk, V, idx t]

/-- The gate weights a point is given are those of its column tile. -/
theorem bk1_at (c : Dev nD) (t : Fin cfg0.N) (k : Fin 4096) (l : Fin 256) :
    bk1 m c t (ix2 k l) = A1 m c (ix2 k (⟨256 * (t.val % 43) + l.val, by omega⟩ : Fin 11008)) := by
  have ht := lt_t t
  unfold bk1 A1
  blk_ext [iblk, V, idx t]

/-- The up weights a point is given are those of its column tile. -/
theorem bk2_at (c : Dev nD) (t : Fin cfg0.N) (k : Fin 4096) (l : Fin 256) :
    bk2 m c t (ix2 k l) = A2 m c (ix2 k (⟨256 * (t.val % 43) + l.val, by omega⟩ : Fin 11008)) := by
  have ht := lt_t t
  unfold bk2 A2
  blk_ext [iblk, V, idx t]

/-- The taps a point is given are those of its column tile. -/
theorem bk3_at (c : Dev nD) (t : Fin cfg0.N) (k : Fin 3) (l : Fin 256) :
    bk3 m c t (ix2 k l) = A3 m c (ix2 k (⟨256 * (t.val % 43) + l.val, by omega⟩ : Fin 11008)) := by
  have ht := lt_t t
  unfold bk3 A3
  blk_ext [iblk, V, idx t]

/-- The gate projection of point `t`, in the numbering of the whole array. -/
theorem gate_at (c : Dev nD) (t : Fin cfg0.N) (r : Fin 1024) (l : Fin 256) :
    k0_pay2 (F := Ideal) (bk0 m c t) (bk1 m c t) (ix2 r l)
      = dotAt (A0 m c) (A1 m c) (1024 * (t.val / 43) + r.val) ⟨256 * (t.val % 43) + l.val, by omega⟩ := by
  rw [pay2_at]
  unfold dotAt
  exact Finset.sum_congr rfl fun k _ => by rw [bk0_at, bk1_at]

/-- The up projection of point `t`, in the numbering of the whole array. -/
theorem up_at (c : Dev nD) (t : Fin cfg0.N) (r : Fin 1024) (l : Fin 256) :
    k0_pay3 (F := Ideal) (bk0 m c t) (bk2 m c t) (ix2 r l)
      = dotAt (A0 m c) (A2 m c) (1024 * (t.val / 43) + r.val) ⟨256 * (t.val % 43) + l.val, by omega⟩ := by
  rw [pay3_at]
  unfold dotAt
  exact Finset.sum_congr rfl fun k _ => by rw [bk0_at, bk2_at]

/-- The rows before the tile: zeros at the start of a sequence, else rows of the gate projection of the tile above. -/
theorem before_at (c : Dev nD) (t : Fin cfg0.N) (p : Fin 8) (l : Fin 256) :
    before (F := Ideal) m c t (ix3 0 p l)
      = if t.val / 43 % 2 = 0 then (0 : EReal)
        else dotAt (A0 m c) (A1 m c) (1024 * (t.val / 43) + p.val - 8) ⟨256 * (t.val % 43) + l.val, by omega⟩ := by
  have ht := lt_t t
  unfold before
  by_cases h : t.val / 43 % 2 = 0
  · rw [if_pos h, if_pos h]
    pointwise [k0_pay4]
  · rw [if_neg h, if_neg h]
    obtain ⟨s, hs⟩ : ∃ s : Fin cfg0.N, s.val = t.val - 43 := ⟨⟨t.val - 43, by have := t.isLt; omega⟩, rfl⟩
    have e : (⟨t.val - 43, by have := t.isLt; omega⟩ : Fin cfg0.N) = s := Fin.ext hs.symm
    rw [e]
    refine (pay6_at (bk0 m c s) (bk1 m c s) p l).trans ?_
    rw [gate_at]
    have e1 : 1024 * (s.val / 43) + (1016 + p.val) = 1024 * (t.val / 43) + p.val - 8 := by omega
    have e2 : s.val % 43 = t.val % 43 := by omega
    simp only [e1, e2]

/-- The output tile of point `t`, in the numbering of the whole array. -/
theorem out_val (c : Dev nD) (t : Fin cfg0.N) (r : Fin 1024) (l : Fin 256) :
    outAt (F := Ideal) m c t (ix2 r l)
      = act (conv (A0 m c) (A1 m c) (A3 m c) (1024 * (t.val / 43) + r.val) ⟨256 * (t.val % 43) + l.val, by omega⟩)
        * dotAt (A0 m c) (A2 m c) (1024 * (t.val / 43) + r.val) ⟨256 * (t.val % 43) + l.val, by omega⟩ := by
  have ht := lt_t t
  refine (out_at (bk0 m c t) (bk1 m c t) (bk2 m c t) (bk3 m c t) (before m c t) _ _ rfl rfl r l).trans ?_
  rw [gate_at, gate_at, gate_at, up_at, bk3_at, bk3_at, bk3_at, before_at, before_at]
  unfold conv
  congr 2
  congr 1
  · congr 2
    by_cases h0 : r.val = 0
    · rw [if_pos h0]
      by_cases he : t.val / 43 % 2 = 0
      · rw [if_pos he, if_neg (by omega)]
      · rw [if_neg he, if_pos (by omega)]
        congr 1
        have e7 : (7 : Fin 8).val = 7 := rfl
        have e6 : (6 : Fin 8).val = 6 := rfl
        omega
    · rw [if_neg h0, if_pos (by omega)]
      congr 1
      simp only; omega
  · congr 1
    by_cases h0 : r.val = 0
    · rw [if_pos h0]
      by_cases he : t.val / 43 % 2 = 0
      · rw [if_pos he, if_neg (by omega)]
      · rw [if_neg he, if_pos (by omega)]
        congr 1
        have e7 : (7 : Fin 8).val = 7 := rfl
        have e6 : (6 : Fin 8).val = 6 := rfl
        omega
    · rw [if_neg h0]
      by_cases h1 : r.val = 1
      · rw [if_pos h1]
        by_cases he : t.val / 43 % 2 = 0
        · rw [if_pos he, if_neg (by omega)]
        · rw [if_neg he, if_pos (by omega)]
          congr 1
          have e7 : (7 : Fin 8).val = 7 := rfl
          omega
      · rw [if_neg h1, if_pos (by omega)]
        congr 1
        simp only; omega

/-- What a point stores is the reference's result where its block lies. -/
theorem point (c : Dev nD) (t : Fin cfg0.N) (y) : outAt (F := Ideal) m c t y
    = REF (A0 m c) (A1 m c) (A2 m c) (A3 m c) (((cfg0.win 4).blk t).view.emb y) := by
  idx_vars y
  have ht := lt_t t
  refine (out_val m c t _ _).trans ?_
  rw [show (((View.whole main_v2).slice ((win0 4).rect t)).emb (ix2 y0 y1))
      = ix2 (⟨1024 * (t.val / 43) + y0.val, by omega⟩ : Fin 8192) (⟨256 * (t.val % 43) + y1.val, by omega⟩ : Fin 11008) from by
    blk_ext [idx t], ref_val]

/-- The kernel's result array after the run is the reference's result on the kernel's arguments. -/
theorem final (c : Dev nD) : (dats m 0 c).arrAt 4 cfg0.N = REF (A0 m c) (A1 m c) (A2 m c) (A3 m c) := by
  refine (dats m 0 c).arrAt_eq_of_covers 4 _ (by decide +kernel) fun t _ y => ?_
  blk_simp
  rw [after0_4]
  frame_out
  exact point m c t y

/-- The kernel of the gated up projection computes the reference's function over the extended reals. -/
theorem algebraic : Cert.algebraic_KffnIdeal_RffnIdeal := by
  intro m ρ m' ρ' _ hag
  refine ⟨fun c => REF (A0 m c) (A1 m c) (A2 m c) (A3 m c), ?_, ?_⟩
  · exact (θ_run Cert.KffnIdeal.defs _ _).mono (fun _ h c => ⟨(h c).1.trans (final m c), (h c).2⟩)
      (run_blocks (F := Ideal) m ρ)
  · refine (θ_run Cert.RffnIdeal.defs _ _).mono (fun _ h c => ⟨(h c).1.trans ?_, (h c).2⟩)
      (Cert.RffnIdeal.Value.run (F := Ideal) m' ρ')
    obtain ⟨h0, h1, h2, h3⟩ := hag c
    unfold A0 A1 A2 A3
    unfold Cert.RffnIdeal.Value.res_main_v27
    rw [h0, h1, h2, h3]
    rfl

end Cert.KffnIdeal.Whole

end
-- ==== Proof.Merge.lean ====
/-
  The merge of the three branches: each branch times its output weights, weighted by a gate, a logistic function of a product
  of the hidden state. The kernel computes it in tiles; the reference computes all three gates with one product.
-/
module

public import proofs.«01_k».proof.Proof.Gen.KmergeIdeal.Value
public import proofs.«01_k».proof.Proof.Gen.RmergeIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KmergeIdeal.Whole

open Cert.KmergeIdeal Cert.KmergeIdeal.Gen

variable (m : (ℓ : Loc nD τ sig) → Buf (Elt Ideal) ℓ)

/-- The reference's result as a function of its arguments. -/
abbrev REF (a0 : FVec Ideal S8192x4096 .bf16) (a1 : FVec Ideal S8192x1536 .bf16) (a2 : FVec Ideal S8192x1024 .bf16) (a3 : FVec Ideal S8192x1536 .bf16) (a4 : FVec Ideal S4096x24592 .f32) (a5 : FVec Ideal S1536x4096 .f32) (a6 : FVec Ideal S1024x4096 .f32) (a7 : FVec Ideal S1536x4096 .f32) : FVec Ideal Cert.RmergeIdeal.S8192x4096 .bf16 :=
  truncf .bf16 (addf (addf (mulf (shapeCast _ (extractStridedSlice Cert.RmergeIdeal.S8192x1x4096 ![0, 0, 0] (shapeCast _ (Host.divf (broadcastInDim Cert.RmergeIdeal.S8192x12288 ![] Cert.RmergeIdeal.Gen.bcast_S_S8192x12288 (constant Cert.RmergeIdeal.S_ .f32 0x3F800000#32)) (addf (broadcastInDim Cert.RmergeIdeal.S8192x12288 ![] Cert.RmergeIdeal.Gen.bcast_S_S8192x12288 (constant Cert.RmergeIdeal.S_ .f32 0x3F800000#32)) (Host.exp (Host.negf (Host.dotGeneral Cert.RmergeIdeal.dot_S8192x4096_S4096x12288_S8192x12288_1_0_0_1_n_n none (extf .f32 a0 Cert.RmergeIdeal.Gen.bitsLt_bf16_f32) (extractStridedSlice Cert.RmergeIdeal.S4096x12288 ![0, 12304] a4 Cert.RmergeIdeal.Gen.slices_S4096x24592_S4096x12288_0_12304)))))) Cert.RmergeIdeal.Gen.shapeCasts_S8192x12288_S8192x3x4096) Cert.RmergeIdeal.Gen.slices_S8192x3x4096_S8192x1x4096_0_0_0) Cert.RmergeIdeal.Gen.shapeCasts_S8192x1x4096_S8192x4096) (Host.dotGeneral Cert.RmergeIdeal.dot_S8192x1536_S1536x4096_S8192x4096_1_0_0_1_n_n none (extf .f32 a1 Cert.RmergeIdeal.Gen.bitsLt_bf16_f32) a5)) (mulf (shapeCast _ (extractStridedSlice Cert.RmergeIdeal.S8192x1x4096 ![0, 1, 0] (shapeCast _ (Host.divf (broadcastInDim Cert.RmergeIdeal.S8192x12288 ![] Cert.RmergeIdeal.Gen.bcast_S_S8192x12288 (constant Cert.RmergeIdeal.S_ .f32 0x3F800000#32)) (addf (broadcastInDim Cert.RmergeIdeal.S8192x12288 ![] Cert.RmergeIdeal.Gen.bcast_S_S8192x12288 (constant Cert.RmergeIdeal.S_ .f32 0x3F800000#32)) (Host.exp (Host.negf (Host.dotGeneral Cert.RmergeIdeal.dot_S8192x4096_S4096x12288_S8192x12288_1_0_0_1_n_n none (extf .f32 a0 Cert.RmergeIdeal.Gen.bitsLt_bf16_f32) (extractStridedSlice Cert.RmergeIdeal.S4096x12288 ![0, 12304] a4 Cert.RmergeIdeal.Gen.slices_S4096x24592_S4096x12288_0_12304)))))) Cert.RmergeIdeal.Gen.shapeCasts_S8192x12288_S8192x3x4096) Cert.RmergeIdeal.Gen.slices_S8192x3x4096_S8192x1x4096_0_1_0) Cert.RmergeIdeal.Gen.shapeCasts_S8192x1x4096_S8192x4096) (Host.dotGeneral Cert.RmergeIdeal.dot_S8192x1024_S1024x4096_S8192x4096_1_0_0_1_n_n none (extf .f32 a2 Cert.RmergeIdeal.Gen.bitsLt_bf16_f32) a6))) (mulf (shapeCast _ (extractStridedSlice Cert.RmergeIdeal.S8192x1x4096 ![0, 2, 0] (shapeCast _ (Host.divf (broadcastInDim Cert.RmergeIdeal.S8192x12288 ![] Cert.RmergeIdeal.Gen.bcast_S_S8192x12288 (constant Cert.RmergeIdeal.S_ .f32 0x3F800000#32)) (addf (broadcastInDim Cert.RmergeIdeal.S8192x12288 ![] Cert.RmergeIdeal.Gen.bcast_S_S8192x12288 (constant Cert.RmergeIdeal.S_ .f32 0x3F800000#32)) (Host.exp (Host.negf (Host.dotGeneral Cert.RmergeIdeal.dot_S8192x4096_S4096x12288_S8192x12288_1_0_0_1_n_n none (extf .f32 a0 Cert.RmergeIdeal.Gen.bitsLt_bf16_f32) (extractStridedSlice Cert.RmergeIdeal.S4096x12288 ![0, 12304] a4 Cert.RmergeIdeal.Gen.slices_S4096x24592_S4096x12288_0_12304)))))) Cert.RmergeIdeal.Gen.shapeCasts_S8192x12288_S8192x3x4096) Cert.RmergeIdeal.Gen.slices_S8192x3x4096_S8192x1x4096_0_2_0) Cert.RmergeIdeal.Gen.shapeCasts_S8192x1x4096_S8192x4096) (Host.dotGeneral Cert.RmergeIdeal.dot_S8192x1536_S1536x4096_S8192x4096_1_0_0_1_n_n none (extf .f32 a3 Cert.RmergeIdeal.Gen.bitsLt_bf16_f32) a7))) Cert.RmergeIdeal.Gen.bitsLt_bf16_f32

/-- Which block of its array each window reads or writes at grid point `t`. -/
theorem idx : ∀ t : Fin cfg0.N, win0_0.index t = ![t.val / 16, 0]
    ∧ win0_1.index t = ![t.val / 16, 0]
    ∧ win0_2.index t = ![t.val / 16, 0]
    ∧ win0_3.index t = ![t.val / 16, 0]
    ∧ win0_4.index t = ![0, t.val % 16]
    ∧ win0_5.index t = ![0, 16 + t.val % 16]
    ∧ win0_6.index t = ![0, 32 + t.val % 16]
    ∧ win0_7.index t = ![0, t.val % 16]
    ∧ win0_8.index t = ![0, t.val % 16]
    ∧ win0_9.index t = ![0, t.val % 16]
    ∧ win0_10.index t = ![t.val / 16, t.val % 16] :=
  (by decide +kernel : ∀ t : Fin grid0.N, _)

/-- What the body stores at place `y` of its block at point `t` is the reference's result at the place of the array where
    `y` lies. -/
theorem point (c : Dev nD) (t : Fin cfg0.N) (y) : k0_pay1 (iblk m c 0 t) (iblk m c 4 t) (iblk m c 1 t) (iblk m c 7 t) (iblk m c 5 t) (iblk m c 2 t) (iblk m c 8 t) (iblk m c 6 t) (iblk m c 3 t) (iblk m c 9 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb y) := by
  pointwise [k0_pay1, Ideal.logistic, REF]
  blk_point [iblk, V, idx t]

/-- The kernel's result array after the run is the reference's result on the kernel's arguments. -/
theorem final (c : Dev nD) : (dats m 0 c).arrAt 10 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  frame_out
  exact point m c t y

end Cert.KmergeIdeal.Whole

end
-- ==== Proof.InProj.lean ====
/-
  The input projection: a product tiled over rows and columns, against one product over the whole weight matrix of which the
  leading columns are kept.
-/
module

public import proofs.«01_k».proof.Proof.Gen.KinIdeal.Value
public import proofs.«01_k».proof.Proof.Gen.RinIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KinIdeal.Whole

open Cert.KinIdeal Cert.KinIdeal.Gen

variable (m : (ℓ : Loc nD τ sig) → Buf (Elt Ideal) ℓ)

/-- The reference's result as a function of its arguments. -/
abbrev REF (a0 : FVec Ideal S8192x4096 .bf16) (a1 : FVec Ideal S4096x24592 .f32) : FVec Ideal Cert.RinIdeal.S8192x12288 .bf16 :=
  truncf .bf16 (extractStridedSlice Cert.RinIdeal.S8192x12288 ![0, 0] (Host.dotGeneral Cert.RinIdeal.dot_S8192x4096_S4096x24592_S8192x24592_1_0_0_1_n_n none (extf .f32 a0 Cert.RinIdeal.Gen.bitsLt_bf16_f32) a1) Cert.RinIdeal.Gen.slices_S8192x24592_S8192x12288_0_0) Cert.RinIdeal.Gen.bitsLt_bf16_f32

/-- Which block of its array each window reads or writes at grid point `t`. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What the body stores at place `y` of its block at point `t` is the reference's result at the place of the array where
    `y` lies. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The kernel's result array after the run is the reference's result on the kernel's arguments. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.KinIdeal.Whole

end
-- ==== Proof.FfnDown.lean ====
/-
  The residual stream plus a gated projection, computed in tiles of rows and columns, against one product over all rows.
  The gate has one row per sequence; which sequence a token belongs to is its number divided by 2048 (the kernel divides the
  tile's number).
-/
module

public import proofs.«01_k».proof.Proof.Gen.KdownIdeal.Value
public import proofs.«01_k».proof.Proof.Gen.RdownIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KdownIdeal.Whole

open Cert.KdownIdeal Cert.KdownIdeal.Gen

variable (m : (ℓ : Loc nD τ sig) → Buf (Elt Ideal) ℓ)

/-- The reference's result as a function of its arguments. -/
abbrev REF (a0 : FVec Ideal S8192x11008 .bf16) (a1 : FVec Ideal S11008x4096 .f32) (a2 : FVec Ideal S8192x4096 .f32) (a3 : FVec Ideal S4x1x4096 .f32) : FVec Ideal Cert.RdownIdeal.S8192x4096 .f32 :=
  shapeCast _ (addf (shapeCast _ a2 Cert.RdownIdeal.Gen.shapeCasts_S8192x4096_S4x2048x4096) (mulf (broadcastInDim Cert.RdownIdeal.S4x2048x4096 ![0, 1, 2] Cert.RdownIdeal.Gen.bcast_S4x1x4096_S4x2048x4096_0_1_2 a3) (shapeCast _ (Host.dotGeneral Cert.RdownIdeal.dot_S8192x11008_S11008x4096_S8192x4096_1_0_0_1_n_n none (extf .f32 a0 Cert.RdownIdeal.Gen.bitsLt_bf16_f32) a1) Cert.RdownIdeal.Gen.shapeCasts_S8192x4096_S4x2048x4096))) Cert.RdownIdeal.Gen.shapeCasts_S4x2048x4096_S8192x4096

/-- Which block of its array each window reads or writes at grid point `t`. -/
theorem idx : ∀ t : Fin cfg0.N, win0_0.index t = ![t.val / 16, 0]
    ∧ win0_1.index t = ![0, t.val % 16]
    ∧ win0_2.index t = ![t.val / 16, t.val % 16]
    ∧ win0_3.index t = ![t.val / 16 / 4, 0, t.val % 16]
    ∧ win0_4.index t = ![t.val / 16, t.val % 16] :=
  (by decide +kernel : ∀ t : Fin grid0.N, _)

/-- What the body stores at place `y` of its block at point `t` is the reference's result at the place of the array where
    `y` lies. -/
theorem point (c : Dev nD) (t : Fin cfg0.N) (y) : k0_pay1 (iblk m c 2 t) (iblk m c 3 t) (iblk m c 0 t) (iblk m c 1 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF]
  blk_point [iblk, V, idx t]

/-- The kernel's result array after the run is the reference's result on the kernel's arguments. -/
theorem final (c : Dev nD) : (dats m 0 c).arrAt 4 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.KdownIdeal.Whole

end
-- ==== Proof.OutProj.lean ====
/-
  The residual stream plus a gated projection, computed in tiles of rows and columns, against one product over all rows.
  The gate has one row per sequence; which sequence a token belongs to is its number divided by 2048 (the kernel divides the
  tile's number).
-/
module

public import proofs.«01_k».proof.Proof.Gen.KoutIdeal.Value
public import proofs.«01_k».proof.Proof.Gen.RoutIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KoutIdeal.Whole

open Cert.KoutIdeal Cert.KoutIdeal.Gen

variable (m : (ℓ : Loc nD τ sig) → Buf (Elt Ideal) ℓ)

/-- The reference's result as a function of its arguments. -/
abbrev REF (a0 : FVec Ideal S8192x4096 .bf16) (a1 : FVec Ideal S4096x4096 .f32) (a2 : FVec Ideal S8192x4096 .f32) (a3 : FVec Ideal S4x1x4096 .f32) : FVec Ideal Cert.RoutIdeal.S8192x4096 .f32 :=
  shapeCast _ (addf (shapeCast _ a2 Cert.RoutIdeal.Gen.shapeCasts_S8192x4096_S4x2048x4096) (mulf (broadcastInDim Cert.RoutIdeal.S4x2048x4096 ![0, 1, 2] Cert.RoutIdeal.Gen.bcast_S4x1x4096_S4x2048x4096_0_1_2 a3) (shapeCast _ (Host.dotGeneral Cert.RoutIdeal.dot_S8192x4096_S4096x4096_S8192x4096_1_0_0_1_n_n none (extf .f32 a0 Cert.RoutIdeal.Gen.bitsLt_bf16_f32) a1) Cert.RoutIdeal.Gen.shapeCasts_S8192x4096_S4x2048x4096))) Cert.RoutIdeal.Gen.shapeCasts_S4x2048x4096_S8192x4096

/-- Which block of its array each window reads or writes at grid point `t`. -/
theorem idx : ∀ t : Fin cfg0.N, win0_0.index t = ![t.val / 8, 0]
    ∧ win0_1.index t = ![0, t.val % 8]
    ∧ win0_2.index t = ![t.val / 8, t.val % 8]
    ∧ win0_3.index t = ![t.val / 8 / 2, 0, t.val % 8]
    ∧ win0_4.index t = ![t.val / 8, t.val % 8] :=
  (by decide +kernel : ∀ t : Fin grid0.N, _)

/-- What the body stores at place `y` of its block at point `t` is the reference's result at the place of the array where
    `y` lies. -/
theorem point (c : Dev nD) (t : Fin cfg0.N) (y) : k0_pay1 (iblk m c 2 t) (iblk m c 3 t) (iblk m c 0 t) (iblk m c 1 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF]
  blk_point [iblk, V, idx t]

/-- The kernel's result array after the run is the reference's result on the kernel's arguments. -/
theorem final (c : Dev nD) : (dats m 0 c).arrAt 4 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.KoutIdeal.Whole

end
-- ==== Proof.Conv.lean ====
/-
  The gated convolution: the kernel rotates the rows of a whole sequence and clears the ones that came round, the reference
  pads the sequence and shifts.
-/
module

public import proofs.«01_k».proof.Proof.Gen.KconvIdeal.Value
public import proofs.«01_k».proof.Proof.Gen.RconvIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KconvIdeal.Whole

open Cert.KconvIdeal Cert.KconvIdeal.Gen

variable (m : (ℓ : Loc nD τ sig) → Buf (Elt Ideal) ℓ)

/-- The reference's result as a function of its arguments. -/
def REF (a0 : FVec Ideal S4x2048x12288 .bf16) (a1 : FVec Ideal S3x1024 .f32) : FVec Ideal Cert.RconvIdeal.S4x2048x1024 .bf16 :=
  truncf .bf16 (mulf (extractStridedSlice Cert.RconvIdeal.S4x2048x1024 ![0, 0, 5632] (extf .f32 a0 Cert.RconvIdeal.Gen.bitsLt_bf16_f32) Cert.RconvIdeal.Gen.slices_S4x2048x12288_S4x2048x1024_0_0_5632) (addf (addf (mulf (broadcastInDim Cert.RconvIdeal.S4x2048x1024 ![0, 1, 2] Cert.RconvIdeal.Gen.bcast_S1x1x1024_S4x2048x1024_0_1_2 (broadcastInDim Cert.RconvIdeal.S1x1x1024 ![2] Cert.RconvIdeal.Gen.bcast_S1024_S1x1x1024_2 (shapeCast _ (extractStridedSlice Cert.RconvIdeal.S1x1024 ![2, 0] a1 Cert.RconvIdeal.Gen.slices_S3x1024_S1x1024_2_0) Cert.RconvIdeal.Gen.shapeCasts_S1x1024_S1024))) (mulf (extractStridedSlice Cert.RconvIdeal.S4x2048x1024 ![0, 0, 6656] (extf .f32 a0 Cert.RconvIdeal.Gen.bitsLt_bf16_f32) Cert.RconvIdeal.Gen.slices_S4x2048x12288_S4x2048x1024_0_0_6656) (extractStridedSlice Cert.RconvIdeal.S4x2048x1024 ![0, 0, 4608] (extf .f32 a0 Cert.RconvIdeal.Gen.bitsLt_bf16_f32) Cert.RconvIdeal.Gen.slices_S4x2048x12288_S4x2048x1024_0_0_4608))) (mulf (broadcastInDim Cert.RconvIdeal.S4x2048x1024 ![0, 1, 2] Cert.RconvIdeal.Gen.bcast_S1x1x1024_S4x2048x1024_0_1_2 (broadcastInDim Cert.RconvIdeal.S1x1x1024 ![2] Cert.RconvIdeal.Gen.bcast_S1024_S1x1x1024_2 (shapeCast _ (extractStridedSlice Cert.RconvIdeal.S1x1024 ![0, 0] a1 Cert.RconvIdeal.Gen.slices_S3x1024_S1x1024_0_0) Cert.RconvIdeal.Gen.shapeCasts_S1x1024_S1024))) (extractStridedSlice Cert.RconvIdeal.S4x2048x1024 ![0, 0, 0] (pad Cert.RconvIdeal.S4x2050x1024 ![0, 2, 0] ![0, 0, 0] ![0, 0, 0] (mulf (extractStridedSlice Cert.RconvIdeal.S4x2048x1024 ![0, 0, 6656] (extf .f32 a0 Cert.RconvIdeal.Gen.bitsLt_bf16_f32) Cert.RconvIdeal.Gen.slices_S4x2048x12288_S4x2048x1024_0_0_6656) (extractStridedSlice Cert.RconvIdeal.S4x2048x1024 ![0, 0, 4608] (extf .f32 a0 Cert.RconvIdeal.Gen.bitsLt_bf16_f32) Cert.RconvIdeal.Gen.slices_S4x2048x12288_S4x2048x1024_0_0_4608)) (sitofp .f32 (constantI Cert.RconvIdeal.S_ 32 0#32)) Cert.RconvIdeal.Gen.pads_S4x2048x1024_S4x2050x1024_000_200_000 Cert.RconvIdeal.Gen.h_S_) Cert.RconvIdeal.Gen.slices_S4x2050x1024_S4x2048x1024_0_0_0))) (mulf (broadcastInDim Cert.RconvIdeal.S4x2048x1024 ![0, 1, 2] Cert.RconvIdeal.Gen.bcast_S1x1x1024_S4x2048x1024_0_1_2 (broadcastInDim Cert.RconvIdeal.S1x1x1024 ![2] Cert.RconvIdeal.Gen.bcast_S1024_S1x1x1024_2 (shapeCast _ (extractStridedSlice Cert.RconvIdeal.S1x1024 ![1, 0] a1 Cert.RconvIdeal.Gen.slices_S3x1024_S1x1024_1_0) Cert.RconvIdeal.Gen.shapeCasts_S1x1024_S1024))) (extractStridedSlice Cert.RconvIdeal.S4x2048x1024 ![0, 1, 0] (pad Cert.RconvIdeal.S4x2050x1024 ![0, 2, 0] ![0, 0, 0] ![0, 0, 0] (mulf (extractStridedSlice Cert.RconvIdeal.S4x2048x1024 ![0, 0, 6656] (extf .f32 a0 Cert.RconvIdeal.Gen.bitsLt_bf16_f32) Cert.RconvIdeal.Gen.slices_S4x2048x12288_S4x2048x1024_0_0_6656) (extractStridedSlice Cert.RconvIdeal.S4x2048x1024 ![0, 0, 4608] (extf .f32 a0 Cert.RconvIdeal.Gen.bitsLt_bf16_f32) Cert.RconvIdeal.Gen.slices_S4x2048x12288_S4x2048x1024_0_0_4608)) (sitofp .f32 (constantI Cert.RconvIdeal.S_ 32 0#32)) Cert.RconvIdeal.Gen.pads_S4x2048x1024_S4x2050x1024_000_200_000 Cert.RconvIdeal.Gen.h_S_) Cert.RconvIdeal.Gen.slices_S4x2050x1024_S4x2048x1024_0_1_0)))) Cert.RconvIdeal.Gen.bitsLt_bf16_f32

/-- Which block of its array each window reads or writes at grid point `t`. -/
theorem idx : ∀ t : Fin cfg0.N, win0_0.index t = ![t.val / 4, 0, 18 + t.val % 4]
    ∧ win0_1.index t = ![t.val / 4, 0, 22 + t.val % 4]
    ∧ win0_2.index t = ![t.val / 4, 0, 26 + t.val % 4]
    ∧ win0_3.index t = ![0, t.val % 4]
    ∧ win0_4.index t = ![t.val / 4, 0, t.val % 4] :=
  (by decide +kernel : ∀ t : Fin grid0.N, _)

/-- The taps' input: a gate times the value, at sequence `b`, position `s` and channel `q`. -/
def tap (a0 : FVec Ideal S4x2048x12288 .bf16) (b : Fin 4) (s : Fin 2048) (q : Fin 1024) : EReal :=
  a0 (ix3 b s (⟨6656 + q.val, by omega⟩ : Fin 12288)) * a0 (ix3 b s (⟨4608 + q.val, by omega⟩ : Fin 12288))

/-- The result at sequence `b`, position `s` and channel `q`. -/
def val (a0 : FVec Ideal S4x2048x12288 .bf16) (a1 : FVec Ideal S3x1024 .f32) (b : Fin 4) (s : Fin 2048) (q : Fin 1024) : EReal :=
  a0 (ix3 b s (⟨5632 + q.val, by omega⟩ : Fin 12288))
    * (a1 (ix2 2 q) * tap a0 b s q + a1 (ix2 1 q) * (if 1 ≤ s.val then tap a0 b ⟨s.val - 1, by omega⟩ q else 0)
      + a1 (ix2 0 q) * (if 2 ≤ s.val then tap a0 b ⟨s.val - 2, by omega⟩ q else 0))

/-- The reference's result, entry by entry. -/
theorem ref_val (a0 : FVec Ideal S4x2048x12288 .bf16) (a1 : FVec Ideal S3x1024 .f32) (b : Fin 4) (s : Fin 2048) (q : Fin 1024) :
    REF a0 a1 (ix3 b s q) = val a0 a1 b s q := by
  have z : FloatOps.sitofp (F := Ideal) FTy.f32 0#32 = (0 : EReal) := by simp [FloatOps.sitofp]
  unfold val tap
  pointwise [REF]
  rw [z, add_right_comm]
  congr 2
  · congr 2
    by_cases h : 1 ≤ s.val
    · have e : (⟨1 + s.val - 2, by omega⟩ : Fin 2048) = ⟨s.val - 1, by omega⟩ := Fin.ext (by simp only; omega)
      rw [dif_pos (by omega), if_pos h, e]
    · rw [dif_neg (by omega), if_neg h]
  · congr 1
    by_cases h : 2 ≤ s.val
    · rw [dif_pos (by omega), if_pos h]
    · rw [dif_neg (by omega), if_neg h]

/-- The block a point stores, entry by entry. -/
theorem out_at (x0 x1 x2 : FVec Ideal S1x2048x256 .bf16) (x3 : FVec Ideal S3x256 .f32) (s : Fin 2048) (l : Fin 256) :
    k0_pay1 (F := Ideal) (k0_pay2 x2 x0 x3 x1) (ix3 0 s l) = x1 (ix3 0 s l)
    * (x3 (ix2 2 l) * (x2 (ix3 0 s l) * x0 (ix3 0 s l))
      + x3 (ix2 1 l) * (if 1 ≤ s.val then x2 (ix3 0 (⟨s.val - 1, by omega⟩ : Fin 2048) l) * x0 (ix3 0 (⟨s.val - 1, by omega⟩ : Fin 2048) l) else 0)
      + x3 (ix2 0 l) * (if 2 ≤ s.val then x2 (ix3 0 (⟨s.val - 2, by omega⟩ : Fin 2048) l) * x0 (ix3 0 (⟨s.val - 2, by omega⟩ : Fin 2048) l) else 0)) := by
  have e1 : IntOp.cmpi CmpIPredicate.slt (BitVec.ofNat 32 s.val) 1#32 = if 1 ≤ s.val then 0#1 else 1#1 := by
    revert s; decide +kernel
  have e2 : IntOp.cmpi CmpIPredicate.slt (BitVec.ofNat 32 s.val) 2#32 = if 2 ≤ s.val then 0#1 else 1#1 := by
    revert s; decide +kernel
  pointwise [k0_pay1, k0_pay2]
  rw [e1, e2]
  congr 2
  · congr 1
    by_cases h : 1 ≤ s.val
    · have e : (⟨(s.val + 2048 - 1) % 2048, by omega⟩ : Fin 2048) = ⟨s.val - 1, by omega⟩ := Fin.ext (by simp only; omega)
      rw [if_pos h, if_pos h, e]
      simp [Scalar.select]
    · rw [if_neg h, if_neg h]
      simp [Scalar.select]
  · by_cases h : 2 ≤ s.val
    · have e : (⟨(s.val + 2048 - 2) % 2048, by omega⟩ : Fin 2048) = ⟨s.val - 2, by omega⟩ := Fin.ext (by simp only; omega)
      rw [if_pos h, if_pos h, e]
      simp [Scalar.select]
    · rw [if_neg h, if_neg h]
      simp [Scalar.select]

/-- The streams the kernel is given. -/
def A0 (c : Dev nD) : FVec Ideal S4x2048x12288 .bf16 := m ((c : Thread nD τ).loc main_arg0)
/-- The taps the kernel is given. -/
def A1 (c : Dev nD) : FVec Ideal S3x1024 .f32 := m ((c : Thread nD τ).loc main_arg1)
/-- The block of values at point `t`. -/
def bk0 (c : Dev nD) (t : Fin cfg0.N) : FVec Ideal S1x2048x256 .bf16 := iblk m c 0 t
/-- The block of output gates at point `t`. -/
def bk1 (c : Dev nD) (t : Fin cfg0.N) : FVec Ideal S1x2048x256 .bf16 := iblk m c 1 t
/-- The block of input gates at point `t`. -/
def bk2 (c : Dev nD) (t : Fin cfg0.N) : FVec Ideal S1x2048x256 .bf16 := iblk m c 2 t
/-- The block of taps at point `t`. -/
def bk3 (c : Dev nD) (t : Fin cfg0.N) : FVec Ideal S3x256 .f32 := iblk m c 3 t

/-- There are 4 sequences of 4 channel tiles. -/
theorem lt_t (t : Fin cfg0.N) : t.val < 16 := t.isLt

/-- The sequence of point `t`. -/
abbrev seq (t : Fin cfg0.N) : Fin 4 := ⟨t.val / 4, by have := lt_t t; omega⟩
/-- The channel of lane `l` at point `t`. -/
abbrev chan (t : Fin cfg0.N) (l : Fin 256) : Fin 1024 := ⟨256 * (t.val % 4) + l.val, by omega⟩

/-- The values a point is given. -/
theorem bk0_at (c : Dev nD) (t : Fin cfg0.N) (s : Fin 2048) (l : Fin 256) :
    bk0 m c t (ix3 0 s l) = A0 m c (ix3 (seq t) s (⟨4608 + (chan t l).val, by omega⟩ : Fin 12288)) := by
  have ht := lt_t t
  unfold bk0 A0
  blk_ext [iblk, V, idx t]

/-- The output gates a point is given. -/
theorem bk1_at (c : Dev nD) (t : Fin cfg0.N) (s : Fin 2048) (l : Fin 256) :
    bk1 m c t (ix3 0 s l) = A0 m c (ix3 (seq t) s (⟨5632 + (chan t l).val, by omega⟩ : Fin 12288)) := by
  have ht := lt_t t
  unfold bk1 A0
  blk_ext [iblk, V, idx t]

/-- The input gates a point is given. -/
theorem bk2_at (c : Dev nD) (t : Fin cfg0.N) (s : Fin 2048) (l : Fin 256) :
    bk2 m c t (ix3 0 s l) = A0 m c (ix3 (seq t) s (⟨6656 + (chan t l).val, by omega⟩ : Fin 12288)) := by
  have ht := lt_t t
  unfold bk2 A0
  blk_ext [iblk, V, idx t]

/-- The taps a point is given. -/
theorem bk3_at (c : Dev nD) (t : Fin cfg0.N) (k : Fin 3) (l : Fin 256) :
    bk3 m c t (ix2 k l) = A1 m c (ix2 k (chan t l)) := by
  have ht := lt_t t
  unfold bk3 A1
  blk_ext [iblk, V, idx t]

/-- What a point stores, in the numbering of the whole array. -/
theorem out_val (c : Dev nD) (t : Fin cfg0.N) (s : Fin 2048) (l : Fin 256) :
    k0_pay1 (F := Ideal) (k0_pay2 (bk2 m c t) (bk0 m c t) (bk3 m c t) (bk1 m c t)) (ix3 0 s l)
      = val (A0 m c) (A1 m c) (seq t) s (chan t l) := by
  rw [out_at]
  simp only [bk0_at, bk1_at, bk2_at, bk3_at]
  rfl

/-- What the body stores at place `y` of its block at point `t` is the reference's result at the place of the array where
    `y` lies. -/
theorem point (c : Dev nD) (t : Fin cfg0.N) (y) : k0_pay1 (k0_pay2 (iblk m c 2 t) (iblk m c 0 t) (iblk m c 3 t) (iblk m c 1 t)) y
    = REF (A0 m c) (A1 m c) (((cfg0.win 4).blk t).view.emb y) := by
  idx_vars y
  have ht := lt_t t
  obtain rfl : y0 = 0 := Subsingleton.elim _ _
  refine (out_val m c t _ _).trans ?_
  rw [show (((View.whole main_v0).slice ((win0 4).rect t)).emb (ix3 0 y1 y2)) = ix3 (seq t) y1 (chan t y2) from by
    blk_ext [idx t], ref_val]

/-- The kernel's result array after the run is the reference's result on the kernel's arguments. -/
theorem final (c : Dev nD) : (dats m 0 c).arrAt 4 cfg0.N = REF (m ((c : Thread nD τ).loc main_arg0)) (m ((c : Thread nD τ).loc main_arg1)) := by
  refine (dats m 0 c).arrAt_eq_of_covers 4 _ (by decide +kernel) fun t _ y => ?_
  blk_simp
  rw [after0_4]
  frame_out
  exact point m c t y

end Cert.KconvIdeal.Whole

end
-- ==== Proof.InProjRank.lean ====
/-
  The low-rank columns of the input projection, kept in full precision: the kernel multiplies by weights padded with zero
  columns, the reference pads its result with zero columns.
-/
module

public import proofs.«01_k».proof.Proof.Gen.KrankIdeal.Value
public import proofs.«01_k».proof.Proof.Gen.RrankIdeal.Run
public import Idealize.ShloMosaic.Lib.Pipeline.ValueKit
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.KrankIdeal.Whole

open Cert.KrankIdeal Cert.KrankIdeal.Gen

variable (m : (ℓ : Loc nD τ sig) → Buf (Elt Ideal) ℓ)

/-- The reference's result as a function of its arguments. -/
def REF (a0 : FVec Ideal S8192x4096 .bf16) (a1 : FVec Ideal S4096x24592 .f32) : FVec Ideal Cert.RrankIdeal.S8192x128 .f32 :=
  pad Cert.RrankIdeal.S8192x128 ![0, 0] ![0, 112] ![0, 0] (extractStridedSlice Cert.RrankIdeal.S8192x16 ![0, 12288] (Host.dotGeneral Cert.RrankIdeal.dot_S8192x4096_S4096x24592_S8192x24592_1_0_0_1_n_n none (extf .f32 a0 Cert.RrankIdeal.Gen.bitsLt_bf16_f32) a1) Cert.RrankIdeal.Gen.slices_S8192x24592_S8192x16_0_12288) (sitofp .f32 (constantI Cert.RrankIdeal.S_ 32 0#32)) Cert.RrankIdeal.Gen.pads_S8192x16_S8192x128_000_01120 Cert.RrankIdeal.Gen.h_S_

/-- Which block of its array each window reads or writes at grid point `t`. -/
theorem idx : ∀ t : Fin cfg0.N, win0_0.index t = ![t.val, 0]
    ∧ win0_1.index t = ![0, 0]
    ∧ win0_2.index t = ![t.val, 0] :=
  (by decide +kernel : ∀ t : Fin grid0.N, _)

/-- The low-rank columns' result at row `r` and column `q`: zero past the 16 columns. -/
def val (a0 : FVec Ideal S8192x4096 .bf16) (a1 : FVec Ideal S4096x24592 .f32) (r : Fin 8192) (q : Fin 128) : EReal :=
  if h : q.val < 16 then ∑ k : Fin 4096, a0 (ix2 r k) * a1 (ix2 k (⟨12288 + q.val, by omega⟩ : Fin 24592)) else 0

/-- The reference's result, entry by entry. -/
theorem ref_val (a0 : FVec Ideal S8192x4096 .bf16) (a1 : FVec Ideal S4096x24592 .f32) (r : Fin 8192) (q : Fin 128) :
    REF a0 a1 (ix2 r q) = val a0 a1 r q := by
  have z : FloatOps.sitofp (F := Ideal) FTy.f32 0#32 = (0 : EReal) := by simp [FloatOps.sitofp]
  unfold val
  pointwise [REF]
  rw [z]

/-- The tile a point stores, entry by entry. -/
theorem out_at (x0 : FVec Ideal S1024x4096 .bf16) (x1 : FVec Ideal S4096x128 .bf16) (r : Fin 1024) (l : Fin 128) :
    k0_pay1 (F := Ideal) x0 x1 (ix2 r l) = ∑ k : Fin 4096, x0 (ix2 r k) * x1 (ix2 k l) := by
  pointwise [k0_pay1]

/-- The dimension numbers of the host's set of the weights' columns. -/
abbrev sd := scatter_S4096x128_S1_S4096x16_01_n_1_0

/-- The weights' columns are set at the left of the padded array. -/
theorem lands (k : S4096x16.Idx) (r : Fin 4096) (l : Fin 128) (z : IVec S1 32) (hz : ∀ i, z i = 0#32) :
    sd.resultIdx? k z = some (ix2 r l) ↔ (k 0).val = r.val ∧ (k 1).val = l.val := by
  have h0 : sd.start k z 0 = 0 := by
    unfold ScatterDims.start
    rw [dif_neg (by decide)]
  have h1 : sd.start k z 1 = 0 := by
    unfold ScatterDims.start
    rw [dif_pos (by decide), hz]; rfl
  have w0 : sd.window k 0 = (k 0).val := by
    unfold ScatterDims.window
    rw [dif_pos (by decide)]; rfl
  have w1 : sd.window k 1 = (k 1).val := by
    unfold ScatterDims.window
    rw [dif_pos (by decide)]; rfl
  refine (Routing.resultIdx?_ix2 sd k z r l).trans ?_
  rw [h0, h1, w0, w1]
  omega

/-- The padded weights: the 16 columns, and zero columns. -/
theorem padded (x0 : FVec Ideal S4096x128 .bf16) (h0 : ∀ i, x0 i = 0) (z : IVec S1 32) (hz : ∀ i, z i = 0#32) (w : FVec Ideal S4096x16 .bf16)
    (r : Fin 4096) (l : Fin 128) :
    (Host.scatter sd (fun _ b => b) x0 z w (ix2 r l) : EReal) = if h : l.val < 16 then w (ix2 r ⟨l.val, h⟩) else 0 := by
  by_cases h : l.val < 16
  · rw [dif_pos h]
    refine Routing.scatter_set_hit sd x0 z w _ _ (fun k hk => ?_) (ix2 r ⟨l.val, h⟩) ((lands _ r l z hz).mpr ⟨rfl, rfl⟩)
    have := (lands k r l z hz).mp hk
    refine congrArg w (funext fun a => Fin.ext ?_)
    fin_cases a
    · exact this.1
    · exact this.2
  · rw [dif_neg h, Routing.scatter_set_miss sd x0 z w _ (fun k hk => ?_), h0]
    have h1 := ((lands k r l z hz).mp hk).2
    have h2 : (k 1).val < 16 := (k 1).isLt
    omega

/-- The rows the kernel is given. -/
def A0 (c : Dev nD) : FVec Ideal S8192x4096 .bf16 := m ((c : Thread nD τ).loc main_arg0)
/-- The weights the kernel is given. -/
def A1 (c : Dev nD) : FVec Ideal S4096x24592 .f32 := m ((c : Thread nD τ).loc main_arg1)
/-- The block of rows at point `t`. -/
def bk0 (c : Dev nD) (t : Fin cfg0.N) : FVec Ideal S1024x4096 .bf16 := iblk m c 0 t
/-- The padded weights at point `t`. -/
def bk1 (c : Dev nD) (t : Fin cfg0.N) : FVec Ideal S4096x128 .bf16 := iblk m c 1 t

/-- There are 8 row tiles. -/
theorem lt_t (t : Fin cfg0.N) : t.val < 8 := t.isLt

/-- The row of the array at row `r` of point `t`'s tile. -/
abbrev row (t : Fin cfg0.N) (r : Fin 1024) : Fin 8192 := ⟨1024 * t.val + r.val, by have := lt_t t; omega⟩

/-- The rows a point is given. -/
theorem bk0_at (c : Dev nD) (t : Fin cfg0.N) (r : Fin 1024) (k : Fin 4096) : bk0 m c t (ix2 r k) = A0 m c (ix2 (row t r) k) := by
  have ht := lt_t t
  unfold bk0 A0
  blk_ext [iblk, V, idx t]

/-- The padded weights a point is given. -/
theorem bk1_at (c : Dev nD) (t : Fin cfg0.N) (k : Fin 4096) (l : Fin 128) :
    bk1 m c t (ix2 k l) = if h : l.val < 16 then A1 m c (ix2 k (⟨12288 + l.val, by omega⟩ : Fin 24592)) else 0 := by
  have he : ((View.whole main_v4).slice (win0_1.rect t)).emb (ix2 k l) = ix2 k l := by
    blk_ext [idx t]
  unfold bk1 A1 iblk
  generalize hR : (if h : l.val < 16 then _ else (0 : EReal)) = R
  rw [View.read, cast_eq]
  generalize hi : ((cfg0.win 1).blk t).view.emb (ix2 k l) = i
  entry_read
  rw [← hi, show ((cfg0.win 1).blk t).view.emb (ix2 k l) = ix2 k l from he]
  refine (padded _ ?_ _ ?_ _ k l).trans ?_
  · intro i; pointwise
  · intro i; pointwise
  · rw [← hR]
    by_cases h : l.val < 16
    · rw [dif_pos h, dif_pos h]
      pointwise
    · rw [dif_neg h, dif_neg h]

/-- What a point stores, in the numbering of the whole array. -/
theorem out_val (c : Dev nD) (t : Fin cfg0.N) (r : Fin 1024) (l : Fin 128) :
    k0_pay1 (F := Ideal) (bk0 m c t) (bk1 m c t) (ix2 r l) = val (A0 m c) (A1 m c) (row t r) l := by
  rw [out_at]
  unfold val
  by_cases h : l.val < 16
  · rw [dif_pos h]
    exact Finset.sum_congr rfl fun k _ => by rw [bk0_at, bk1_at, dif_pos h]
  · rw [dif_neg h]
    exact Finset.sum_eq_zero fun k _ => by rw [bk1_at, dif_neg h, mul_zero]

/-- What the body stores at place `y` of its block at point `t` is the reference's result at the place of the array where
    `y` lies. -/
theorem point (c : Dev nD) (t : Fin cfg0.N) (y) : k0_pay1 (iblk m c 0 t) (iblk m c 1 t) y
    = REF (A0 m c) (A1 m c) (((cfg0.win 2).blk t).view.emb y) := by
  idx_vars y
  have ht := lt_t t
  refine (out_val m c t _ _).trans ?_
  rw [show (((View.whole main_v5).slice ((win0 2).rect t)).emb (ix2 y0 y1)) = ix2 (row t y0) y1 from by
    blk_ext [idx t], ref_val]

/-- The kernel's result array after the run is the reference's result on the kernel's arguments. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.KrankIdeal.Whole

end
-- ==== Proof.NormModulate.lean ====
/-
  The root-mean-square normalisation with its scale and shift, in blocks of rows, against the whole array at once.
-/
module

public import proofs.«01_k».proof.Proof.Gen.KmodIdeal.Value
public import proofs.«01_k».proof.Proof.Gen.RmodIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KmodIdeal.Whole

open Cert.KmodIdeal Cert.KmodIdeal.Gen

variable (m : (ℓ : Loc nD τ sig) → Buf (Elt Ideal) ℓ)

/-- The reference's result as a function of its arguments. -/
abbrev REF (a0 : FVec Ideal S4x2048x4096 .f32) (a1 : FVec Ideal S4096 .f32) (a2 : FVec Ideal S4x1x4096 .f32) (a3 : FVec Ideal S4x1x4096 .f32) : FVec Ideal Cert.RmodIdeal.S4x2048x4096 .bf16 :=
  truncf .bf16 (addf (mulf (mulf (mulf a0 (broadcastInDim Cert.RmodIdeal.S4x2048x4096 ![0, 1, 2] Cert.RmodIdeal.Gen.bcast_S4x2048x1_S4x2048x4096_0_1_2 (Host.rsqrt (addf (Host.divf (broadcastInDim Cert.RmodIdeal.S4x2048x1 ![0, 1] Cert.RmodIdeal.Gen.bcast_S4x2048_S4x2048x1_0_1 (Host.reduceAdd (mulf a0 a0) (constant Cert.RmodIdeal.S_ .f32 0x00000000#32) Cert.RmodIdeal.Gen.reducesTo_S4x2048x4096_S4x2048_d2 Cert.RmodIdeal.Gen.h_S_)) (broadcastInDim Cert.RmodIdeal.S4x2048x1 ![] Cert.RmodIdeal.Gen.bcast_S_S4x2048x1 (constant Cert.RmodIdeal.S_ .f32 0x45800000#32))) (broadcastInDim Cert.RmodIdeal.S4x2048x1 ![] Cert.RmodIdeal.Gen.bcast_S_S4x2048x1 (constant Cert.RmodIdeal.S_ .f32 0x358637BD#32)))))) (broadcastInDim Cert.RmodIdeal.S4x2048x4096 ![0, 1, 2] Cert.RmodIdeal.Gen.bcast_S1x1x4096_S4x2048x4096_0_1_2 (broadcastInDim Cert.RmodIdeal.S1x1x4096 ![2] Cert.RmodIdeal.Gen.bcast_S4096_S1x1x4096_2 a1))) (broadcastInDim Cert.RmodIdeal.S4x2048x4096 ![0, 1, 2] Cert.RmodIdeal.Gen.bcast_S4x1x4096_S4x2048x4096_0_1_2 (addf (broadcastInDim Cert.RmodIdeal.S4x1x4096 ![] Cert.RmodIdeal.Gen.bcast_S_S4x1x4096 (constant Cert.RmodIdeal.S_ .f32 0x3F800000#32)) a2))) (broadcastInDim Cert.RmodIdeal.S4x2048x4096 ![0, 1, 2] Cert.RmodIdeal.Gen.bcast_S4x1x4096_S4x2048x4096_0_1_2 a3)) Cert.RmodIdeal.Gen.bitsLt_bf16_f32

/-- Which block of its array each window reads or writes at grid point `t`. -/
theorem idx : ∀ t : Fin cfg0.N, win0_0.index t = ![t.val / 8, t.val % 8, 0]
    ∧ win0_1.index t = ![0, 0]
    ∧ win0_2.index t = ![t.val / 8, 0, 0]
    ∧ win0_3.index t = ![t.val / 8, 0, 0]
    ∧ win0_4.index t = ![t.val / 8, t.val % 8, 0] :=
  (by decide +kernel : ∀ t : Fin grid0.N, _)

/-- What the body stores at place `y` of its block at point `t` is the reference's result at the place of the array where
    `y` lies. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF]
  blk_point [iblk, V, idx t]

/-- The kernel's result array after the run is the reference's result on the kernel's arguments. -/
theorem final (c : Dev nD) : (dats m 0 c).arrAt 4 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.KmodIdeal.Whole

end
-- ==== Proof.Ada.lean ====
/-
  The modulation of both layers from the conditioning vectors: a product tiled over columns, one layer after the other.
-/
module

public import proofs.«01_k».proof.Proof.Gen.KadaIdeal.Value
public import proofs.«01_k».proof.Proof.Gen.RadaIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KadaIdeal.Whole

open Cert.KadaIdeal Cert.KadaIdeal.Gen

variable (m : (ℓ : Loc nD τ sig) → Buf (Elt Ideal) ℓ)

/-- The reference's result as a function of its arguments. -/
def REF (a0 : FVec Ideal S8x4096 .f32) (a1 : FVec Ideal S2x4096x24576 .f32) (a2 : FVec Ideal S2x24576 .f32) : FVec Ideal Cert.RadaIdeal.S2x8x24576 .f32 :=
  concatenate Cert.RadaIdeal.S2x8x24576 0 [⟨Cert.RadaIdeal.S1x8x24576, (broadcastInDim Cert.RadaIdeal.S1x8x24576 ![1, 2] Cert.RadaIdeal.Gen.bcast_S8x24576_S1x8x24576_1_2 (addf (Host.dotGeneral Cert.RadaIdeal.dot_S8x4096_S4096x24576_S8x24576_1_0_0_1_n_n none (mulf a0 (Host.divf (broadcastInDim Cert.RadaIdeal.S8x4096 ![] Cert.RadaIdeal.Gen.bcast_S_S8x4096 (constant Cert.RadaIdeal.S_ .f32 0x3F800000#32)) (addf (broadcastInDim Cert.RadaIdeal.S8x4096 ![] Cert.RadaIdeal.Gen.bcast_S_S8x4096 (constant Cert.RadaIdeal.S_ .f32 0x3F800000#32)) (Host.exp (Host.negf a0))))) (shapeCast _ (extractStridedSlice Cert.RadaIdeal.S1x4096x24576 ![0, 0, 0] a1 Cert.RadaIdeal.Gen.slices_S2x4096x24576_S1x4096x24576_0_0_0) Cert.RadaIdeal.Gen.shapeCasts_S1x4096x24576_S4096x24576)) (broadcastInDim Cert.RadaIdeal.S8x24576 ![0, 1] Cert.RadaIdeal.Gen.bcast_S1x24576_S8x24576_0_1 (broadcastInDim Cert.RadaIdeal.S1x24576 ![1] Cert.RadaIdeal.Gen.bcast_S24576_S1x24576_1 (shapeCast _ (extractStridedSlice Cert.RadaIdeal.S1x24576 ![0, 0] a2 Cert.RadaIdeal.Gen.slices_S2x24576_S1x24576_0_0) Cert.RadaIdeal.Gen.shapeCasts_S1x24576_S24576)))))⟩, ⟨Cert.RadaIdeal.S1x8x24576, (broadcastInDim Cert.RadaIdeal.S1x8x24576 ![1, 2] Cert.RadaIdeal.Gen.bcast_S8x24576_S1x8x24576_1_2 (addf (Host.dotGeneral Cert.RadaIdeal.dot_S8x4096_S4096x24576_S8x24576_1_0_0_1_n_n none (mulf a0 (Host.divf (broadcastInDim Cert.RadaIdeal.S8x4096 ![] Cert.RadaIdeal.Gen.bcast_S_S8x4096 (constant Cert.RadaIdeal.S_ .f32 0x3F800000#32)) (addf (broadcastInDim Cert.RadaIdeal.S8x4096 ![] Cert.RadaIdeal.Gen.bcast_S_S8x4096 (constant Cert.RadaIdeal.S_ .f32 0x3F800000#32)) (Host.exp (Host.negf a0))))) (shapeCast _ (extractStridedSlice Cert.RadaIdeal.S1x4096x24576 ![1, 0, 0] a1 Cert.RadaIdeal.Gen.slices_S2x4096x24576_S1x4096x24576_1_0_0) Cert.RadaIdeal.Gen.shapeCasts_S1x4096x24576_S4096x24576)) (broadcastInDim Cert.RadaIdeal.S8x24576 ![0, 1] Cert.RadaIdeal.Gen.bcast_S1x24576_S8x24576_0_1 (broadcastInDim Cert.RadaIdeal.S1x24576 ![1] Cert.RadaIdeal.Gen.bcast_S24576_S1x24576_1 (shapeCast _ (extractStridedSlice Cert.RadaIdeal.S1x24576 ![1, 0] a2 Cert.RadaIdeal.Gen.slices_S2x24576_S1x24576_1_0) Cert.RadaIdeal.Gen.shapeCasts_S1x24576_S24576)))))⟩] Cert.RadaIdeal.Gen.concatenates_S1x8x24576_S1x8x24576_S2x8x24576_d0

/-- Which block of its array each window reads or writes at grid point `t`. -/
theorem idx : ∀ t : Fin cfg0.N, win0_0.index t = ![0, 0]
    ∧ win0_1.index t = ![t.val / 48, 0, t.val % 48]
    ∧ win0_2.index t = ![t.val / 48, 0, t.val % 48]
    ∧ win0_3.index t = ![t.val / 48, 0, t.val % 48] :=
  (by decide +kernel : ∀ t : Fin grid0.N, _)

/-- The modulation of layer `d` at row `r` and column `q`. -/
def val (a0 : FVec Ideal S8x4096 .f32) (a1 : FVec Ideal S2x4096x24576 .f32) (a2 : FVec Ideal S2x24576 .f32) (d : Fin 2) (r : Fin 8) (q : Fin 24576) : EReal :=
  (∑ k : Fin 4096, a0 (ix2 r k) * Ideal.logistic (a0 (ix2 r k)) * a1 (ix3 d k q)) + a2 (ix2 d q)

/-- The reference's result, entry by entry. -/
theorem ref_val (a0 : FVec Ideal S8x4096 .f32) (a1 : FVec Ideal S2x4096x24576 .f32) (a2 : FVec Ideal S2x24576 .f32) (d : Fin 2) (r : Fin 8) (q : Fin 24576) :
    REF a0 a1 a2 (ix3 d r q) = val a0 a1 a2 d r q := by
  unfold val
  pointwise [REF, Ideal.logistic]
  by_cases h : d.val < 1
  · obtain rfl : d = 0 := Fin.ext (by simp only [Fin.val_zero]; omega)
    rw [dif_pos h]
  · obtain rfl : d = 1 := Fin.ext (by simp only [Fin.val_one]; omega)
    rw [dif_neg h]

/-- The tile a point stores, entry by entry. -/
theorem out_at (x0 : FVec Ideal S8x4096 .f32) (x1 : FVec Ideal S1x4096x512 .f32) (x2 : FVec Ideal S1x1x512 .f32) (r : Fin 8) (l : Fin 512) :
    k0_pay1 (F := Ideal) x0 x1 x2 (ix3 0 r l)
      = (∑ k : Fin 4096, x0 (ix2 r k) * Ideal.logistic (x0 (ix2 r k)) * x1 (ix3 0 k l)) + x2 (ix3 0 0 l) := by
  pointwise [k0_pay1]

/-- The conditioning vectors the kernel is given. -/
def A0 (c : Dev nD) : FVec Ideal S8x4096 .f32 := m ((c : Thread nD τ).loc main_arg0)
/-- The weights the kernel is given. -/
def A1 (c : Dev nD) : FVec Ideal S2x4096x24576 .f32 := m ((c : Thread nD τ).loc main_arg1)
/-- The biases the kernel is given. -/
def A2 (c : Dev nD) : FVec Ideal S2x24576 .f32 := m ((c : Thread nD τ).loc main_arg2)
/-- The conditioning vectors at point `t`. -/
def bk0 (c : Dev nD) (t : Fin cfg0.N) : FVec Ideal S8x4096 .f32 := iblk m c 0 t
/-- The block of weights at point `t`. -/
def bk1 (c : Dev nD) (t : Fin cfg0.N) : FVec Ideal S1x4096x512 .f32 := iblk m c 1 t
/-- The block of biases at point `t`. -/
def bk2 (c : Dev nD) (t : Fin cfg0.N) : FVec Ideal S1x1x512 .f32 := iblk m c 2 t

/-- There are 2 layers of 48 column tiles. -/
theorem lt_t (t : Fin cfg0.N) : t.val < 96 := t.isLt

/-- The layer of point `t`. -/
abbrev lay (t : Fin cfg0.N) : Fin 2 := ⟨t.val / 48, by have := lt_t t; omega⟩
/-- The column of lane `l` at point `t`. -/
abbrev col (t : Fin cfg0.N) (l : Fin 512) : Fin 24576 := ⟨512 * (t.val % 48) + l.val, by omega⟩

/-- The conditioning vectors a point is given are all of them. -/
theorem bk0_at (c : Dev nD) (t : Fin cfg0.N) (r : Fin 8) (k : Fin 4096) : bk0 m c t (ix2 r k) = A0 m c (ix2 r k) := by
  have ht := lt_t t
  unfold bk0 A0
  blk_ext [iblk, V, idx t]

/-- The weights a point is given. -/
theorem bk1_at (c : Dev nD) (t : Fin cfg0.N) (k : Fin 4096) (l : Fin 512) : bk1 m c t (ix3 0 k l) = A1 m c (ix3 (lay t) k (col t l)) := by
  have ht := lt_t t
  unfold bk1 A1
  blk_ext [iblk, V, idx t]

/-- The biases a point is given. -/
theorem bk2_at (c : Dev nD) (t : Fin cfg0.N) (l : Fin 512) : bk2 m c t (ix3 0 0 l) = A2 m c (ix2 (lay t) (col t l)) := by
  have ht := lt_t t
  have he : ((View.whole main_v0).slice (win0_2.rect t)).emb (ix3 0 0 l) = ix3 (lay t) (0 : Fin 1) (col t l) := by
    blk_ext [idx t]
  unfold bk2 A2 iblk
  rw [View.read, cast_eq]
  generalize hi : ((cfg0.win 2).blk t).view.emb (ix3 0 0 l) = i
  entry_read
  rw [← hi, show ((cfg0.win 2).blk t).view.emb (ix3 0 0 l) = ix3 (lay t) (0 : Fin 1) (col t l) from he]
  pointwise

/-- What a point stores, in the numbering of the whole array. -/
theorem out_val (c : Dev nD) (t : Fin cfg0.N) (r : Fin 8) (l : Fin 512) :
    k0_pay1 (F := Ideal) (bk0 m c t) (bk1 m c t) (bk2 m c t) (ix3 0 r l) = val (A0 m c) (A1 m c) (A2 m c) (lay t) r (col t l) := by
  rw [out_at, bk2_at]
  unfold val
  simp only [bk0_at, bk1_at]

/-- What the body stores at place `y` of its block at point `t` is the reference's result at the place of the array where
    `y` lies. -/
theorem point (c : Dev nD) (t : Fin cfg0.N) (y) : k0_pay1 (iblk m c 0 t) (iblk m c 1 t) (iblk m c 2 t) y
    = REF (A0 m c) (A1 m c) (A2 m c) (((cfg0.win 3).blk t).view.emb y) := by
  idx_vars y
  have ht := lt_t t
  obtain rfl : y0 = 0 := Subsingleton.elim _ _
  refine (out_val m c t _ _).trans ?_
  rw [show (((View.whole main_v1).slice ((win0 3).rect t)).emb (ix3 0 y1 y2)) = ix3 (lay t) y1 (col t y2) from by
    blk_ext [idx t], ref_val]

/-- The kernel's result array after the run is the reference's result on the kernel's arguments. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.KadaIdeal.Whole

end
-- ==== Proof.FinalNorm.lean ====
/-
  The final root-mean-square normalisation, in blocks of rows, against the whole array at once.
-/
module

public import proofs.«01_k».proof.Proof.Gen.KnormIdeal.Value
public import proofs.«01_k».proof.Proof.Gen.RnormIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KnormIdeal.Whole

open Cert.KnormIdeal Cert.KnormIdeal.Gen

variable (m : (ℓ : Loc nD τ sig) → Buf (Elt Ideal) ℓ)

/-- The reference's result as a function of its arguments. -/
abbrev REF (a0 : FVec Ideal S4x2048x4096 .f32) (a1 : FVec Ideal S4096 .f32) : FVec Ideal Cert.RnormIdeal.S4x2048x4096 .f32 :=
  mulf (mulf a0 (broadcastInDim Cert.RnormIdeal.S4x2048x4096 ![0, 1, 2] Cert.RnormIdeal.Gen.bcast_S4x2048x1_S4x2048x4096_0_1_2 (Host.rsqrt (addf (Host.divf (broadcastInDim Cert.RnormIdeal.S4x2048x1 ![0, 1] Cert.RnormIdeal.Gen.bcast_S4x2048_S4x2048x1_0_1 (Host.reduceAdd (mulf a0 a0) (constant Cert.RnormIdeal.S_ .f32 0x00000000#32) Cert.RnormIdeal.Gen.reducesTo_S4x2048x4096_S4x2048_d2 Cert.RnormIdeal.Gen.h_S_)) (broadcastInDim Cert.RnormIdeal.S4x2048x1 ![] Cert.RnormIdeal.Gen.bcast_S_S4x2048x1 (constant Cert.RnormIdeal.S_ .f32 0x45800000#32))) (broadcastInDim Cert.RnormIdeal.S4x2048x1 ![] Cert.RnormIdeal.Gen.bcast_S_S4x2048x1 (constant Cert.RnormIdeal.S_ .f32 0x358637BD#32)))))) (broadcastInDim Cert.RnormIdeal.S4x2048x4096 ![0, 1, 2] Cert.RnormIdeal.Gen.bcast_S1x1x4096_S4x2048x4096_0_1_2 (broadcastInDim Cert.RnormIdeal.S1x1x4096 ![2] Cert.RnormIdeal.Gen.bcast_S4096_S1x1x4096_2 a1))

/-- Which block of its array each window reads or writes at grid point `t`. -/
theorem idx : ∀ t : Fin cfg0.N, win0_0.index t = ![t.val / 8, t.val % 8, 0]
    ∧ win0_1.index t = ![0, 0]
    ∧ win0_2.index t = ![t.val / 8, t.val % 8, 0] :=
  (by decide +kernel : ∀ t : Fin grid0.N, _)

/-- What the body stores at place `y` of its block at point `t` is the reference's result at the place of the array where
    `y` lies. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The kernel's result array after the run is the reference's result on the kernel's arguments. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.KnormIdeal.Whole

end
-- ==== Proof.lean ====
/-
  The certificate: the claims about each call of the layer's kernel. The frames of the kernels are those of their launches; a
  reference's frame is its run read at its arguments; each `algebraic` claim sets the kernel's result array, found in the
  call's own module, beside the reference's run.
-/
module

public import proofs.«01_k».proof.Defs
public import proofs.«01_k».proof.Proof.Gen.Kmerge.Frame
public import proofs.«01_k».proof.Proof.Gen.Kin.Frame
public import proofs.«01_k».proof.Proof.Gen.Kdown.Frame
public import proofs.«01_k».proof.Proof.Gen.Kout.Frame
public import proofs.«01_k».proof.Proof.Gen.Kconv.Frame
public import proofs.«01_k».proof.Proof.Gen.Krank.Frame
public import proofs.«01_k».proof.Proof.Gen.Kmod.Frame
public import proofs.«01_k».proof.Proof.Gen.Kada.Frame
public import proofs.«01_k».proof.Proof.Gen.Knorm.Frame
public import proofs.«01_k».proof.Proof.Gen.Kmoba.Frame
public import proofs.«01_k».proof.Proof.Gen.KmobaIdeal.Frame
public import proofs.«01_k».proof.Proof.GlaClaim
public import proofs.«01_k».proof.Proof.GlaFrame
public import proofs.«01_k».proof.Proof.FfnUp
public import proofs.«01_k».proof.Proof.FfnFrame
public import proofs.«01_k».proof.Proof.Merge
public import proofs.«01_k».proof.Proof.InProj
public import proofs.«01_k».proof.Proof.FfnDown
public import proofs.«01_k».proof.Proof.OutProj
public import proofs.«01_k».proof.Proof.Conv
public import proofs.«01_k».proof.Proof.InProjRank
public import proofs.«01_k».proof.Proof.NormModulate
public import proofs.«01_k».proof.Proof.Ada
public import proofs.«01_k».proof.Proof.FinalNorm
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference of the token mixer ends with its arguments unchanged. -/
theorem frame_RglaIdeal : Cert.quiescent_RglaIdeal := fun m ρ _ =>
  (θ_run Cert.RglaIdeal.defs _ _).mono (fun r h => ⟨fun c => (h c).2, sem_eq_zero_of_no_sems (by decide) r.2⟩)
    (Cert.RglaIdeal.Value.run (F := Ideal) m ρ)

/-- The reference of the gated up projection ends with its arguments unchanged. -/
theorem frame_RffnIdeal : Cert.quiescent_RffnIdeal := fun m ρ _ =>
  (θ_run Cert.RffnIdeal.defs _ _).mono (fun r h => ⟨fun c => (h c).2, sem_eq_zero_of_no_sems (by decide) r.2⟩)
    (Cert.RffnIdeal.Value.run (F := Ideal) m ρ)

/-- The reference of the merge of the branches ends with its arguments unchanged. -/
theorem frame_RmergeIdeal : Cert.quiescent_RmergeIdeal := fun m ρ _ =>
  (θ_run Cert.RmergeIdeal.defs _ _).mono (fun r h => ⟨fun c => (h c).2, sem_eq_zero_of_no_sems (by decide) r.2⟩)
    (Cert.RmergeIdeal.Value.run (F := Ideal) m ρ)

/-- The kernel of the merge of the branches computes the reference's function over the extended reals. -/
theorem algebraic_merge : Cert.algebraic_KmergeIdeal_RmergeIdeal := by
  intro m ρ m' ρ' _ hag
  refine ⟨fun c => Cert.KmergeIdeal.Whole.REF (m ((c : Thread Cert.KmergeIdeal.nD Cert.KmergeIdeal.τ).loc Cert.KmergeIdeal.main_arg0)) (m ((c : Thread Cert.KmergeIdeal.nD Cert.KmergeIdeal.τ).loc Cert.KmergeIdeal.main_arg1)) (m ((c : Thread Cert.KmergeIdeal.nD Cert.KmergeIdeal.τ).loc Cert.KmergeIdeal.main_arg2)) (m ((c : Thread Cert.KmergeIdeal.nD Cert.KmergeIdeal.τ).loc Cert.KmergeIdeal.main_arg3)) (m ((c : Thread Cert.KmergeIdeal.nD Cert.KmergeIdeal.τ).loc Cert.KmergeIdeal.main_arg4)) (m ((c : Thread Cert.KmergeIdeal.nD Cert.KmergeIdeal.τ).loc Cert.KmergeIdeal.main_arg5)) (m ((c : Thread Cert.KmergeIdeal.nD Cert.KmergeIdeal.τ).loc Cert.KmergeIdeal.main_arg6)) (m ((c : Thread Cert.KmergeIdeal.nD Cert.KmergeIdeal.τ).loc Cert.KmergeIdeal.main_arg7)), ?_, ?_⟩
  · exact (θ_run Cert.KmergeIdeal.defs _ _).mono (fun _ h c => ⟨(h c).1.trans (Cert.KmergeIdeal.Whole.final m c), (h c).2⟩)
      (Cert.KmergeIdeal.Value.run_blocks (F := Ideal) m ρ)
  · refine (θ_run Cert.RmergeIdeal.defs _ _).mono (fun _ h c => ⟨(h c).1.trans ?_, (h c).2⟩)
      (Cert.RmergeIdeal.Value.run (F := Ideal) m' ρ')
    obtain ⟨h0, h1, h2, h3, h4, h5, h6, h7⟩ := hag c
    rw [h0, h1, h2, h3, h4, h5, h6, h7]

/-- The reference of the input projection ends with its arguments unchanged. -/
theorem frame_RinIdeal : Cert.quiescent_RinIdeal := fun m ρ _ =>
  (θ_run Cert.RinIdeal.defs _ _).mono (fun r h => ⟨fun c => (h c).2, sem_eq_zero_of_no_sems (by decide) r.2⟩)
    (Cert.RinIdeal.Value.run (F := Ideal) m ρ)

/-- The kernel of the input projection computes the reference's function over the extended reals. -/
theorem algebraic_in : Cert.algebraic_KinIdeal_RinIdeal := by
  intro m ρ m' ρ' _ hag
  refine ⟨fun c => Cert.KinIdeal.Whole.REF (m ((c : Thread Cert.KinIdeal.nD Cert.KinIdeal.τ).loc Cert.KinIdeal.main_arg0)) (m ((c : Thread Cert.KinIdeal.nD Cert.KinIdeal.τ).loc Cert.KinIdeal.main_arg1)), ?_, ?_⟩
  · exact (θ_run Cert.KinIdeal.defs _ _).mono (fun _ h c => ⟨(h c).1.trans (Cert.KinIdeal.Whole.final m c), (h c).2⟩)
      (Cert.KinIdeal.Value.run_blocks (F := Ideal) m ρ)
  · refine (θ_run Cert.RinIdeal.defs _ _).mono (fun _ h c => ⟨(h c).1.trans ?_, (h c).2⟩)
      (Cert.RinIdeal.Value.run (F := Ideal) m' ρ')
    obtain ⟨h0, h1⟩ := hag c
    rw [h0, h1]

/-- The reference of the down projection with its residual ends with its arguments unchanged. -/
theorem frame_RdownIdeal : Cert.quiescent_RdownIdeal := fun m ρ _ =>
  (θ_run Cert.RdownIdeal.defs _ _).mono (fun r h => ⟨fun c => (h c).2, sem_eq_zero_of_no_sems (by decide) r.2⟩)
    (Cert.RdownIdeal.Value.run (F := Ideal) m ρ)

/-- The kernel of the down projection with its residual computes the reference's function over the extended reals. -/
theorem algebraic_down : Cert.algebraic_KdownIdeal_RdownIdeal := by
  intro m ρ m' ρ' _ hag
  refine ⟨fun c => Cert.KdownIdeal.Whole.REF (m ((c : Thread Cert.KdownIdeal.nD Cert.KdownIdeal.τ).loc Cert.KdownIdeal.main_arg0)) (m ((c : Thread Cert.KdownIdeal.nD Cert.KdownIdeal.τ).loc Cert.KdownIdeal.main_arg1)) (m ((c : Thread Cert.KdownIdeal.nD Cert.KdownIdeal.τ).loc Cert.KdownIdeal.main_arg2)) (m ((c : Thread Cert.KdownIdeal.nD Cert.KdownIdeal.τ).loc Cert.KdownIdeal.main_arg3)), ?_, ?_⟩
  · exact (θ_run Cert.KdownIdeal.defs _ _).mono (fun _ h c => ⟨(h c).1.trans (Cert.KdownIdeal.Whole.final m c), (h c).2⟩)
      (Cert.KdownIdeal.Value.run_blocks (F := Ideal) m ρ)
  · refine (θ_run Cert.RdownIdeal.defs _ _).mono (fun _ h c => ⟨(h c).1.trans ?_, (h c).2⟩)
      (Cert.RdownIdeal.Value.run (F := Ideal) m' ρ')
    obtain ⟨h0, h1, h2, h3⟩ := hag c
    rw [h0, h1, h2, h3]

/-- The reference of the output projection with its residual ends with its arguments unchanged. -/
theorem frame_RoutIdeal : Cert.quiescent_RoutIdeal := fun m ρ _ =>
  (θ_run Cert.RoutIdeal.defs _ _).mono (fun r h => ⟨fun c => (h c).2, sem_eq_zero_of_no_sems (by decide) r.2⟩)
    (Cert.RoutIdeal.Value.run (F := Ideal) m ρ)

/-- The kernel of the output projection with its residual computes the reference's function over the extended reals. -/
theorem algebraic_out : Cert.algebraic_KoutIdeal_RoutIdeal := by
  intro m ρ m' ρ' _ hag
  refine ⟨fun c => Cert.KoutIdeal.Whole.REF (m ((c : Thread Cert.KoutIdeal.nD Cert.KoutIdeal.τ).loc Cert.KoutIdeal.main_arg0)) (m ((c : Thread Cert.KoutIdeal.nD Cert.KoutIdeal.τ).loc Cert.KoutIdeal.main_arg1)) (m ((c : Thread Cert.KoutIdeal.nD Cert.KoutIdeal.τ).loc Cert.KoutIdeal.main_arg2)) (m ((c : Thread Cert.KoutIdeal.nD Cert.KoutIdeal.τ).loc Cert.KoutIdeal.main_arg3)), ?_, ?_⟩
  · exact (θ_run Cert.KoutIdeal.defs _ _).mono (fun _ h c => ⟨(h c).1.trans (Cert.KoutIdeal.Whole.final m c), (h c).2⟩)
      (Cert.KoutIdeal.Value.run_blocks (F := Ideal) m ρ)
  · refine (θ_run Cert.RoutIdeal.defs _ _).mono (fun _ h c => ⟨(h c).1.trans ?_, (h c).2⟩)
      (Cert.RoutIdeal.Value.run (F := Ideal) m' ρ')
    obtain ⟨h0, h1, h2, h3⟩ := hag c
    rw [h0, h1, h2, h3]

/-- The reference of the gated convolution ends with its arguments unchanged. -/
theorem frame_RconvIdeal : Cert.quiescent_RconvIdeal := fun m ρ _ =>
  (θ_run Cert.RconvIdeal.defs _ _).mono (fun r h => ⟨fun c => (h c).2, sem_eq_zero_of_no_sems (by decide) r.2⟩)
    (Cert.RconvIdeal.Value.run (F := Ideal) m ρ)

/-- The kernel of the gated convolution computes the reference's function over the extended reals. -/
theorem algebraic_conv : Cert.algebraic_KconvIdeal_RconvIdeal := by
  intro m ρ m' ρ' _ hag
  refine ⟨fun c => Cert.KconvIdeal.Whole.REF (m ((c : Thread Cert.KconvIdeal.nD Cert.KconvIdeal.τ).loc Cert.KconvIdeal.main_arg0)) (m ((c : Thread Cert.KconvIdeal.nD Cert.KconvIdeal.τ).loc Cert.KconvIdeal.main_arg1)), ?_, ?_⟩
  · exact (θ_run Cert.KconvIdeal.defs _ _).mono (fun _ h c => ⟨(h c).1.trans (Cert.KconvIdeal.Whole.final m c), (h c).2⟩)
      (Cert.KconvIdeal.Value.run_blocks (F := Ideal) m ρ)
  · refine (θ_run Cert.RconvIdeal.defs _ _).mono (fun _ h c => ⟨(h c).1.trans ?_, (h c).2⟩)
      (Cert.RconvIdeal.Value.run (F := Ideal) m' ρ')
    obtain ⟨h0, h1⟩ := hag c
    rw [h0, h1]
    rfl

/-- The reference of the low-rank input projection ends with its arguments unchanged. -/
theorem frame_RrankIdeal : Cert.quiescent_RrankIdeal := fun m ρ _ =>
  (θ_run Cert.RrankIdeal.defs _ _).mono (fun r h => ⟨fun c => (h c).2, sem_eq_zero_of_no_sems (by decide) r.2⟩)
    (Cert.RrankIdeal.Value.run (F := Ideal) m ρ)

/-- The kernel of the low-rank input projection computes the reference's function over the extended reals. -/
theorem algebraic_rank : Cert.algebraic_KrankIdeal_RrankIdeal := by
  intro m ρ m' ρ' _ hag
  refine ⟨fun c => Cert.KrankIdeal.Whole.REF (m ((c : Thread Cert.KrankIdeal.nD Cert.KrankIdeal.τ).loc Cert.KrankIdeal.main_arg0)) (m ((c : Thread Cert.KrankIdeal.nD Cert.KrankIdeal.τ).loc Cert.KrankIdeal.main_arg1)), ?_, ?_⟩
  · exact (θ_run Cert.KrankIdeal.defs _ _).mono (fun _ h c => ⟨(h c).1.trans (Cert.KrankIdeal.Whole.final m c), (h c).2⟩)
      (Cert.KrankIdeal.Value.run_blocks (F := Ideal) m ρ)
  · refine (θ_run Cert.RrankIdeal.defs _ _).mono (fun _ h c => ⟨(h c).1.trans ?_, (h c).2⟩)
      (Cert.RrankIdeal.Value.run (F := Ideal) m' ρ')
    obtain ⟨h0, h1⟩ := hag c
    rw [h0, h1]
    rfl

/-- The reference of the modulated normalisation ends with its arguments unchanged. -/
theorem frame_RmodIdeal : Cert.quiescent_RmodIdeal := fun m ρ _ =>
  (θ_run Cert.RmodIdeal.defs _ _).mono (fun r h => ⟨fun c => (h c).2, sem_eq_zero_of_no_sems (by decide) r.2⟩)
    (Cert.RmodIdeal.Value.run (F := Ideal) m ρ)

/-- The kernel of the modulated normalisation computes the reference's function over the extended reals. -/
theorem algebraic_mod : Cert.algebraic_KmodIdeal_RmodIdeal := by
  intro m ρ m' ρ' _ hag
  refine ⟨fun c => Cert.KmodIdeal.Whole.REF (m ((c : Thread Cert.KmodIdeal.nD Cert.KmodIdeal.τ).loc Cert.KmodIdeal.main_arg0)) (m ((c : Thread Cert.KmodIdeal.nD Cert.KmodIdeal.τ).loc Cert.KmodIdeal.main_arg1)) (m ((c : Thread Cert.KmodIdeal.nD Cert.KmodIdeal.τ).loc Cert.KmodIdeal.main_arg2)) (m ((c : Thread Cert.KmodIdeal.nD Cert.KmodIdeal.τ).loc Cert.KmodIdeal.main_arg3)), ?_, ?_⟩
  · exact (θ_run Cert.KmodIdeal.defs _ _).mono (fun _ h c => ⟨(h c).1.trans (Cert.KmodIdeal.Whole.final m c), (h c).2⟩)
      (Cert.KmodIdeal.Value.run_blocks (F := Ideal) m ρ)
  · refine (θ_run Cert.RmodIdeal.defs _ _).mono (fun _ h c => ⟨(h c).1.trans ?_, (h c).2⟩)
      (Cert.RmodIdeal.Value.run (F := Ideal) m' ρ')
    obtain ⟨h0, h1, h2, h3⟩ := hag c
    rw [h0, h1, h2, h3]

/-- The reference of the modulation ends with its arguments unchanged. -/
theorem frame_RadaIdeal : Cert.quiescent_RadaIdeal := fun m ρ _ =>
  (θ_run Cert.RadaIdeal.defs _ _).mono (fun r h => ⟨fun c => (h c).2, sem_eq_zero_of_no_sems (by decide) r.2⟩)
    (Cert.RadaIdeal.Value.run (F := Ideal) m ρ)

/-- The kernel of the modulation computes the reference's function over the extended reals. -/
theorem algebraic_ada : Cert.algebraic_KadaIdeal_RadaIdeal := by
  intro m ρ m' ρ' _ hag
  refine ⟨fun c => Cert.KadaIdeal.Whole.REF (m ((c : Thread Cert.KadaIdeal.nD Cert.KadaIdeal.τ).loc Cert.KadaIdeal.main_arg0)) (m ((c : Thread Cert.KadaIdeal.nD Cert.KadaIdeal.τ).loc Cert.KadaIdeal.main_arg1)) (m ((c : Thread Cert.KadaIdeal.nD Cert.KadaIdeal.τ).loc Cert.KadaIdeal.main_arg2)), ?_, ?_⟩
  · exact (θ_run Cert.KadaIdeal.defs _ _).mono (fun _ h c => ⟨(h c).1.trans (Cert.KadaIdeal.Whole.final m c), (h c).2⟩)
      (Cert.KadaIdeal.Value.run_blocks (F := Ideal) m ρ)
  · refine (θ_run Cert.RadaIdeal.defs _ _).mono (fun _ h c => ⟨(h c).1.trans ?_, (h c).2⟩)
      (Cert.RadaIdeal.Value.run (F := Ideal) m' ρ')
    obtain ⟨h0, h1, h2⟩ := hag c
    rw [h0, h1, h2]
    rfl

/-- The reference of the final normalisation ends with its arguments unchanged. -/
theorem frame_RnormIdeal : Cert.quiescent_RnormIdeal := fun m ρ _ =>
  (θ_run Cert.RnormIdeal.defs _ _).mono (fun r h => ⟨fun c => (h c).2, sem_eq_zero_of_no_sems (by decide) r.2⟩)
    (Cert.RnormIdeal.Value.run (F := Ideal) m ρ)

/-- The kernel of the final normalisation computes the reference's function over the extended reals. -/
theorem algebraic_norm : Cert.algebraic_KnormIdeal_RnormIdeal := by
  intro m ρ m' ρ' _ hag
  refine ⟨fun c => Cert.KnormIdeal.Whole.REF (m ((c : Thread Cert.KnormIdeal.nD Cert.KnormIdeal.τ).loc Cert.KnormIdeal.main_arg0)) (m ((c : Thread Cert.KnormIdeal.nD Cert.KnormIdeal.τ).loc Cert.KnormIdeal.main_arg1)), ?_, ?_⟩
  · exact (θ_run Cert.KnormIdeal.defs _ _).mono (fun _ h c => ⟨(h c).1.trans (Cert.KnormIdeal.Whole.final m c), (h c).2⟩)
      (Cert.KnormIdeal.Value.run_blocks (F := Ideal) m ρ)
  · refine (θ_run Cert.RnormIdeal.defs _ _).mono (fun _ h c => ⟨(h c).1.trans ?_, (h c).2⟩)
      (Cert.RnormIdeal.Value.run (F := Ideal) m' ρ')
    obtain ⟨h0, h1⟩ := hag c
    rw [h0, h1]

theorem claim : Cert.Claim :=
  ⟨Cert.Kgla.Gen.facts,
    Cert.KglaIdeal.Gen.facts,
    Cert.RglaIdeal.Gen.facts,
    Cert.Kffn.Gen.facts,
    Cert.KffnIdeal.Gen.facts,
    Cert.RffnIdeal.Gen.facts,
    Cert.Kmerge.Gen.facts,
    Cert.KmergeIdeal.Gen.facts,
    Cert.RmergeIdeal.Gen.facts,
    Cert.Kin.Gen.facts,
    Cert.KinIdeal.Gen.facts,
    Cert.RinIdeal.Gen.facts,
    Cert.Kdown.Gen.facts,
    Cert.KdownIdeal.Gen.facts,
    Cert.RdownIdeal.Gen.facts,
    Cert.Kout.Gen.facts,
    Cert.KoutIdeal.Gen.facts,
    Cert.RoutIdeal.Gen.facts,
    Cert.Kmoba.Gen.facts,
    Cert.KmobaIdeal.Gen.facts,
    Cert.Kconv.Gen.facts,
    Cert.KconvIdeal.Gen.facts,
    Cert.RconvIdeal.Gen.facts,
    Cert.Krank.Gen.facts,
    Cert.KrankIdeal.Gen.facts,
    Cert.RrankIdeal.Gen.facts,
    Cert.Kmod.Gen.facts,
    Cert.KmodIdeal.Gen.facts,
    Cert.RmodIdeal.Gen.facts,
    Cert.Kada.Gen.facts,
    Cert.KadaIdeal.Gen.facts,
    Cert.RadaIdeal.Gen.facts,
    Cert.Knorm.Gen.facts,
    Cert.KnormIdeal.Gen.facts,
    Cert.RnormIdeal.Gen.facts,
    Cert.Pre_finite.Gen.facts,
    fun m ρ _ => Cert.Kgla.Mix.frame m ρ,
    fun m ρ _ => Cert.KglaIdeal.Mix.frame m ρ,
    fun m ρ _ => Cert.KglaIdeal.Mix.frame m ρ,
    frame_RglaIdeal,
    fun m ρ _ => frame_RglaIdeal m ρ trivial,
    fun m ρ _ => Cert.Kffn.Frame.frame m ρ,
    fun m ρ _ => Cert.KffnIdeal.Frame.frame m ρ,
    frame_RffnIdeal,
    fun m ρ _ => Cert.Kmerge.Gen.frame m ρ,
    fun m ρ _ => Cert.KmergeIdeal.Gen.frame m ρ,
    frame_RmergeIdeal,
    fun m ρ _ => Cert.Kin.Gen.frame m ρ,
    fun m ρ _ => Cert.KinIdeal.Gen.frame m ρ,
    frame_RinIdeal,
    fun m ρ _ => Cert.Kdown.Gen.frame m ρ,
    fun m ρ _ => Cert.KdownIdeal.Gen.frame m ρ,
    frame_RdownIdeal,
    fun m ρ _ => Cert.Kout.Gen.frame m ρ,
    fun m ρ _ => Cert.KoutIdeal.Gen.frame m ρ,
    frame_RoutIdeal,
    fun m ρ _ => Cert.Kmoba.Gen.frame m ρ,
    fun m ρ _ => Cert.KmobaIdeal.Gen.frame m ρ,
    fun m ρ _ => Cert.Kconv.Gen.frame m ρ,
    fun m ρ _ => Cert.KconvIdeal.Gen.frame m ρ,
    frame_RconvIdeal,
    fun m ρ _ => Cert.Krank.Gen.frame m ρ,
    fun m ρ _ => Cert.KrankIdeal.Gen.frame m ρ,
    frame_RrankIdeal,
    fun m ρ _ => Cert.Kmod.Gen.frame m ρ,
    fun m ρ _ => Cert.KmodIdeal.Gen.frame m ρ,
    frame_RmodIdeal,
    fun m ρ _ => Cert.Kada.Gen.frame m ρ,
    fun m ρ _ => Cert.KadaIdeal.Gen.frame m ρ,
    frame_RadaIdeal,
    fun m ρ _ => Cert.Knorm.Gen.frame m ρ,
    fun m ρ _ => Cert.KnormIdeal.Gen.frame m ρ,
    frame_RnormIdeal,
    trivial,
    Cert.KglaIdeal.Whole.algebraic,
    trivial,
    Cert.KffnIdeal.Whole.algebraic,
    trivial,
    algebraic_merge,
    trivial,
    algebraic_in,
    trivial,
    algebraic_down,
    trivial,
    algebraic_out,
    trivial,
    trivial,
    algebraic_conv,
    trivial,
    algebraic_rank,
    trivial,
    algebraic_mod,
    trivial,
    algebraic_ada,
    trivial,
    algebraic_norm⟩

end Cert.Proof

end
